-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x384x384 : Shape := ⟨4, ![8, 3, 384, 384]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S64x256x4x4 : Shape := ⟨4, ![64, 256, 4, 4]⟩
abbrev S64 : Shape := ⟨1, ![64]⟩
abbrev S3 : Shape := ⟨1, ![3]⟩
abbrev S1024x64 : Shape := ⟨2, ![1024, 64]⟩
abbrev S2x2 : Shape := ⟨2, ![2, 2]⟩
abbrev S8x384x384x3 : Shape := ⟨4, ![8, 384, 384, 3]⟩
abbrev S_ : Shape := ⟨0, ![]⟩
abbrev S8x386x386x3 : Shape := ⟨4, ![8, 386, 386, 3]⟩
abbrev S8x193x193x3 : Shape := ⟨4, ![8, 193, 193, 3]⟩
abbrev S8x193x193x12 : Shape := ⟨4, ![8, 193, 193, 12]⟩
abbrev S128x3x2x2x2x2 : Shape := ⟨6, ![128, 3, 2, 2, 2, 2]⟩
abbrev S2x2x2x2x3x128 : Shape := ⟨6, ![2, 2, 2, 2, 3, 128]⟩
abbrev S2x2x12x128 : Shape := ⟨4, ![2, 2, 12, 128]⟩
abbrev S1x128 : Shape := ⟨2, ![1, 128]⟩
abbrev S8x192x192x128 : Shape := ⟨4, ![8, 192, 192, 128]⟩
abbrev S1x17x193x12 : Shape := ⟨4, ![1, 17, 193, 12]⟩
abbrev S1x16x192x128 : Shape := ⟨4, ![1, 16, 192, 128]⟩
abbrev S17x193x12 : Shape := ⟨3, ![17, 193, 12]⟩
abbrev S3281x12 : Shape := ⟨2, ![3281, 12]⟩
abbrev S3087x12 : Shape := ⟨2, ![3087, 12]⟩
abbrev S1x1x12x128 : Shape := ⟨4, ![1, 1, 12, 128]⟩
abbrev S12x128 : Shape := ⟨2, ![12, 128]⟩
abbrev S3087x128 : Shape := ⟨2, ![3087, 128]⟩
abbrev S3088x128 : Shape := ⟨2, ![3088, 128]⟩
abbrev S16x193x128 : Shape := ⟨3, ![16, 193, 128]⟩
abbrev S16x192x128 : Shape := ⟨3, ![16, 192, 128]⟩
abbrev S8x194x194x128 : Shape := ⟨4, ![8, 194, 194, 128]⟩
abbrev S8x97x97x128 : Shape := ⟨4, ![8, 97, 97, 128]⟩
abbrev S8x97x97x512 : Shape := ⟨4, ![8, 97, 97, 512]⟩
abbrev S256x128x2x2x2x2 : Shape := ⟨6, ![256, 128, 2, 2, 2, 2]⟩
abbrev S2x2x2x2x128x256 : Shape := ⟨6, ![2, 2, 2, 2, 128, 256]⟩
abbrev S2x2x512x256 : Shape := ⟨4, ![2, 2, 512, 256]⟩
abbrev S1x256 : Shape := ⟨2, ![1, 256]⟩
abbrev S8x96x96x256 : Shape := ⟨4, ![8, 96, 96, 256]⟩
abbrev S1x9x97x512 : Shape := ⟨4, ![1, 9, 97, 512]⟩
abbrev S1x8x96x256 : Shape := ⟨4, ![1, 8, 96, 256]⟩
abbrev S9x97x512 : Shape := ⟨3, ![9, 97, 512]⟩
abbrev S873x512 : Shape := ⟨2, ![873, 512]⟩
abbrev S775x512 : Shape := ⟨2, ![775, 512]⟩
abbrev S1x1x512x256 : Shape := ⟨4, ![1, 1, 512, 256]⟩
abbrev S512x256 : Shape := ⟨2, ![512, 256]⟩
abbrev S775x256 : Shape := ⟨2, ![775, 256]⟩
abbrev S776x256 : Shape := ⟨2, ![776, 256]⟩
abbrev S8x97x256 : Shape := ⟨3, ![8, 97, 256]⟩
abbrev S8x96x256 : Shape := ⟨3, ![8, 96, 256]⟩
abbrev S8x98x98x256 : Shape := ⟨4, ![8, 98, 98, 256]⟩
abbrev S8x49x49x256 : Shape := ⟨4, ![8, 49, 49, 256]⟩
abbrev S8x49x49x1024 : Shape := ⟨4, ![8, 49, 49, 1024]⟩
abbrev S64x256x2x2x2x2 : Shape := ⟨6, ![64, 256, 2, 2, 2, 2]⟩
abbrev S2x2x2x2x256x64 : Shape := ⟨6, ![2, 2, 2, 2, 256, 64]⟩
abbrev S2x2x1024x64 : Shape := ⟨4, ![2, 2, 1024, 64]⟩
abbrev S1x64 : Shape := ⟨2, ![1, 64]⟩
abbrev S8x48x48x64 : Shape := ⟨4, ![8, 48, 48, 64]⟩
abbrev S1x9x49x1024 : Shape := ⟨4, ![1, 9, 49, 1024]⟩
abbrev S1x8x48x64 : Shape := ⟨4, ![1, 8, 48, 64]⟩
abbrev S9x49x1024 : Shape := ⟨3, ![9, 49, 1024]⟩
abbrev S441x1024 : Shape := ⟨2, ![441, 1024]⟩
abbrev S391x1024 : Shape := ⟨2, ![391, 1024]⟩
abbrev S1x1x1024x64 : Shape := ⟨4, ![1, 1, 1024, 64]⟩
abbrev S391x64 : Shape := ⟨2, ![391, 64]⟩
abbrev S392x64 : Shape := ⟨2, ![392, 64]⟩
abbrev S8x49x64 : Shape := ⟨3, ![8, 49, 64]⟩
abbrev S8x48x64 : Shape := ⟨3, ![8, 48, 64]⟩
abbrev S8x64x48x48 : Shape := ⟨4, ![8, 64, 48, 48]⟩
abbrev S18432x64 : Shape := ⟨2, ![18432, 64]⟩
abbrev S36x1x512 : Shape := ⟨3, ![36, 1, 512]⟩
abbrev S512x64 : Shape := ⟨2, ![512, 64]⟩
abbrev S1x1x512 : Shape := ⟨3, ![1, 1, 512]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S18432 : Shape := ⟨1, ![18432]⟩
abbrev S8x50x50x64 : Shape := ⟨4, ![8, 50, 50, 64]⟩
abbrev S2x2x1x1 : Shape := ⟨4, ![2, 2, 1, 1]⟩
abbrev S1x1x2x2 : Shape := ⟨4, ![1, 1, 2, 2]⟩
abbrev S2x2x2x2 : Shape := ⟨4, ![2, 2, 2, 2]⟩
abbrev S2x2x2x2x1 : Shape := ⟨5, ![2, 2, 2, 2, 1]⟩
abbrev S2x2x2x2x2 : Shape := ⟨5, ![2, 2, 2, 2, 2]⟩
abbrev S2x2x64x2x2x256 : Shape := ⟨6, ![2, 2, 64, 2, 2, 256]⟩
abbrev S2x2x64x1024 : Shape := ⟨4, ![2, 2, 64, 1024]⟩
abbrev S4x256 : Shape := ⟨2, ![4, 256]⟩
abbrev S1x10x50x64 : Shape := ⟨4, ![1, 10, 50, 64]⟩
abbrev S1x16x96x256 : Shape := ⟨4, ![1, 16, 96, 256]⟩
abbrev S10x50x64 : Shape := ⟨3, ![10, 50, 64]⟩
abbrev S500x64 : Shape := ⟨2, ![500, 64]⟩
abbrev S449x64 : Shape := ⟨2, ![449, 64]⟩
abbrev S1x1x64x1024 : Shape := ⟨4, ![1, 1, 64, 1024]⟩
abbrev S64x1024 : Shape := ⟨2, ![64, 1024]⟩
abbrev S449x1024 : Shape := ⟨2, ![449, 1024]⟩
abbrev S450x1024 : Shape := ⟨2, ![450, 1024]⟩
abbrev S9x50x2x2x256 : Shape := ⟨5, ![9, 50, 2, 2, 256]⟩
abbrev S8x48x1x1x256 : Shape := ⟨5, ![8, 48, 1, 1, 256]⟩
abbrev S8x48x256 : Shape := ⟨3, ![8, 48, 256]⟩
abbrev S8x48x1x256 : Shape := ⟨4, ![8, 48, 1, 256]⟩
abbrev S8x48x2x256 : Shape := ⟨4, ![8, 48, 2, 256]⟩
abbrev S8x1x96x256 : Shape := ⟨4, ![8, 1, 96, 256]⟩
abbrev S8x2x96x256 : Shape := ⟨4, ![8, 2, 96, 256]⟩
abbrev S16x96x256 : Shape := ⟨3, ![16, 96, 256]⟩
abbrev S2x2x256x2x2x128 : Shape := ⟨6, ![2, 2, 256, 2, 2, 128]⟩
abbrev S2x2x256x512 : Shape := ⟨4, ![2, 2, 256, 512]⟩
abbrev S4x128 : Shape := ⟨2, ![4, 128]⟩
abbrev S1x512 : Shape := ⟨2, ![1, 512]⟩
abbrev S1x10x98x256 : Shape := ⟨4, ![1, 10, 98, 256]⟩
abbrev S10x98x256 : Shape := ⟨3, ![10, 98, 256]⟩
abbrev S980x256 : Shape := ⟨2, ![980, 256]⟩
abbrev S881x256 : Shape := ⟨2, ![881, 256]⟩
abbrev S1x1x256x512 : Shape := ⟨4, ![1, 1, 256, 512]⟩
abbrev S256x512 : Shape := ⟨2, ![256, 512]⟩
abbrev S881x512 : Shape := ⟨2, ![881, 512]⟩
abbrev S882x512 : Shape := ⟨2, ![882, 512]⟩
abbrev S9x98x2x2x128 : Shape := ⟨5, ![9, 98, 2, 2, 128]⟩
abbrev S8x96x1x1x128 : Shape := ⟨5, ![8, 96, 1, 1, 128]⟩
abbrev S8x96x128 : Shape := ⟨3, ![8, 96, 128]⟩
abbrev S8x96x1x128 : Shape := ⟨4, ![8, 96, 1, 128]⟩
abbrev S8x96x2x128 : Shape := ⟨4, ![8, 96, 2, 128]⟩
abbrev S8x192x128 : Shape := ⟨3, ![8, 192, 128]⟩
abbrev S8x1x192x128 : Shape := ⟨4, ![8, 1, 192, 128]⟩
abbrev S8x2x192x128 : Shape := ⟨4, ![8, 2, 192, 128]⟩
abbrev S8x210x194x128 : Shape := ⟨4, ![8, 210, 194, 128]⟩
abbrev S2x2x128x2x2x3 : Shape := ⟨6, ![2, 2, 128, 2, 2, 3]⟩
abbrev S2x2x128x12 : Shape := ⟨4, ![2, 2, 128, 12]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S8x208x194x12 : Shape := ⟨4, ![8, 208, 194, 12]⟩
abbrev S1x17x194x128 : Shape := ⟨4, ![1, 17, 194, 128]⟩
abbrev S1x16x194x12 : Shape := ⟨4, ![1, 16, 194, 12]⟩
abbrev S17x194x128 : Shape := ⟨3, ![17, 194, 128]⟩
abbrev S3298x128 : Shape := ⟨2, ![3298, 128]⟩
abbrev S3103x128 : Shape := ⟨2, ![3103, 128]⟩
abbrev S1x1x128x12 : Shape := ⟨4, ![1, 1, 128, 12]⟩
abbrev S128x12 : Shape := ⟨2, ![128, 12]⟩
abbrev S3103x12 : Shape := ⟨2, ![3103, 12]⟩
abbrev S3104x12 : Shape := ⟨2, ![3104, 12]⟩
abbrev S16x194x12 : Shape := ⟨3, ![16, 194, 12]⟩
abbrev S8x208x194x2x2x3 : Shape := ⟨6, ![8, 208, 194, 2, 2, 3]⟩
abbrev S8x192x192x1x1x3 : Shape := ⟨6, ![8, 192, 192, 1, 1, 3]⟩
abbrev S8x192x192x3 : Shape := ⟨4, ![8, 192, 192, 3]⟩
abbrev S8x192x192x1x3 : Shape := ⟨5, ![8, 192, 192, 1, 3]⟩
abbrev S8x192x192x2x3 : Shape := ⟨5, ![8, 192, 192, 2, 3]⟩
abbrev S8x192x192x1x2x3 : Shape := ⟨6, ![8, 192, 192, 1, 2, 3]⟩
abbrev S8x192x192x2x2x3 : Shape := ⟨6, ![8, 192, 192, 2, 2, 3]⟩
abbrev S8x3x192x2x192x2 : Shape := ⟨6, ![8, 3, 192, 2, 192, 2]⟩

abbrev nBuf : Space → Nat
  | .hbm => 180
  | .vmem => 43
  | .smem => 0
  | _ => 0

abbrev hbmTy0_0 (i : Nat) : BufTy := match i % 128 with
  | 0 => ⟨S8x3x384x384, .f32⟩
  | 1 => ⟨S128x3x4x4, .f32⟩
  | 2 => ⟨S128, .f32⟩
  | 3 => ⟨S256x128x4x4, .f32⟩
  | 4 => ⟨S256, .f32⟩
  | 5 => ⟨S64x256x4x4, .f32⟩
  | 6 => ⟨S64, .f32⟩
  | 7 => ⟨S64x256x4x4, .f32⟩
  | 8 => ⟨S256, .f32⟩
  | 9 => ⟨S256x128x4x4, .f32⟩
  | 10 => ⟨S128, .f32⟩
  | 11 => ⟨S128x3x4x4, .f32⟩
  | 12 => ⟨S3, .f32⟩
  | 13 => ⟨S1024x64, .f32⟩
  | 14 => ⟨S2x2, .i32⟩
  | 15 => ⟨S2x2, .i32⟩
  | 16 => ⟨S2x2, .i32⟩
  | 17 => ⟨S8x384x384x3, .f32⟩
  | 18 => ⟨S_, .i32⟩
  | 19 => ⟨S_, .f32⟩
  | 20 => ⟨S8x386x386x3, .f32⟩
  | 21 => ⟨S8x193x193x3, .f32⟩
  | 22 => ⟨S8x193x193x3, .f32⟩
  | 23 => ⟨S8x193x193x3, .f32⟩
  | 24 => ⟨S8x193x193x3, .f32⟩
  | 25 => ⟨S8x193x193x12, .f32⟩
  | 26 => ⟨S128x3x2x2x2x2, .f32⟩
  | 27 => ⟨S2x2x2x2x3x128, .f32⟩
  | 28 => ⟨S2x2x12x128, .f32⟩
  | 29 => ⟨S1x128, .f32⟩
  | 30 => ⟨S8x192x192x128, .f32⟩
  | 31 => ⟨S_, .i32⟩
  | 32 => ⟨S_, .f32⟩
  | 33 => ⟨S8x194x194x128, .f32⟩
  | 34 => ⟨S8x97x97x128, .f32⟩
  | 35 => ⟨S8x97x97x128, .f32⟩
  | 36 => ⟨S8x97x97x128, .f32⟩
  | 37 => ⟨S8x97x97x128, .f32⟩
  | 38 => ⟨S8x97x97x512, .f32⟩
  | 39 => ⟨S256x128x2x2x2x2, .f32⟩
  | 40 => ⟨S2x2x2x2x128x256, .f32⟩
  | 41 => ⟨S2x2x512x256, .f32⟩
  | 42 => ⟨S1x256, .f32⟩
  | 43 => ⟨S8x96x96x256, .f32⟩
  | 44 => ⟨S_, .i32⟩
  | 45 => ⟨S_, .f32⟩
  | 46 => ⟨S8x98x98x256, .f32⟩
  | 47 => ⟨S8x49x49x256, .f32⟩
  | 48 => ⟨S8x49x49x256, .f32⟩
  | 49 => ⟨S8x49x49x256, .f32⟩
  | 50 => ⟨S8x49x49x256, .f32⟩
  | 51 => ⟨S8x49x49x1024, .f32⟩
  | 52 => ⟨S64x256x2x2x2x2, .f32⟩
  | 53 => ⟨S2x2x2x2x256x64, .f32⟩
  | 54 => ⟨S2x2x1024x64, .f32⟩
  | 55 => ⟨S1x64, .f32⟩
  | 56 => ⟨S8x48x48x64, .f32⟩
  | 57 => ⟨S8x64x48x48, .f32⟩
  | 58 => ⟨S18432x64, .f32⟩
  | 59 => ⟨S36x1x512, .i32⟩
  | 60 => ⟨S18432x64, .f32⟩
  | 61 => ⟨S18432, .i32⟩
  | 62 => ⟨S8x64x48x48, .f32⟩
  | 63 => ⟨S8x48x48x64, .f32⟩
  | 64 => ⟨S_, .i32⟩
  | 65 => ⟨S_, .f32⟩
  | 66 => ⟨S8x50x50x64, .f32⟩
  | 67 => ⟨S2x2x1x1, .i32⟩
  | 68 => ⟨S1x1x2x2, .i32⟩
  | 69 => ⟨S_, .i32⟩
  | 70 => ⟨S2x2x1x1, .i32⟩
  | 71 => ⟨S2x2x1x1, .i1⟩
  | 72 => ⟨S_, .i32⟩
  | 73 => ⟨S2x2x1x1, .i32⟩
  | 74 => ⟨S2x2x1x1, .i32⟩
  | 75 => ⟨S2x2x1x1, .i32⟩
  | 76 => ⟨S_, .i32⟩
  | 77 => ⟨S1x1x2x2, .i32⟩
  | 78 => ⟨S1x1x2x2, .i1⟩
  | 79 => ⟨S_, .i32⟩
  | 80 => ⟨S1x1x2x2, .i32⟩
  | 81 => ⟨S1x1x2x2, .i32⟩
  | 82 => ⟨S1x1x2x2, .i32⟩
  | 83 => ⟨S2x2x2x2, .i32⟩
  | 84 => ⟨S2x2x2x2, .i32⟩
  | 85 => ⟨S2x2x2x2x1, .i32⟩
  | 86 => ⟨S2x2x2x2x1, .i32⟩
  | 87 => ⟨S2x2x2x2x2, .i32⟩
  | 88 => ⟨S64x256x2x2x2x2, .f32⟩
  | 89 => ⟨S2x2x64x2x2x256, .f32⟩
  | 90 => ⟨S2x2x64x1024, .f32⟩
  | 91 => ⟨S1x256, .f32⟩
  | 92 => ⟨S4x256, .f32⟩
  | 93 => ⟨S1024, .f32⟩
  | 94 => ⟨S1x1024, .f32⟩
  | 95 => ⟨S8x96x96x256, .f32⟩
  | 96 => ⟨S_, .i32⟩
  | 97 => ⟨S_, .f32⟩
  | 98 => ⟨S8x98x98x256, .f32⟩
  | 99 => ⟨S2x2x1x1, .i32⟩
  | 100 => ⟨S1x1x2x2, .i32⟩
  | 101 => ⟨S_, .i32⟩
  | 102 => ⟨S2x2x1x1, .i32⟩
  | 103 => ⟨S2x2x1x1, .i1⟩
  | 104 => ⟨S_, .i32⟩
  | 105 => ⟨S2x2x1x1, .i32⟩
  | 106 => ⟨S2x2x1x1, .i32⟩
  | 107 => ⟨S2x2x1x1, .i32⟩
  | 108 => ⟨S_, .i32⟩
  | 109 => ⟨S1x1x2x2, .i32⟩
  | 110 => ⟨S1x1x2x2, .i1⟩
  | 111 => ⟨S_, .i32⟩
  | 112 => ⟨S1x1x2x2, .i32⟩
  | 113 => ⟨S1x1x2x2, .i32⟩
  | 114 => ⟨S1x1x2x2, .i32⟩
  | 115 => ⟨S2x2x2x2, .i32⟩
  | 116 => ⟨S2x2x2x2, .i32⟩
  | 117 => ⟨S2x2x2x2x1, .i32⟩
  | 118 => ⟨S2x2x2x2x1, .i32⟩
  | 119 => ⟨S2x2x2x2x2, .i32⟩
  | 120 => ⟨S256x128x2x2x2x2, .f32⟩
  | 121 => ⟨S2x2x256x2x2x128, .f32⟩
  | 122 => ⟨S2x2x256x512, .f32⟩
  | 123 => ⟨S1x128, .f32⟩
  | 124 => ⟨S4x128, .f32⟩
  | 125 => ⟨S512, .f32⟩
  | 126 => ⟨S1x512, .f32⟩
  | 127 => ⟨S8x192x192x128, .f32⟩
  | _ => ⟨S8x3x384x384, .f32⟩

abbrev hbmTy0_1 (i : Nat) : BufTy := match i % 128 with
  | 0 => ⟨S_, .i32⟩
  | 1 => ⟨S_, .f32⟩
  | 2 => ⟨S8x210x194x128, .f32⟩
  | 3 => ⟨S2x2x1x1, .i32⟩
  | 4 => ⟨S1x1x2x2, .i32⟩
  | 5 => ⟨S_, .i32⟩
  | 6 => ⟨S2x2x1x1, .i32⟩
  | 7 => ⟨S2x2x1x1, .i1⟩
  | 8 => ⟨S_, .i32⟩
  | 9 => ⟨S2x2x1x1, .i32⟩
  | 10 => ⟨S2x2x1x1, .i32⟩
  | 11 => ⟨S2x2x1x1, .i32⟩
  | 12 => ⟨S_, .i32⟩
  | 13 => ⟨S1x1x2x2, .i32⟩
  | 14 => ⟨S1x1x2x2, .i1⟩
  | 15 => ⟨S_, .i32⟩
  | 16 => ⟨S1x1x2x2, .i32⟩
  | 17 => ⟨S1x1x2x2, .i32⟩
  | 18 => ⟨S1x1x2x2, .i32⟩
  | 19 => ⟨S2x2x2x2, .i32⟩
  | 20 => ⟨S2x2x2x2, .i32⟩
  | 21 => ⟨S2x2x2x2x1, .i32⟩
  | 22 => ⟨S2x2x2x2x1, .i32⟩
  | 23 => ⟨S2x2x2x2x2, .i32⟩
  | 24 => ⟨S128x3x2x2x2x2, .f32⟩
  | 25 => ⟨S2x2x128x2x2x3, .f32⟩
  | 26 => ⟨S2x2x128x12, .f32⟩
  | 27 => ⟨S1x3, .f32⟩
  | 28 => ⟨S4x3, .f32⟩
  | 29 => ⟨S12, .f32⟩
  | 30 => ⟨S1x12, .f32⟩
  | 31 => ⟨S8x208x194x12, .f32⟩
  | 32 => ⟨S8x208x194x2x2x3, .f32⟩
  | 33 => ⟨S8x192x192x1x1x3, .f32⟩
  | 34 => ⟨S8x192x192x3, .f32⟩
  | 35 => ⟨S8x192x192x1x1x3, .f32⟩
  | 36 => ⟨S8x192x192x3, .f32⟩
  | 37 => ⟨S8x192x192x1x3, .f32⟩
  | 38 => ⟨S8x192x192x1x3, .f32⟩
  | 39 => ⟨S8x192x192x2x3, .f32⟩
  | 40 => ⟨S8x192x192x1x1x3, .f32⟩
  | 41 => ⟨S8x192x192x3, .f32⟩
  | 42 => ⟨S8x192x192x1x1x3, .f32⟩
  | 43 => ⟨S8x192x192x3, .f32⟩
  | 44 => ⟨S8x192x192x1x3, .f32⟩
  | 45 => ⟨S8x192x192x1x3, .f32⟩
  | 46 => ⟨S8x192x192x2x3, .f32⟩
  | 47 => ⟨S8x192x192x1x2x3, .f32⟩
  | 48 => ⟨S8x192x192x1x2x3, .f32⟩
  | 49 => ⟨S8x192x192x2x2x3, .f32⟩
  | 50 => ⟨S8x3x192x2x192x2, .f32⟩
  | 51 => ⟨S8x3x384x384, .f32⟩
  | _ => ⟨S8x3x384x384, .f32⟩

abbrev hbmTy (i : Nat) : BufTy := match i / 128 with
  | 0 => hbmTy0_0 i
  | 1 => hbmTy0_1 i
  | _ => ⟨S8x3x384x384, .f32⟩

abbrev bufTy : (tb : Table) → Fin (tcTables nBuf tb) → BufTy
  | .hbm, ⟨i, _⟩ => hbmTy i
  | .local _ .vmem, ⟨0, _⟩ => ⟨S1x17x193x12, .f32⟩
  | .local _ .vmem, ⟨1, _⟩ => ⟨S1x17x193x12, .f32⟩
  | .local _ .vmem, ⟨2, _⟩ => ⟨S2x2x12x128, .f32⟩
  | .local _ .vmem, ⟨3, _⟩ => ⟨S1x128, .f32⟩
  | .local _ .vmem, ⟨4, _⟩ => ⟨S1x16x192x128, .f32⟩
  | .local _ .vmem, ⟨5, _⟩ => ⟨S1x16x192x128, .f32⟩
  | .local _ .vmem, ⟨6, _⟩ => ⟨S1x9x97x512, .f32⟩
  | .local _ .vmem, ⟨7, _⟩ => ⟨S1x9x97x512, .f32⟩
  | .local _ .vmem, ⟨8, _⟩ => ⟨S2x2x512x256, .f32⟩
  | .local _ .vmem, ⟨9, _⟩ => ⟨S1x256, .f32⟩
  | .local _ .vmem, ⟨10, _⟩ => ⟨S1x8x96x256, .f32⟩
  | .local _ .vmem, ⟨11, _⟩ => ⟨S1x8x96x256, .f32⟩
  | .local _ .vmem, ⟨12, _⟩ => ⟨S1x9x49x1024, .f32⟩
  | .local _ .vmem, ⟨13, _⟩ => ⟨S1x9x49x1024, .f32⟩
  | .local _ .vmem, ⟨14, _⟩ => ⟨S2x2x1024x64, .f32⟩
  | .local _ .vmem, ⟨15, _⟩ => ⟨S1x64, .f32⟩
  | .local _ .vmem, ⟨16, _⟩ => ⟨S1x8x48x64, .f32⟩
  | .local _ .vmem, ⟨17, _⟩ => ⟨S1x8x48x64, .f32⟩
  | .local _ .vmem, ⟨18, _⟩ => ⟨S512x64, .f32⟩
  | .local _ .vmem, ⟨19, _⟩ => ⟨S512x64, .f32⟩
  | .local _ .vmem, ⟨20, _⟩ => ⟨S1024x64, .f32⟩
  | .local _ .vmem, ⟨21, _⟩ => ⟨S1x1x512, .i32⟩
  | .local _ .vmem, ⟨22, _⟩ => ⟨S1x1x512, .i32⟩
  | .local _ .vmem, ⟨23, _⟩ => ⟨S512x64, .f32⟩
  | .local _ .vmem, ⟨24, _⟩ => ⟨S512x64, .f32⟩
  | .local _ .vmem, ⟨25, _⟩ => ⟨S1x10x50x64, .f32⟩
  | .local _ .vmem, ⟨26, _⟩ => ⟨S1x10x50x64, .f32⟩
  | .local _ .vmem, ⟨27, _⟩ => ⟨S2x2x64x1024, .f32⟩
  | .local _ .vmem, ⟨28, _⟩ => ⟨S1x1024, .f32⟩
  | .local _ .vmem, ⟨29, _⟩ => ⟨S1x16x96x256, .f32⟩
  | .local _ .vmem, ⟨30, _⟩ => ⟨S1x16x96x256, .f32⟩
  | .local _ .vmem, ⟨31, _⟩ => ⟨S1x10x98x256, .f32⟩
  | .local _ .vmem, ⟨32, _⟩ => ⟨S1x10x98x256, .f32⟩
  | .local _ .vmem, ⟨33, _⟩ => ⟨S2x2x256x512, .f32⟩
  | .local _ .vmem, ⟨34, _⟩ => ⟨S1x512, .f32⟩
  | .local _ .vmem, ⟨35, _⟩ => ⟨S1x16x192x128, .f32⟩
  | .local _ .vmem, ⟨36, _⟩ => ⟨S1x16x192x128, .f32⟩
  | .local _ .vmem, ⟨37, _⟩ => ⟨S1x17x194x128, .f32⟩
  | .local _ .vmem, ⟨38, _⟩ => ⟨S1x17x194x128, .f32⟩
  | .local _ .vmem, ⟨39, _⟩ => ⟨S2x2x128x12, .f32⟩
  | .local _ .vmem, ⟨40, _⟩ => ⟨S1x12, .f32⟩
  | .local _ .vmem, ⟨41, _⟩ => ⟨S1x16x194x12, .f32⟩
  | .local _ .vmem, ⟨42, _⟩ => ⟨S1x16x194x12, .f32⟩
  | _, _ => ⟨S8x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_v0 : Ref sig .tc := ⟨.hbm, 17, rfl⟩
abbrev main_c_2 : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_call1_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_call3_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_6 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_10 : Ref sig .tc := ⟨.hbm, 96, rfl⟩
abbrev main_call4_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_11 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_15 : Ref sig .tc := ⟨.hbm, 128, rfl⟩
abbrev main_call5_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_16 : Ref sig .tc := ⟨.hbm, 133, rfl⟩
abbrev main_v95 : Ref sig .tc := ⟨.hbm, 134, rfl⟩
abbrev main_v96 : Ref sig .tc := ⟨.hbm, 135, rfl⟩
abbrev main_c_17 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_18 : Ref sig .tc := ⟨.hbm, 140, rfl⟩
abbrev main_v100 : Ref sig .tc := ⟨.hbm, 141, rfl⟩
abbrev main_v101 : Ref sig .tc := ⟨.hbm, 142, rfl⟩
abbrev main_c_19 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x17x193x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 12], ![false, false]⟩

def cc1_transform_0 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let c0_i32_0 : BitVec 32 := 0#32
  let c0_i32_1 : BitVec 32 := 0#32
  ![arg0.toNat, v0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x9x97x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x2x512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x96x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 6], ![false, false]⟩

def cc2_transform_0 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let c0_i32_0 : BitVec 32 := 0#32
  let c0_i32_1 : BitVec 32 := 0#32
  ![arg0.toNat, v0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x9x49x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x2x1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x8x48x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![36], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x512 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 6], ![false, false]⟩

def cc4_transform_0 (i : grid4.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let c0_i32_0 : BitVec 32 := 0#32
  let c0_i32_1 : BitVec 32 := 0#32
  ![arg0.toNat, v0.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x10x50x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S2x2x64x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x16x96x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 12], ![false, false]⟩

def cc5_transform_0 (i : grid5.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let c0_i32_0 : BitVec 32 := 0#32
  let c0_i32_1 : BitVec 32 := 0#32
  ![arg0.toNat, v0.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x10x98x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S2x2x256x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x16x192x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![8, 13], ![false, false]⟩

def cc6_transform_0 (i : grid6.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let c0_i32_0 : BitVec 32 := 0#32
  let c0_i32_1 : BitVec 32 := 0#32
  ![arg0.toNat, v0.toNat, c0_i32.toNat, c0_i32_0.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x17x194x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S2x2x128x12 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x12 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x16x194x12 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]
-- ==== ReferenceIdeal.lean ====
abbrev S8x3x384x384 : Shape := ⟨4, ![8, 3, 384, 384]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S64x256x4x4 : Shape := ⟨4, ![64, 256, 4, 4]⟩
abbrev S64 : Shape := ⟨1, ![64]⟩
abbrev S3 : Shape := ⟨1, ![3]⟩
abbrev S1024x64 : Shape := ⟨2, ![1024, 64]⟩
abbrev S_ : Shape := ⟨0, ![]⟩
abbrev S8x3x386x386 : Shape := ⟨4, ![8, 3, 386, 386]⟩
abbrev S192 : Shape := ⟨1, ![192]⟩
abbrev S192x1 : Shape := ⟨2, ![192, 1]⟩
abbrev S4 : Shape := ⟨1, ![4]⟩
abbrev S1x4 : Shape := ⟨2, ![1, 4]⟩
abbrev S192x4 : Shape := ⟨2, ![192, 4]⟩
abbrev S192x4x1 : Shape := ⟨3, ![192, 4, 1]⟩
abbrev S8x3x192x4x386 : Shape := ⟨5, ![8, 3, 192, 4, 386]⟩
abbrev S8x3x192x4x192x4 : Shape := ⟨6, ![8, 3, 192, 4, 192, 4]⟩
abbrev S128x8x192x192 : Shape := ⟨4, ![128, 8, 192, 192]⟩
abbrev S8x128x192x192 : Shape := ⟨4, ![8, 128, 192, 192]⟩
abbrev S1x128x1x1 : Shape := ⟨4, ![1, 128, 1, 1]⟩
abbrev S8x128x194x194 : Shape := ⟨4, ![8, 128, 194, 194]⟩
abbrev S96 : Shape := ⟨1, ![96]⟩
abbrev S96x1 : Shape := ⟨2, ![96, 1]⟩
abbrev S96x4 : Shape := ⟨2, ![96, 4]⟩
abbrev S96x4x1 : Shape := ⟨3, ![96, 4, 1]⟩
abbrev S8x128x96x4x194 : Shape := ⟨5, ![8, 128, 96, 4, 194]⟩
abbrev S8x128x96x4x96x4 : Shape := ⟨6, ![8, 128, 96, 4, 96, 4]⟩
abbrev S256x8x96x96 : Shape := ⟨4, ![256, 8, 96, 96]⟩
abbrev S8x256x96x96 : Shape := ⟨4, ![8, 256, 96, 96]⟩
abbrev S1x256x1x1 : Shape := ⟨4, ![1, 256, 1, 1]⟩
abbrev S8x256x98x98 : Shape := ⟨4, ![8, 256, 98, 98]⟩
abbrev S48 : Shape := ⟨1, ![48]⟩
abbrev S48x1 : Shape := ⟨2, ![48, 1]⟩
abbrev S48x4 : Shape := ⟨2, ![48, 4]⟩
abbrev S48x4x1 : Shape := ⟨3, ![48, 4, 1]⟩
abbrev S8x256x48x4x98 : Shape := ⟨5, ![8, 256, 48, 4, 98]⟩
abbrev S8x256x48x4x48x4 : Shape := ⟨6, ![8, 256, 48, 4, 48, 4]⟩
abbrev S64x8x48x48 : Shape := ⟨4, ![64, 8, 48, 48]⟩
abbrev S8x64x48x48 : Shape := ⟨4, ![8, 64, 48, 48]⟩
abbrev S1x64x1x1 : Shape := ⟨4, ![1, 64, 1, 1]⟩
abbrev S18432x64 : Shape := ⟨2, ![18432, 64]⟩
abbrev S18432 : Shape := ⟨1, ![18432]⟩
abbrev S18432x1 : Shape := ⟨2, ![18432, 1]⟩
abbrev S1024 : Shape := ⟨1, ![1024]⟩
abbrev S1x1024 : Shape := ⟨2, ![1, 1024]⟩
abbrev S18432x1024 : Shape := ⟨2, ![18432, 1024]⟩
abbrev S64x1024 : Shape := ⟨2, ![64, 1024]⟩
abbrev S256x64x4x4 : Shape := ⟨4, ![256, 64, 4, 4]⟩
abbrev S8x64x99x99 : Shape := ⟨4, ![8, 64, 99, 99]⟩
abbrev S8x64x96x4x99 : Shape := ⟨5, ![8, 64, 96, 4, 99]⟩
abbrev S8x64x96x4x96x4 : Shape := ⟨6, ![8, 64, 96, 4, 96, 4]⟩
abbrev S128x256x4x4 : Shape := ⟨4, ![128, 256, 4, 4]⟩
abbrev S8x256x195x195 : Shape := ⟨4, ![8, 256, 195, 195]⟩
abbrev S8x256x192x4x195 : Shape := ⟨5, ![8, 256, 192, 4, 195]⟩
abbrev S8x256x192x4x192x4 : Shape := ⟨6, ![8, 256, 192, 4, 192, 4]⟩
abbrev S3x128x4x4 : Shape := ⟨4, ![3, 128, 4, 4]⟩
abbrev S8x128x387x387 : Shape := ⟨4, ![8, 128, 387, 387]⟩
abbrev S384 : Shape := ⟨1, ![384]⟩
abbrev S384x1 : Shape := ⟨2, ![384, 1]⟩
abbrev S384x4 : Shape := ⟨2, ![384, 4]⟩
abbrev S384x4x1 : Shape := ⟨3, ![384, 4, 1]⟩
abbrev S8x128x384x4x387 : Shape := ⟨5, ![8, 128, 384, 4, 387]⟩
abbrev S8x128x384x4x384x4 : Shape := ⟨6, ![8, 128, 384, 4, 384, 4]⟩
abbrev S3x8x384x384 : Shape := ⟨4, ![3, 8, 384, 384]⟩
abbrev S1x3x1x1 : Shape := ⟨4, ![1, 3, 1, 1]⟩

abbrev nBuf : Space → Nat
  | .hbm => 251
  | .vmem => 0
  | .smem => 0
  | _ => 0

abbrev hbmTy0_0 (i : Nat) : BufTy := match i % 128 with
  | 0 => ⟨S8x3x384x384, .f32⟩
  | 1 => ⟨S128x3x4x4, .f32⟩
  | 2 => ⟨S128, .f32⟩
  | 3 => ⟨S256x128x4x4, .f32⟩
  | 4 => ⟨S256, .f32⟩
  | 5 => ⟨S64x256x4x4, .f32⟩
  | 6 => ⟨S64, .f32⟩
  | 7 => ⟨S64x256x4x4, .f32⟩
  | 8 => ⟨S256, .f32⟩
  | 9 => ⟨S256x128x4x4, .f32⟩
  | 10 => ⟨S128, .f32⟩
  | 11 => ⟨S128x3x4x4, .f32⟩
  | 12 => ⟨S3, .f32⟩
  | 13 => ⟨S1024x64, .f32⟩
  | 14 => ⟨S_, .i32⟩
  | 15 => ⟨S_, .f32⟩
  | 16 => ⟨S8x3x386x386, .f32⟩
  | 17 => ⟨S192, .i32⟩
  | 18 => ⟨S192x1, .i32⟩
  | 19 => ⟨S_, .i32⟩
  | 20 => ⟨S192x1, .i32⟩
  | 21 => ⟨S192x1, .i32⟩
  | 22 => ⟨S4, .i32⟩
  | 23 => ⟨S1x4, .i32⟩
  | 24 => ⟨S192x4, .i32⟩
  | 25 => ⟨S192x4, .i32⟩
  | 26 => ⟨S192x4, .i32⟩
  | 27 => ⟨S192x4x1, .i32⟩
  | 28 => ⟨S8x3x192x4x386, .f32⟩
  | 29 => ⟨S192, .i32⟩
  | 30 => ⟨S192x1, .i32⟩
  | 31 => ⟨S_, .i32⟩
  | 32 => ⟨S192x1, .i32⟩
  | 33 => ⟨S192x1, .i32⟩
  | 34 => ⟨S4, .i32⟩
  | 35 => ⟨S1x4, .i32⟩
  | 36 => ⟨S192x4, .i32⟩
  | 37 => ⟨S192x4, .i32⟩
  | 38 => ⟨S192x4, .i32⟩
  | 39 => ⟨S192x4x1, .i32⟩
  | 40 => ⟨S8x3x192x4x192x4, .f32⟩
  | 41 => ⟨S128x8x192x192, .f32⟩
  | 42 => ⟨S8x128x192x192, .f32⟩
  | 43 => ⟨S1x128x1x1, .f32⟩
  | 44 => ⟨S8x128x192x192, .f32⟩
  | 45 => ⟨S8x128x192x192, .f32⟩
  | 46 => ⟨S_, .f32⟩
  | 47 => ⟨S8x128x192x192, .f32⟩
  | 48 => ⟨S8x128x192x192, .f32⟩
  | 49 => ⟨S_, .i32⟩
  | 50 => ⟨S_, .f32⟩
  | 51 => ⟨S8x128x194x194, .f32⟩
  | 52 => ⟨S96, .i32⟩
  | 53 => ⟨S96x1, .i32⟩
  | 54 => ⟨S_, .i32⟩
  | 55 => ⟨S96x1, .i32⟩
  | 56 => ⟨S96x1, .i32⟩
  | 57 => ⟨S4, .i32⟩
  | 58 => ⟨S1x4, .i32⟩
  | 59 => ⟨S96x4, .i32⟩
  | 60 => ⟨S96x4, .i32⟩
  | 61 => ⟨S96x4, .i32⟩
  | 62 => ⟨S96x4x1, .i32⟩
  | 63 => ⟨S8x128x96x4x194, .f32⟩
  | 64 => ⟨S96, .i32⟩
  | 65 => ⟨S96x1, .i32⟩
  | 66 => ⟨S_, .i32⟩
  | 67 => ⟨S96x1, .i32⟩
  | 68 => ⟨S96x1, .i32⟩
  | 69 => ⟨S4, .i32⟩
  | 70 => ⟨S1x4, .i32⟩
  | 71 => ⟨S96x4, .i32⟩
  | 72 => ⟨S96x4, .i32⟩
  | 73 => ⟨S96x4, .i32⟩
  | 74 => ⟨S96x4x1, .i32⟩
  | 75 => ⟨S8x128x96x4x96x4, .f32⟩
  | 76 => ⟨S256x8x96x96, .f32⟩
  | 77 => ⟨S8x256x96x96, .f32⟩
  | 78 => ⟨S1x256x1x1, .f32⟩
  | 79 => ⟨S8x256x96x96, .f32⟩
  | 80 => ⟨S8x256x96x96, .f32⟩
  | 81 => ⟨S_, .f32⟩
  | 82 => ⟨S8x256x96x96, .f32⟩
  | 83 => ⟨S8x256x96x96, .f32⟩
  | 84 => ⟨S_, .i32⟩
  | 85 => ⟨S_, .f32⟩
  | 86 => ⟨S8x256x98x98, .f32⟩
  | 87 => ⟨S48, .i32⟩
  | 88 => ⟨S48x1, .i32⟩
  | 89 => ⟨S_, .i32⟩
  | 90 => ⟨S48x1, .i32⟩
  | 91 => ⟨S48x1, .i32⟩
  | 92 => ⟨S4, .i32⟩
  | 93 => ⟨S1x4, .i32⟩
  | 94 => ⟨S48x4, .i32⟩
  | 95 => ⟨S48x4, .i32⟩
  | 96 => ⟨S48x4, .i32⟩
  | 97 => ⟨S48x4x1, .i32⟩
  | 98 => ⟨S8x256x48x4x98, .f32⟩
  | 99 => ⟨S48, .i32⟩
  | 100 => ⟨S48x1, .i32⟩
  | 101 => ⟨S_, .i32⟩
  | 102 => ⟨S48x1, .i32⟩
  | 103 => ⟨S48x1, .i32⟩
  | 104 => ⟨S4, .i32⟩
  | 105 => ⟨S1x4, .i32⟩
  | 106 => ⟨S48x4, .i32⟩
  | 107 => ⟨S48x4, .i32⟩
  | 108 => ⟨S48x4, .i32⟩
  | 109 => ⟨S48x4x1, .i32⟩
  | 110 => ⟨S8x256x48x4x48x4, .f32⟩
  | 111 => ⟨S64x8x48x48, .f32⟩
  | 112 => ⟨S8x64x48x48, .f32⟩
  | 113 => ⟨S1x64x1x1, .f32⟩
  | 114 => ⟨S8x64x48x48, .f32⟩
  | 115 => ⟨S8x64x48x48, .f32⟩
  | 116 => ⟨S18432x64, .f32⟩
  | 117 => ⟨S18432x64, .f32⟩
  | 118 => ⟨S_, .f32⟩
  | 119 => ⟨S18432, .f32⟩
  | 120 => ⟨S18432x1, .f32⟩
  | 121 => ⟨S1024x64, .f32⟩
  | 122 => ⟨S_, .f32⟩
  | 123 => ⟨S1024, .f32⟩
  | 124 => ⟨S1x1024, .f32⟩
  | 125 => ⟨S18432x1024, .f32⟩
  | 126 => ⟨S18432x1024, .f32⟩
  | 127 => ⟨S18432x1024, .f32⟩
  | _ => ⟨S8x3x384x384, .f32⟩

abbrev hbmTy0_1 (i : Nat) : BufTy := match i % 128 with
  | 0 => ⟨S_, .f32⟩
  | 1 => ⟨S18432x64, .f32⟩
  | 2 => ⟨S18432x64, .f32⟩
  | 3 => ⟨S64x1024, .f32⟩
  | 4 => ⟨S18432x1024, .f32⟩
  | 5 => ⟨S18432x1024, .f32⟩
  | 6 => ⟨S_, .f32⟩
  | 7 => ⟨S18432x1024, .f32⟩
  | 8 => ⟨S18432x1024, .f32⟩
  | 9 => ⟨S18432x1024, .f32⟩
  | 10 => ⟨S18432x1024, .i32⟩
  | 11 => ⟨S_, .f32⟩
  | 12 => ⟨S_, .i32⟩
  | 13 => ⟨S18432, .f32⟩
  | 14 => ⟨S18432, .i32⟩
  | 15 => ⟨S18432x1, .i32⟩
  | 16 => ⟨S18432x64, .f32⟩
  | 17 => ⟨S8x64x48x48, .f32⟩
  | 18 => ⟨S64x256x4x4, .f32⟩
  | 19 => ⟨S256x64x4x4, .f32⟩
  | 20 => ⟨S_, .f32⟩
  | 21 => ⟨S8x64x99x99, .f32⟩
  | 22 => ⟨S96, .i32⟩
  | 23 => ⟨S96x1, .i32⟩
  | 24 => ⟨S_, .i32⟩
  | 25 => ⟨S96x1, .i32⟩
  | 26 => ⟨S96x1, .i32⟩
  | 27 => ⟨S4, .i32⟩
  | 28 => ⟨S1x4, .i32⟩
  | 29 => ⟨S96x4, .i32⟩
  | 30 => ⟨S96x4, .i32⟩
  | 31 => ⟨S96x4, .i32⟩
  | 32 => ⟨S96x4x1, .i32⟩
  | 33 => ⟨S8x64x96x4x99, .f32⟩
  | 34 => ⟨S96, .i32⟩
  | 35 => ⟨S96x1, .i32⟩
  | 36 => ⟨S_, .i32⟩
  | 37 => ⟨S96x1, .i32⟩
  | 38 => ⟨S96x1, .i32⟩
  | 39 => ⟨S4, .i32⟩
  | 40 => ⟨S1x4, .i32⟩
  | 41 => ⟨S96x4, .i32⟩
  | 42 => ⟨S96x4, .i32⟩
  | 43 => ⟨S96x4, .i32⟩
  | 44 => ⟨S96x4x1, .i32⟩
  | 45 => ⟨S8x64x96x4x96x4, .f32⟩
  | 46 => ⟨S256x8x96x96, .f32⟩
  | 47 => ⟨S8x256x96x96, .f32⟩
  | 48 => ⟨S1x256x1x1, .f32⟩
  | 49 => ⟨S8x256x96x96, .f32⟩
  | 50 => ⟨S8x256x96x96, .f32⟩
  | 51 => ⟨S_, .f32⟩
  | 52 => ⟨S8x256x96x96, .f32⟩
  | 53 => ⟨S8x256x96x96, .f32⟩
  | 54 => ⟨S256x128x4x4, .f32⟩
  | 55 => ⟨S128x256x4x4, .f32⟩
  | 56 => ⟨S_, .f32⟩
  | 57 => ⟨S8x256x195x195, .f32⟩
  | 58 => ⟨S192, .i32⟩
  | 59 => ⟨S192x1, .i32⟩
  | 60 => ⟨S_, .i32⟩
  | 61 => ⟨S192x1, .i32⟩
  | 62 => ⟨S192x1, .i32⟩
  | 63 => ⟨S4, .i32⟩
  | 64 => ⟨S1x4, .i32⟩
  | 65 => ⟨S192x4, .i32⟩
  | 66 => ⟨S192x4, .i32⟩
  | 67 => ⟨S192x4, .i32⟩
  | 68 => ⟨S192x4x1, .i32⟩
  | 69 => ⟨S8x256x192x4x195, .f32⟩
  | 70 => ⟨S192, .i32⟩
  | 71 => ⟨S192x1, .i32⟩
  | 72 => ⟨S_, .i32⟩
  | 73 => ⟨S192x1, .i32⟩
  | 74 => ⟨S192x1, .i32⟩
  | 75 => ⟨S4, .i32⟩
  | 76 => ⟨S1x4, .i32⟩
  | 77 => ⟨S192x4, .i32⟩
  | 78 => ⟨S192x4, .i32⟩
  | 79 => ⟨S192x4, .i32⟩
  | 80 => ⟨S192x4x1, .i32⟩
  | 81 => ⟨S8x256x192x4x192x4, .f32⟩
  | 82 => ⟨S128x8x192x192, .f32⟩
  | 83 => ⟨S8x128x192x192, .f32⟩
  | 84 => ⟨S1x128x1x1, .f32⟩
  | 85 => ⟨S8x128x192x192, .f32⟩
  | 86 => ⟨S8x128x192x192, .f32⟩
  | 87 => ⟨S_, .f32⟩
  | 88 => ⟨S8x128x192x192, .f32⟩
  | 89 => ⟨S8x128x192x192, .f32⟩
  | 90 => ⟨S128x3x4x4, .f32⟩
  | 91 => ⟨S3x128x4x4, .f32⟩
  | 92 => ⟨S_, .f32⟩
  | 93 => ⟨S8x128x387x387, .f32⟩
  | 94 => ⟨S384, .i32⟩
  | 95 => ⟨S384x1, .i32⟩
  | 96 => ⟨S_, .i32⟩
  | 97 => ⟨S384x1, .i32⟩
  | 98 => ⟨S384x1, .i32⟩
  | 99 => ⟨S4, .i32⟩
  | 100 => ⟨S1x4, .i32⟩
  | 101 => ⟨S384x4, .i32⟩
  | 102 => ⟨S384x4, .i32⟩
  | 103 => ⟨S384x4, .i32⟩
  | 104 => ⟨S384x4x1, .i32⟩
  | 105 => ⟨S8x128x384x4x387, .f32⟩
  | 106 => ⟨S384, .i32⟩
  | 107 => ⟨S384x1, .i32⟩
  | 108 => ⟨S_, .i32⟩
  | 109 => ⟨S384x1, .i32⟩
  | 110 => ⟨S384x1, .i32⟩
  | 111 => ⟨S4, .i32⟩
  | 112 => ⟨S1x4, .i32⟩
  | 113 => ⟨S384x4, .i32⟩
  | 114 => ⟨S384x4, .i32⟩
  | 115 => ⟨S384x4, .i32⟩
  | 116 => ⟨S384x4x1, .i32⟩
  | 117 => ⟨S8x128x384x4x384x4, .f32⟩
  | 118 => ⟨S3x8x384x384, .f32⟩
  | 119 => ⟨S8x3x384x384, .f32⟩
  | 120 => ⟨S1x3x1x1, .f32⟩
  | 121 => ⟨S8x3x384x384, .f32⟩
  | 122 => ⟨S8x3x384x384, .f32⟩
  | _ => ⟨S8x3x384x384, .f32⟩

abbrev hbmTy (i : Nat) : BufTy := match i / 128 with
  | 0 => hbmTy0_0 i
  | 1 => hbmTy0_1 i
  | _ => ⟨S8x3x384x384, .f32⟩

abbrev bufTy : (tb : Table) → Fin (tcTables nBuf tb) → BufTy
  | .hbm, ⟨i, _⟩ => hbmTy i
  | _, _ => ⟨S8x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call3_cst : Ref sig .tc := ⟨.hbm, 46, rfl⟩
abbrev main_call3_v0 : Ref sig .tc := ⟨.hbm, 47, rfl⟩
abbrev main_v26 : Ref sig .tc := ⟨.hbm, 48, rfl⟩
abbrev main_c_2 : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call5_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call6_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call7_cst : Ref sig .tc := ⟨.hbm, 81, rfl⟩
abbrev main_call7_v0 : Ref sig .tc := ⟨.hbm, 82, rfl⟩
abbrev main_v53 : Ref sig .tc := ⟨.hbm, 83, rfl⟩
abbrev main_c_5 : Ref sig .tc := ⟨.hbm, 84, rfl⟩
abbrev main_call8_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_6 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call9_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call10_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_8 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_9 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_10 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call11_v0 : Ref sig .tc := ⟨.hbm, 138, rfl⟩
abbrev main_call11_cst : Ref sig .tc := ⟨.hbm, 139, rfl⟩
abbrev main_call11_c : Ref sig .tc := ⟨.hbm, 140, rfl⟩
abbrev main_call11_v1_0 : Ref sig .tc := ⟨.hbm, 141, rfl⟩
abbrev main_v98 : Ref sig .tc := ⟨.hbm, 142, rfl⟩
abbrev main_call12_v0 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_11 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_12 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call14_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_13 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call15_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_call16_cst : Ref sig .tc := ⟨.hbm, 179, rfl⟩
abbrev main_call16_v0 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_14 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_15 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call18_v0 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_16 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_call19_v0 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_call20_cst : Ref sig .tc := ⟨.hbm, 215, rfl⟩
abbrev main_call20_v0 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_17 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_c_18 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_call22_v0 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_c_19 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_call23_v0 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame
public import Idealize.ShloMosaic.Lib.Pointwise

/-!
# The reference as lists of operations

The reference's main function, cut into seven segments: three convolutions, the nearest codebook
row, and three transposed convolutions. Each segment is a list of host operations.
-/

@[expose] public section

set_option maxRecDepth 8192

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- Operations 1 to 35 of the reference. -/
abbrev segA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x3x384x384, .f32⟩) main_arg0) (TRef.of (T := ⟨S_, .f32⟩) main_call0_v0) (TRef.of (T := ⟨S8x3x386x386, .f32⟩) main_v0) (fun x v => pad S8x3x386x386 ![0, 0, 1, 1] ![0, 0, 1, 1] ![0, 0, 0, 0] x v pads_S8x3x384x384_S8x3x386x386_000_000_110_110 h_S_),
    nullary main_v1 (iotaInDim S192 32 0),
    unary main_v1 main_v2 (broadcastInDim S192x1 ![0] bcast_S192_S192x1_0 : (⟨S192, .i32⟩ : BufTy).Contents (Elt F) → (⟨S192x1, .i32⟩ : BufTy).Contents (Elt F)),
    nullary main_c_0 (constantI S_ 32 2#32),
    unary main_c_0 main_v3 (broadcastInDim S192x1 ![] bcast_S_S192x1 : (⟨S_, .i32⟩ : BufTy).Contents (Elt F) → (⟨S192x1, .i32⟩ : BufTy).Contents (Elt F)),
    binary main_v3 main_v2 main_v4 (muli : (⟨S192x1, .i32⟩ : BufTy).Contents (Elt F) → (⟨S192x1, .i32⟩ : BufTy).Contents (Elt F) → (⟨S192x1, .i32⟩ : BufTy).Contents (Elt F)),
    nullary main_v5 (iotaInDim S4 32 0),
    unary main_v5 main_v6 (broadcastInDim S1x4 ![1] bcast_S4_S1x4_1 : (⟨S4, .i32⟩ : BufTy).Contents (Elt F) → (⟨S1x4, .i32⟩ : BufTy).Contents (Elt F)),
    unary main_v4 main_v7 (broadcastInDim S192x4 ![0, 1] bcast_S192x1_S192x4_0_1 : (⟨S192x1, .i32⟩ : BufTy).Contents (Elt F) → (⟨S192x4, .i32⟩ : BufTy).Contents (Elt F)),
    unary main_v6 main_v8 (broadcastInDim S192x4 ![0, 1] bcast_S1x4_S192x4_0_1 : (⟨S1x4, .i32⟩ : BufTy).Contents (Elt F) → (⟨S192x4, .i32⟩ : BufTy).Contents (Elt F)),
    binary main_v7 main_v8 main_v9 (addi : (⟨S192x4, .i32⟩ : BufTy).Contents (Elt F) → (⟨S192x4, .i32⟩ : BufTy).Contents (Elt F) → (⟨S192x4, .i32⟩ : BufTy).Contents (Elt F)),
    TRef.unary (TRef.of (T := ⟨S192x4, .i32⟩) main_v9) (TRef.of (T := ⟨S192x4x1, .i32⟩) main_call1_v0) (broadcastInDim S192x4x1 ![0, 1] bcast_S192x4_S192x4x1_0_1),
    TRef.binary (TRef.of (T := ⟨S8x3x386x386, .f32⟩) main_v0) (TRef.of (T := ⟨S192x4x1, .i32⟩) main_call1_v0) (TRef.of (T := ⟨S8x3x192x4x386, .f32⟩) main_v10) (fun x i => Host.gather gather_S8x3x386x386_S192x4x1_S8x3x192x4x386_014_2_n_n_2_2_831386 x i),
    nullary main_v11 (iotaInDim S192 32 0),
    unary main_v11 main_v12 (broadcastInDim S192x1 ![0] bcast_S192_S192x1_0 : (⟨S192, .i32⟩ : BufTy).Contents (Elt F) → (⟨S192x1, .i32⟩ : BufTy).Contents (Elt F)),
    nullary main_c_1 (constantI S_ 32 2#32),
    unary main_c_1 main_v13 (broadcastInDim S192x1 ![] bcast_S_S192x1 : (⟨S_, .i32⟩ : BufTy).Contents (Elt F) → (⟨S192x1, .i32⟩ : BufTy).Contents (Elt F)),
    binary main_v13 main_v12 main_v14 (muli : (⟨S192x1, .i32⟩ : BufTy).Contents (Elt F) → (⟨S192x1, .i32⟩ : BufTy).Contents (Elt F) → (⟨S192x1, .i32⟩ : BufTy).Contents (Elt F)),
    nullary main_v15 (iotaInDim S4 32 0),
    unary main_v15 main_v16 (broadcastInDim S1x4 ![1] bcast_S4_S1x4_1 : (⟨S4, .i32⟩ : BufTy).Contents (Elt F) → (⟨S1x4, .i32⟩ : BufTy).Contents (Elt F)),
    unary main_v14 main_v17 (broadcastInDim S192x4 ![0, 1] bcast_S192x1_S192x4_0_1 : (⟨S192x1, .i32⟩ : BufTy).Contents (Elt F) → (⟨S192x4, .i32⟩ : BufTy).Contents (Elt F)),
    unary main_v16 main_v18 (broadcastInDim S192x4 ![0, 1] bcast_S1x4_S192x4_0_1 : (⟨S1x4, .i32⟩ : BufTy).Contents (Elt F) → (⟨S192x4, .i32⟩ : BufTy).Contents (Elt F)),
    binary main_v17 main_v18 main_v19 (addi : (⟨S192x4, .i32⟩ : BufTy).Contents (Elt F) → (⟨S192x4, .i32⟩ : BufTy).Contents (Elt F) → (⟨S192x4, .i32⟩ : BufTy).Contents (Elt F)),
    TRef.unary (TRef.of (T := ⟨S192x4, .i32⟩) main_v19) (TRef.of (T := ⟨S192x4x1, .i32⟩) main_call2_v0) (broadcastInDim S192x4x1 ![0, 1] bcast_S192x4_S192x4x1_0_1),
    TRef.binary (TRef.of (T := ⟨S8x3x192x4x386, .f32⟩) main_v10) (TRef.of (T := ⟨S192x4x1, .i32⟩) main_call2_v0) (TRef.of (T := ⟨S8x3x192x4x192x4, .f32⟩) main_v20) (fun x i => Host.gather gather_S8x3x192x4x386_S192x4x1_S8x3x192x4x192x4_0123_4_n_n_4_2_8319241 x i),
    binary main_arg1 main_v20 main_v21 ((fun l r => Host.dotGeneral dot_S128x3x4x4_S8x3x192x4x192x4_S128x8x192x192_123_135_0_024_n_n none l r) : (⟨S128x3x4x4, .f32⟩ : BufTy).Contents (Elt F) → (⟨S8x3x192x4x192x4, .f32⟩ : BufTy).Contents (Elt F) → (⟨S128x8x192x192, .f32⟩ : BufTy).Contents (Elt F)),
    unary main_v21 main_v22 ((transpose S8x128x192x192 [1, 0, 2, 3] · transposes_S128x8x192x192_S8x128x192x192_1_0_2_3) : (⟨S128x8x192x192, .f32⟩ : BufTy).Contents (Elt F) → (⟨S8x128x192x192, .f32⟩ : BufTy).Contents (Elt F)),
    unary main_arg2 main_v23 (broadcastInDim S1x128x1x1 ![1] bcast_S128_S1x128x1x1_1 : (⟨S128, .f32⟩ : BufTy).Contents (Elt F) → (⟨S1x128x1x1, .f32⟩ : BufTy).Contents (Elt F)),
    unary main_v23 main_v24 (broadcastInDim S8x128x192x192 ![0, 1, 2, 3] bcast_S1x128x1x1_S8x128x192x192_0_1_2_3 : (⟨S1x128x1x1, .f32⟩ : BufTy).Contents (Elt F) → (⟨S8x128x192x192, .f32⟩ : BufTy).Contents (Elt F)),
    binary main_v22 main_v24 main_v25 (addf : (⟨S8x128x192x192, .f32⟩ : BufTy).Contents (Elt F) → (⟨S8x128x192x192, .f32⟩ : BufTy).Contents (Elt F) → (⟨S8x128x192x192, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x128x192x192, .f32⟩) main_call3_v0) (broadcastInDim S8x128x192x192 ![] bcast_S_S8x128x192x192),
    TRef.binary (TRef.of (T := ⟨S8x128x192x192, .f32⟩) main_v25) (TRef.of (T := ⟨S8x128x192x192, .f32⟩) main_call3_v0) (TRef.of (T := ⟨S8x128x192x192, .f32⟩) main_v26) maximumf ]

/-- Operations 36 to 70 of the reference. -/
abbrev segB : List (HloOp τ sig (Elt F)) :=
  [ nullary main_c_2 (constantI S_ 32 0#32),
    TRef.unary (TRef.of (T := ⟨S_, .i32⟩) main_c_2) (TRef.of (T := ⟨S_, .f32⟩) main_call4_v0) (sitofp .f32),
    TRef.binary (TRef.of (T := ⟨S8x128x192x192, .f32⟩) main_v26) (TRef.of (T := ⟨S_, .f32⟩) main_call4_v0) (TRef.of (T := ⟨S8x128x194x194, .f32⟩) main_v27) (fun x v => pad S8x128x194x194 ![0, 0, 1, 1] ![0, 0, 1, 1] ![0, 0, 0, 0] x v pads_S8x128x192x192_S8x128x194x194_000_000_110_110 h_S_),
    nullary main_v28 (iotaInDim S96 32 0),
    unary main_v28 main_v29 (broadcastInDim S96x1 ![0] bcast_S96_S96x1_0 : (⟨S96, .i32⟩ : BufTy).Contents (Elt F) → (⟨S96x1, .i32⟩ : BufTy).Contents (Elt F)),
    nullary main_c_3 (constantI S_ 32 2#32),
    unary main_c_3 main_v30 (broadcastInDim S96x1 ![] bcast_S_S96x1 : (⟨S_, .i32⟩ : BufTy).Contents (Elt F) → (⟨S96x1, .i32⟩ : BufTy).Contents (Elt F)),
    binary main_v30 main_v29 main_v31 (muli : (⟨S96x1, .i32⟩ : BufTy).Contents (Elt F) → (⟨S96x1, .i32⟩ : BufTy).Contents (Elt F) → (⟨S96x1, .i32⟩ : BufTy).Contents (Elt F)),
    nullary main_v32 (iotaInDim S4 32 0),
    unary main_v32 main_v33 (broadcastInDim S1x4 ![1] bcast_S4_S1x4_1 : (⟨S4, .i32⟩ : BufTy).Contents (Elt F) → (⟨S1x4, .i32⟩ : BufTy).Contents (Elt F)),
    unary main_v31 main_v34 (broadcastInDim S96x4 ![0, 1] bcast_S96x1_S96x4_0_1 : (⟨S96x1, .i32⟩ : BufTy).Contents (Elt F) → (⟨S96x4, .i32⟩ : BufTy).Contents (Elt F)),
    unary main_v33 main_v35 (broadcastInDim S96x4 ![0, 1] bcast_S1x4_S96x4_0_1 : (⟨S1x4, .i32⟩ : BufTy).Contents (Elt F) → (⟨S96x4, .i32⟩ : BufTy).Contents (Elt F)),
    binary main_v34 main_v35 main_v36 (addi : (⟨S96x4, .i32⟩ : BufTy).Contents (Elt F) → (⟨S96x4, .i32⟩ : BufTy).Contents (Elt F) → (⟨S96x4, .i32⟩ : BufTy).Contents (Elt F)),
    TRef.unary (TRef.of (T := ⟨S96x4, .i32⟩) main_v36) (TRef.of (T := ⟨S96x4x1, .i32⟩) main_call5_v0) (broadcastInDim S96x4x1 ![0, 1] bcast_S96x4_S96x4x1_0_1),
    TRef.binary (TRef.of (T := ⟨S8x128x194x194, .f32⟩) main_v27) (TRef.of (T := ⟨S96x4x1, .i32⟩) main_call5_v0) (TRef.of (T := ⟨S8x128x96x4x194, .f32⟩) main_v37) (fun x i => Host.gather gather_S8x128x194x194_S96x4x1_S8x128x96x4x194_014_2_n_n_2_2_81281194 x i),
    nullary main_v38 (iotaInDim S96 32 0),
    unary main_v38 main_v39 (broadcastInDim S96x1 ![0] bcast_S96_S96x1_0 : (⟨S96, .i32⟩ : BufTy).Contents (Elt F) → (⟨S96x1, .i32⟩ : BufTy).Contents (Elt F)),
    nullary main_c_4 (constantI S_ 32 2#32),
    unary main_c_4 main_v40 (broadcastInDim S96x1 ![] bcast_S_S96x1 : (⟨S_, .i32⟩ : BufTy).Contents (Elt F) → (⟨S96x1, .i32⟩ : BufTy).Contents (Elt F)),
    binary main_v40 main_v39 main_v41 (muli : (⟨S96x1, .i32⟩ : BufTy).Contents (Elt F) → (⟨S96x1, .i32⟩ : BufTy).Contents (Elt F) → (⟨S96x1, .i32⟩ : BufTy).Contents (Elt F)),
    nullary main_v42 (iotaInDim S4 32 0),
    unary main_v42 main_v43 (broadcastInDim S1x4 ![1] bcast_S4_S1x4_1 : (⟨S4, .i32⟩ : BufTy).Contents (Elt F) → (⟨S1x4, .i32⟩ : BufTy).Contents (Elt F)),
    unary main_v41 main_v44 (broadcastInDim S96x4 ![0, 1] bcast_S96x1_S96x4_0_1 : (⟨S96x1, .i32⟩ : BufTy).Contents (Elt F) → (⟨S96x4, .i32⟩ : BufTy).Contents (Elt F)),
    unary main_v43 main_v45 (broadcastInDim S96x4 ![0, 1] bcast_S1x4_S96x4_0_1 : (⟨S1x4, .i32⟩ : BufTy).Contents (Elt F) → (⟨S96x4, .i32⟩ : BufTy).Contents (Elt F)),
    binary main_v44 main_v45 main_v46 (addi : (⟨S96x4, .i32⟩ : BufTy).Contents (Elt F) → (⟨S96x4, .i32⟩ : BufTy).Contents (Elt F) → (⟨S96x4, .i32⟩ : BufTy).Contents (Elt F)),
    TRef.unary (TRef.of (T := ⟨S96x4, .i32⟩) main_v46) (TRef.of (T := ⟨S96x4x1, .i32⟩) main_call6_v0) (broadcastInDim S96x4x1 ![0, 1] bcast_S96x4_S96x4x1_0_1),
    TRef.binary (TRef.of (T := ⟨S8x128x96x4x194, .f32⟩) main_v37) (TRef.of (T := ⟨S96x4x1, .i32⟩) main_call6_v0) (TRef.of (T := ⟨S8x128x96x4x96x4, .f32⟩) main_v47) (fun x i => Host.gather gather_S8x128x96x4x194_S96x4x1_S8x128x96x4x96x4_0123_4_n_n_4_2_81289641 x i),
    binary main_arg3 main_v47 main_v48 ((fun l r => Host.dotGeneral dot_S256x128x4x4_S8x128x96x4x96x4_S256x8x96x96_123_135_0_024_n_n none l r) : (⟨S256x128x4x4, .f32⟩ : BufTy).Contents (Elt F) → (⟨S8x128x96x4x96x4, .f32⟩ : BufTy).Contents (Elt F) → (⟨S256x8x96x96, .f32⟩ : BufTy).Contents (Elt F)),
    unary main_v48 main_v49 ((transpose S8x256x96x96 [1, 0, 2, 3] · transposes_S256x8x96x96_S8x256x96x96_1_0_2_3) : (⟨S256x8x96x96, .f32⟩ : BufTy).Contents (Elt F) → (⟨S8x256x96x96, .f32⟩ : BufTy).Contents (Elt F)),
    unary main_arg4 main_v50 (broadcastInDim S1x256x1x1 ![1] bcast_S256_S1x256x1x1_1 : (⟨S256, .f32⟩ : BufTy).Contents (Elt F) → (⟨S1x256x1x1, .f32⟩ : BufTy).Contents (Elt F)),
    unary main_v50 main_v51 (broadcastInDim S8x256x96x96 ![0, 1, 2, 3] bcast_S1x256x1x1_S8x256x96x96_0_1_2_3 : (⟨S1x256x1x1, .f32⟩ : BufTy).Contents (Elt F) → (⟨S8x256x96x96, .f32⟩ : BufTy).Contents (Elt F)),
    binary main_v49 main_v51 main_v52 (addf : (⟨S8x256x96x96, .f32⟩ : BufTy).Contents (Elt F) → (⟨S8x256x96x96, .f32⟩ : BufTy).Contents (Elt F) → (⟨S8x256x96x96, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x256x96x96, .f32⟩) main_call7_v0) (broadcastInDim S8x256x96x96 ![] bcast_S_S8x256x96x96),
    TRef.binary (TRef.of (T := ⟨S8x256x96x96, .f32⟩) main_v52) (TRef.of (T := ⟨S8x256x96x96, .f32⟩) main_call7_v0) (TRef.of (T := ⟨S8x256x96x96, .f32⟩) main_v53) maximumf ]

/-- Operations 71 to 102 of the reference. -/
abbrev segC : List (HloOp τ sig (Elt F)) :=
  [ nullary main_c_5 (constantI S_ 32 0#32),
    TRef.unary (TRef.of (T := ⟨S_, .i32⟩) main_c_5) (TRef.of (T := ⟨S_, .f32⟩) main_call8_v0) (sitofp .f32),
    TRef.binary (TRef.of (T := ⟨S8x256x96x96, .f32⟩) main_v53) (TRef.of (T := ⟨S_, .f32⟩) main_call8_v0) (TRef.of (T := ⟨S8x256x98x98, .f32⟩) main_v54) (fun x v => pad S8x256x98x98 ![0, 0, 1, 1] ![0, 0, 1, 1] ![0, 0, 0, 0] x v pads_S8x256x96x96_S8x256x98x98_000_000_110_110 h_S_),
    nullary main_v55 (iotaInDim S48 32 0),
    unary main_v55 main_v56 (broadcastInDim S48x1 ![0] bcast_S48_S48x1_0 : (⟨S48, .i32⟩ : BufTy).Contents (Elt F) → (⟨S48x1, .i32⟩ : BufTy).Contents (Elt F)),
    nullary main_c_6 (constantI S_ 32 2#32),
    unary main_c_6 main_v57 (broadcastInDim S48x1 ![] bcast_S_S48x1 : (⟨S_, .i32⟩ : BufTy).Contents (Elt F) → (⟨S48x1, .i32⟩ : BufTy).Contents (Elt F)),
    binary main_v57 main_v56 main_v58 (muli : (⟨S48x1, .i32⟩ : BufTy).Contents (Elt F) → (⟨S48x1, .i32⟩ : BufTy).Contents (Elt F) → (⟨S48x1, .i32⟩ : BufTy).Contents (Elt F)),
    nullary main_v59 (iotaInDim S4 32 0),
    unary main_v59 main_v60 (broadcastInDim S1x4 ![1] bcast_S4_S1x4_1 : (⟨S4, .i32⟩ : BufTy).Contents (Elt F) → (⟨S1x4, .i32⟩ : BufTy).Contents (Elt F)),
    unary main_v58 main_v61 (broadcastInDim S48x4 ![0, 1] bcast_S48x1_S48x4_0_1 : (⟨S48x1, .i32⟩ : BufTy).Contents (Elt F) → (⟨S48x4, .i32⟩ : BufTy).Contents (Elt F)),
    unary main_v60 main_v62 (broadcastInDim S48x4 ![0, 1] bcast_S1x4_S48x4_0_1 : (⟨S1x4, .i32⟩ : BufTy).Contents (Elt F) → (⟨S48x4, .i32⟩ : BufTy).Contents (Elt F)),
    binary main_v61 main_v62 main_v63 (addi : (⟨S48x4, .i32⟩ : BufTy).Contents (Elt F) → (⟨S48x4, .i32⟩ : BufTy).Contents (Elt F) → (⟨S48x4, .i32⟩ : BufTy).Contents (Elt F)),
    TRef.unary (TRef.of (T := ⟨S48x4, .i32⟩) main_v63) (TRef.of (T := ⟨S48x4x1, .i32⟩) main_call9_v0) (broadcastInDim S48x4x1 ![0, 1] bcast_S48x4_S48x4x1_0_1),
    TRef.binary (TRef.of (T := ⟨S8x256x98x98, .f32⟩) main_v54) (TRef.of (T := ⟨S48x4x1, .i32⟩) main_call9_v0) (TRef.of (T := ⟨S8x256x48x4x98, .f32⟩) main_v64) (fun x i => Host.gather gather_S8x256x98x98_S48x4x1_S8x256x48x4x98_014_2_n_n_2_2_8256198 x i),
    nullary main_v65 (iotaInDim S48 32 0),
    unary main_v65 main_v66 (broadcastInDim S48x1 ![0] bcast_S48_S48x1_0 : (⟨S48, .i32⟩ : BufTy).Contents (Elt F) → (⟨S48x1, .i32⟩ : BufTy).Contents (Elt F)),
    nullary main_c_7 (constantI S_ 32 2#32),
    unary main_c_7 main_v67 (broadcastInDim S48x1 ![] bcast_S_S48x1 : (⟨S_, .i32⟩ : BufTy).Contents (Elt F) → (⟨S48x1, .i32⟩ : BufTy).Contents (Elt F)),
    binary main_v67 main_v66 main_v68 (muli : (⟨S48x1, .i32⟩ : BufTy).Contents (Elt F) → (⟨S48x1, .i32⟩ : BufTy).Contents (Elt F) → (⟨S48x1, .i32⟩ : BufTy).Contents (Elt F)),
    nullary main_v69 (iotaInDim S4 32 0),
    unary main_v69 main_v70 (broadcastInDim S1x4 ![1] bcast_S4_S1x4_1 : (⟨S4, .i32⟩ : BufTy).Contents (Elt F) → (⟨S1x4, .i32⟩ : BufTy).Contents (Elt F)),
    unary main_v68 main_v71 (broadcastInDim S48x4 ![0, 1] bcast_S48x1_S48x4_0_1 : (⟨S48x1, .i32⟩ : BufTy).Contents (Elt F) → (⟨S48x4, .i32⟩ : BufTy).Contents (Elt F)),
    unary main_v70 main_v72 (broadcastInDim S48x4 ![0, 1] bcast_S1x4_S48x4_0_1 : (⟨S1x4, .i32⟩ : BufTy).Contents (Elt F) → (⟨S48x4, .i32⟩ : BufTy).Contents (Elt F)),
    binary main_v71 main_v72 main_v73 (addi : (⟨S48x4, .i32⟩ : BufTy).Contents (Elt F) → (⟨S48x4, .i32⟩ : BufTy).Contents (Elt F) → (⟨S48x4, .i32⟩ : BufTy).Contents (Elt F)),
    TRef.unary (TRef.of (T := ⟨S48x4, .i32⟩) main_v73) (TRef.of (T := ⟨S48x4x1, .i32⟩) main_call10_v0) (broadcastInDim S48x4x1 ![0, 1] bcast_S48x4_S48x4x1_0_1),
    TRef.binary (TRef.of (T := ⟨S8x256x48x4x98, .f32⟩) main_v64) (TRef.of (T := ⟨S48x4x1, .i32⟩) main_call10_v0) (TRef.of (T := ⟨S8x256x48x4x48x4, .f32⟩) main_v74) (fun x i => Host.gather gather_S8x256x48x4x98_S48x4x1_S8x256x48x4x48x4_0123_4_n_n_4_2_82564841 x i),
    binary main_arg5 main_v74 main_v75 ((fun l r => Host.dotGeneral dot_S64x256x4x4_S8x256x48x4x48x4_S64x8x48x48_123_135_0_024_n_n none l r) : (⟨S64x256x4x4, .f32⟩ : BufTy).Contents (Elt F) → (⟨S8x256x48x4x48x4, .f32⟩ : BufTy).Contents (Elt F) → (⟨S64x8x48x48, .f32⟩ : BufTy).Contents (Elt F)),
    unary main_v75 main_v76 ((transpose S8x64x48x48 [1, 0, 2, 3] · transposes_S64x8x48x48_S8x64x48x48_1_0_2_3) : (⟨S64x8x48x48, .f32⟩ : BufTy).Contents (Elt F) → (⟨S8x64x48x48, .f32⟩ : BufTy).Contents (Elt F)),
    unary main_arg6 main_v77 (broadcastInDim S1x64x1x1 ![1] bcast_S64_S1x64x1x1_1 : (⟨S64, .f32⟩ : BufTy).Contents (Elt F) → (⟨S1x64x1x1, .f32⟩ : BufTy).Contents (Elt F)),
    unary main_v77 main_v78 (broadcastInDim S8x64x48x48 ![0, 1, 2, 3] bcast_S1x64x1x1_S8x64x48x48_0_1_2_3 : (⟨S1x64x1x1, .f32⟩ : BufTy).Contents (Elt F) → (⟨S8x64x48x48, .f32⟩ : BufTy).Contents (Elt F)),
    binary main_v76 main_v78 main_v79 (addf : (⟨S8x64x48x48, .f32⟩ : BufTy).Contents (Elt F) → (⟨S8x64x48x48, .f32⟩ : BufTy).Contents (Elt F) → (⟨S8x64x48x48, .f32⟩ : BufTy).Contents (Elt F)) ]

/-- Operations 103 to 132 of the reference. -/
abbrev segD : List (HloOp τ sig (Elt F)) :=
  [ reshape main_v79 main_v80 (rfl : (.f32 : EltTy) = .f32) shapeCasts_S8x64x48x48_S18432x64,
    binary main_v80 main_v80 main_v81 (mulf : (⟨S18432x64, .f32⟩ : BufTy).Contents (Elt F) → (⟨S18432x64, .f32⟩ : BufTy).Contents (Elt F) → (⟨S18432x64, .f32⟩ : BufTy).Contents (Elt F)),
    nullary main_cst (constant S_ .f32 0x00000000#32),
    binary main_v81 main_cst main_v82 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v82 main_v83 (broadcastInDim S18432x1 ![0] bcast_S18432_S18432x1_0 : (⟨S18432, .f32⟩ : BufTy).Contents (Elt F) → (⟨S18432x1, .f32⟩ : BufTy).Contents (Elt F)),
    binary main_arg13 main_arg13 main_v84 (mulf : (⟨S1024x64, .f32⟩ : BufTy).Contents (Elt F) → (⟨S1024x64, .f32⟩ : BufTy).Contents (Elt F) → (⟨S1024x64, .f32⟩ : BufTy).Contents (Elt F)),
    nullary main_cst_8 (constant S_ .f32 0x00000000#32),
    binary main_v84 main_cst_8 main_v85 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v85 main_v86 (broadcastInDim S1x1024 ![1] bcast_S1024_S1x1024_1 : (⟨S1024, .f32⟩ : BufTy).Contents (Elt F) → (⟨S1x1024, .f32⟩ : BufTy).Contents (Elt F)),
    unary main_v83 main_v87 (broadcastInDim S18432x1024 ![0, 1] bcast_S18432x1_S18432x1024_0_1 : (⟨S18432x1, .f32⟩ : BufTy).Contents (Elt F) → (⟨S18432x1024, .f32⟩ : BufTy).Contents (Elt F)),
    unary main_v86 main_v88 (broadcastInDim S18432x1024 ![0, 1] bcast_S1x1024_S18432x1024_0_1 : (⟨S1x1024, .f32⟩ : BufTy).Contents (Elt F) → (⟨S18432x1024, .f32⟩ : BufTy).Contents (Elt F)),
    binary main_v87 main_v88 main_v89 (addf : (⟨S18432x1024, .f32⟩ : BufTy).Contents (Elt F) → (⟨S18432x1024, .f32⟩ : BufTy).Contents (Elt F) → (⟨S18432x1024, .f32⟩ : BufTy).Contents (Elt F)),
    nullary main_cst_9 (constant S_ .f32 0x40000000#32),
    unary main_cst_9 main_v90 (broadcastInDim S18432x64 ![] bcast_S_S18432x64 : (⟨S_, .f32⟩ : BufTy).Contents (Elt F) → (⟨S18432x64, .f32⟩ : BufTy).Contents (Elt F)),
    binary main_v90 main_v80 main_v91 (mulf : (⟨S18432x64, .f32⟩ : BufTy).Contents (Elt F) → (⟨S18432x64, .f32⟩ : BufTy).Contents (Elt F) → (⟨S18432x64, .f32⟩ : BufTy).Contents (Elt F)),
    unary main_arg13 main_v92 ((transpose S64x1024 [1, 0] · transposes_S1024x64_S64x1024_1_0) : (⟨S1024x64, .f32⟩ : BufTy).Contents (Elt F) → (⟨S64x1024, .f32⟩ : BufTy).Contents (Elt F)),
    binary main_v91 main_v92 main_v93 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    binary main_v89 main_v93 main_v94 (subf : (⟨S18432x1024, .f32⟩ : BufTy).Contents (Elt F) → (⟨S18432x1024, .f32⟩ : BufTy).Contents (Elt F) → (⟨S18432x1024, .f32⟩ : BufTy).Contents (Elt F)),
    nullary main_cst_10 (constant S_ .f32 0x00000000#32),
    unary main_cst_10 main_v95 (broadcastInDim S18432x1024 ![] bcast_S_S18432x1024 : (⟨S_, .f32⟩ : BufTy).Contents (Elt F) → (⟨S18432x1024, .f32⟩ : BufTy).Contents (Elt F)),
    binary main_v94 main_v95 main_v96 (maximumf : (⟨S18432x1024, .f32⟩ : BufTy).Contents (Elt F) → (⟨S18432x1024, .f32⟩ : BufTy).Contents (Elt F) → (⟨S18432x1024, .f32⟩ : BufTy).Contents (Elt F)),
    unary main_v96 main_v97 (Host.sqrt : (⟨S18432x1024, .f32⟩ : BufTy).Contents (Elt F) → (⟨S18432x1024, .f32⟩ : BufTy).Contents (Elt F)),
    TRef.nullary (TRef.of (T := ⟨S18432x1024, .i32⟩) main_call11_v0) (iotaInDim S18432x1024 32 1),
    TRef.nullary (TRef.of (T := ⟨S_, .f32⟩) main_call11_cst) (constant S_ .f32 0x7F800000#32),
    TRef.nullary (TRef.of (T := ⟨S_, .i32⟩) main_call11_c) (constantI S_ 32 0#32),
    TRef.quaternary (TRef.of (T := ⟨S18432x1024, .f32⟩) main_v97) (TRef.of (T := ⟨S18432x1024, .i32⟩) main_call11_v0) (TRef.of (T := ⟨S_, .f32⟩) main_call11_cst) (TRef.of (T := ⟨S_, .i32⟩) main_call11_c) (TRef.of (T := ⟨S18432, .f32⟩) main_call11_v1_0) (fun x y u v j => (Host.argReduce reducer_argmin_f32_i32 x y u v reducesTo_S18432x1024_S18432_d1 h_S_ j).1),
    TRef.quaternary (TRef.of (T := ⟨S18432x1024, .f32⟩) main_v97) (TRef.of (T := ⟨S18432x1024, .i32⟩) main_call11_v0) (TRef.of (T := ⟨S_, .f32⟩) main_call11_cst) (TRef.of (T := ⟨S_, .i32⟩) main_call11_c) (TRef.of (T := ⟨S18432, .i32⟩) main_v98) (fun x y u v j => (Host.argReduce reducer_argmin_f32_i32 x y u v reducesTo_S18432x1024_S18432_d1 h_S_ j).2),
    TRef.unary (TRef.of (T := ⟨S18432, .i32⟩) main_v98) (TRef.of (T := ⟨S18432x1, .i32⟩) main_call12_v0) (broadcastInDim S18432x1 ![0] bcast_S18432_S18432x1_0),
    TRef.binary (TRef.of (T := ⟨S1024x64, .f32⟩) main_arg13) (TRef.of (T := ⟨S18432x1, .i32⟩) main_call12_v0) (TRef.of (T := ⟨S18432x64, .f32⟩) main_v99) (fun x i => Host.gather gather_S1024x64_S18432x1_S18432x64_1_0_n_n_0_1_164 x i),
    reshape main_v99 main_v100 (rfl : (.f32 : EltTy) = .f32) shapeCasts_S18432x64_S8x64x48x48 ]

/-- Operations 133 to 138 of the reference. -/
abbrev segE1 : List (HloOp τ sig (Elt F)) :=
  [ TRef.unary (TRef.of (T := ⟨S64x256x4x4, .f32⟩) main_arg7) (TRef.of (T := ⟨S64x256x4x4, .f32⟩) main_v101) (Host.reverse [2, 3]),
    unary main_v101 main_v102 ((transpose S256x64x4x4 [1, 0, 2, 3] · transposes_S64x256x4x4_S256x64x4x4_1_0_2_3) : (⟨S64x256x4x4, .f32⟩ : BufTy).Contents (Elt F) → (⟨S256x64x4x4, .f32⟩ : BufTy).Contents (Elt F)),
    nullary main_cst_11 (constant S_ .f32 0x00000000#32),
    binary main_v100 main_cst_11 main_v103 ((fun x v => pad S8x64x99x99 ![0, 0, 2, 2] ![0, 0, 2, 2] ![0, 0, 1, 1] x v pads_S8x64x48x48_S8x64x99x99_000_000_221_221 h_S_) : (⟨S8x64x48x48, .f32⟩ : BufTy).Contents (Elt F) → (⟨S_, .f32⟩ : BufTy).Contents (Elt F) → (⟨S8x64x99x99, .f32⟩ : BufTy).Contents (Elt F)),
    nullary main_v104 (iotaInDim S96 32 0),
    unary main_v104 main_v105 (broadcastInDim S96x1 ![0] bcast_S96_S96x1_0 : (⟨S96, .i32⟩ : BufTy).Contents (Elt F) → (⟨S96x1, .i32⟩ : BufTy).Contents (Elt F)) ]

/-- Operations 139 to 168 of the reference. -/
abbrev segE2 : List (HloOp τ sig (Elt F)) :=
  [ nullary main_c_12 (constantI S_ 32 1#32),
    unary main_c_12 main_v106 (broadcastInDim S96x1 ![] bcast_S_S96x1 : (⟨S_, .i32⟩ : BufTy).Contents (Elt F) → (⟨S96x1, .i32⟩ : BufTy).Contents (Elt F)),
    binary main_v106 main_v105 main_v107 (muli : (⟨S96x1, .i32⟩ : BufTy).Contents (Elt F) → (⟨S96x1, .i32⟩ : BufTy).Contents (Elt F) → (⟨S96x1, .i32⟩ : BufTy).Contents (Elt F)),
    nullary main_v108 (iotaInDim S4 32 0),
    unary main_v108 main_v109 (broadcastInDim S1x4 ![1] bcast_S4_S1x4_1 : (⟨S4, .i32⟩ : BufTy).Contents (Elt F) → (⟨S1x4, .i32⟩ : BufTy).Contents (Elt F)),
    unary main_v107 main_v110 (broadcastInDim S96x4 ![0, 1] bcast_S96x1_S96x4_0_1 : (⟨S96x1, .i32⟩ : BufTy).Contents (Elt F) → (⟨S96x4, .i32⟩ : BufTy).Contents (Elt F)),
    unary main_v109 main_v111 (broadcastInDim S96x4 ![0, 1] bcast_S1x4_S96x4_0_1 : (⟨S1x4, .i32⟩ : BufTy).Contents (Elt F) → (⟨S96x4, .i32⟩ : BufTy).Contents (Elt F)),
    binary main_v110 main_v111 main_v112 (addi : (⟨S96x4, .i32⟩ : BufTy).Contents (Elt F) → (⟨S96x4, .i32⟩ : BufTy).Contents (Elt F) → (⟨S96x4, .i32⟩ : BufTy).Contents (Elt F)),
    TRef.unary (TRef.of (T := ⟨S96x4, .i32⟩) main_v112) (TRef.of (T := ⟨S96x4x1, .i32⟩) main_call14_v0) (broadcastInDim S96x4x1 ![0, 1] bcast_S96x4_S96x4x1_0_1),
    TRef.binary (TRef.of (T := ⟨S8x64x99x99, .f32⟩) main_v103) (TRef.of (T := ⟨S96x4x1, .i32⟩) main_call14_v0) (TRef.of (T := ⟨S8x64x96x4x99, .f32⟩) main_v113) (fun x i => Host.gather gather_S8x64x99x99_S96x4x1_S8x64x96x4x99_014_2_n_n_2_2_864199 x i),
    nullary main_v114 (iotaInDim S96 32 0),
    unary main_v114 main_v115 (broadcastInDim S96x1 ![0] bcast_S96_S96x1_0 : (⟨S96, .i32⟩ : BufTy).Contents (Elt F) → (⟨S96x1, .i32⟩ : BufTy).Contents (Elt F)),
    nullary main_c_13 (constantI S_ 32 1#32),
    unary main_c_13 main_v116 (broadcastInDim S96x1 ![] bcast_S_S96x1 : (⟨S_, .i32⟩ : BufTy).Contents (Elt F) → (⟨S96x1, .i32⟩ : BufTy).Contents (Elt F)),
    binary main_v116 main_v115 main_v117 (muli : (⟨S96x1, .i32⟩ : BufTy).Contents (Elt F) → (⟨S96x1, .i32⟩ : BufTy).Contents (Elt F) → (⟨S96x1, .i32⟩ : BufTy).Contents (Elt F)),
    nullary main_v118 (iotaInDim S4 32 0),
    unary main_v118 main_v119 (broadcastInDim S1x4 ![1] bcast_S4_S1x4_1 : (⟨S4, .i32⟩ : BufTy).Contents (Elt F) → (⟨S1x4, .i32⟩ : BufTy).Contents (Elt F)),
    unary main_v117 main_v120 (broadcastInDim S96x4 ![0, 1] bcast_S96x1_S96x4_0_1 : (⟨S96x1, .i32⟩ : BufTy).Contents (Elt F) → (⟨S96x4, .i32⟩ : BufTy).Contents (Elt F)),
    unary main_v119 main_v121 (broadcastInDim S96x4 ![0, 1] bcast_S1x4_S96x4_0_1 : (⟨S1x4, .i32⟩ : BufTy).Contents (Elt F) → (⟨S96x4, .i32⟩ : BufTy).Contents (Elt F)),
    binary main_v120 main_v121 main_v122 (addi : (⟨S96x4, .i32⟩ : BufTy).Contents (Elt F) → (⟨S96x4, .i32⟩ : BufTy).Contents (Elt F) → (⟨S96x4, .i32⟩ : BufTy).Contents (Elt F)),
    TRef.unary (TRef.of (T := ⟨S96x4, .i32⟩) main_v122) (TRef.of (T := ⟨S96x4x1, .i32⟩) main_call15_v0) (broadcastInDim S96x4x1 ![0, 1] bcast_S96x4_S96x4x1_0_1),
    TRef.binary (TRef.of (T := ⟨S8x64x96x4x99, .f32⟩) main_v113) (TRef.of (T := ⟨S96x4x1, .i32⟩) main_call15_v0) (TRef.of (T := ⟨S8x64x96x4x96x4, .f32⟩) main_v123) (fun x i => Host.gather gather_S8x64x96x4x99_S96x4x1_S8x64x96x4x96x4_0123_4_n_n_4_2_8649641 x i),
    binary main_v102 main_v123 main_v124 ((fun l r => Host.dotGeneral dot_S256x64x4x4_S8x64x96x4x96x4_S256x8x96x96_123_135_0_024_n_n none l r) : (⟨S256x64x4x4, .f32⟩ : BufTy).Contents (Elt F) → (⟨S8x64x96x4x96x4, .f32⟩ : BufTy).Contents (Elt F) → (⟨S256x8x96x96, .f32⟩ : BufTy).Contents (Elt F)),
    unary main_v124 main_v125 ((transpose S8x256x96x96 [1, 0, 2, 3] · transposes_S256x8x96x96_S8x256x96x96_1_0_2_3) : (⟨S256x8x96x96, .f32⟩ : BufTy).Contents (Elt F) → (⟨S8x256x96x96, .f32⟩ : BufTy).Contents (Elt F)),
    unary main_arg8 main_v126 (broadcastInDim S1x256x1x1 ![1] bcast_S256_S1x256x1x1_1 : (⟨S256, .f32⟩ : BufTy).Contents (Elt F) → (⟨S1x256x1x1, .f32⟩ : BufTy).Contents (Elt F)),
    unary main_v126 main_v127 (broadcastInDim S8x256x96x96 ![0, 1, 2, 3] bcast_S1x256x1x1_S8x256x96x96_0_1_2_3 : (⟨S1x256x1x1, .f32⟩ : BufTy).Contents (Elt F) → (⟨S8x256x96x96, .f32⟩ : BufTy).Contents (Elt F)),
    binary main_v125 main_v127 main_v128 (addf : (⟨S8x256x96x96, .f32⟩ : BufTy).Contents (Elt F) → (⟨S8x256x96x96, .f32⟩ : BufTy).Contents (Elt F) → (⟨S8x256x96x96, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S8x256x96x96, .f32⟩) main_call16_v0) (broadcastInDim S8x256x96x96 ![] bcast_S_S8x256x96x96),
    TRef.binary (TRef.of (T := ⟨S8x256x96x96, .f32⟩) main_v128) (TRef.of (T := ⟨S8x256x96x96, .f32⟩) main_call16_v0) (TRef.of (T := ⟨S8x256x96x96, .f32⟩) main_v129) maximumf ]

/-- Operations 169 to 204 of the reference. -/
abbrev segF : List (HloOp τ sig (Elt F)) :=
  [ TRef.unary (TRef.of (T := ⟨S256x128x4x4, .f32⟩) main_arg9) (TRef.of (T := ⟨S256x128x4x4, .f32⟩) main_v130) (Host.reverse [2, 3]),
    unary main_v130 main_v131 ((transpose S128x256x4x4 [1, 0, 2, 3] · transposes_S256x128x4x4_S128x256x4x4_1_0_2_3) : (⟨S256x128x4x4, .f32⟩ : BufTy).Contents (Elt F) → (⟨S128x256x4x4, .f32⟩ : BufTy).Contents (Elt F)),
    nullary main_cst_14 (constant S_ .f32 0x00000000#32),
    binary main_v129 main_cst_14 main_v132 ((fun x v => pad S8x256x195x195 ![0, 0, 2, 2] ![0, 0, 2, 2] ![0, 0, 1, 1] x v pads_S8x256x96x96_S8x256x195x195_000_000_221_221 h_S_) : (⟨S8x256x96x96, .f32⟩ : BufTy).Contents (Elt F) → (⟨S_, .f32⟩ : BufTy).Contents (Elt F) → (⟨S8x256x195x195, .f32⟩ : BufTy).Contents (Elt F)),
    nullary main_v133 (iotaInDim S192 32 0),
    unary main_v133 main_v134 (broadcastInDim S192x1 ![0] bcast_S192_S192x1_0 : (⟨S192, .i32⟩ : BufTy).Contents (Elt F) → (⟨S192x1, .i32⟩ : BufTy).Contents (Elt F)),
    nullary main_c_15 (constantI S_ 32 1#32),
    unary main_c_15 main_v135 (broadcastInDim S192x1 ![] bcast_S_S192x1 : (⟨S_, .i32⟩ : BufTy).Contents (Elt F) → (⟨S192x1, .i32⟩ : BufTy).Contents (Elt F)),
    binary main_v135 main_v134 main_v136 (muli : (⟨S192x1, .i32⟩ : BufTy).Contents (Elt F) → (⟨S192x1, .i32⟩ : BufTy).Contents (Elt F) → (⟨S192x1, .i32⟩ : BufTy).Contents (Elt F)),
    nullary main_v137 (iotaInDim S4 32 0),
    unary main_v137 main_v138 (broadcastInDim S1x4 ![1] bcast_S4_S1x4_1 : (⟨S4, .i32⟩ : BufTy).Contents (Elt F) → (⟨S1x4, .i32⟩ : BufTy).Contents (Elt F)),
    unary main_v136 main_v139 (broadcastInDim S192x4 ![0, 1] bcast_S192x1_S192x4_0_1 : (⟨S192x1, .i32⟩ : BufTy).Contents (Elt F) → (⟨S192x4, .i32⟩ : BufTy).Contents (Elt F)),
    unary main_v138 main_v140 (broadcastInDim S192x4 ![0, 1] bcast_S1x4_S192x4_0_1 : (⟨S1x4, .i32⟩ : BufTy).Contents (Elt F) → (⟨S192x4, .i32⟩ : BufTy).Contents (Elt F)),
    binary main_v139 main_v140 main_v141 (addi : (⟨S192x4, .i32⟩ : BufTy).Contents (Elt F) → (⟨S192x4, .i32⟩ : BufTy).Contents (Elt F) → (⟨S192x4, .i32⟩ : BufTy).Contents (Elt F)),
    TRef.unary (TRef.of (T := ⟨S192x4, .i32⟩) main_v141) (TRef.of (T := ⟨S192x4x1, .i32⟩) main_call18_v0) (broadcastInDim S192x4x1 ![0, 1] bcast_S192x4_S192x4x1_0_1),
    TRef.binary (TRef.of (T := ⟨S8x256x195x195, .f32⟩) main_v132) (TRef.of (T := ⟨S192x4x1, .i32⟩) main_call18_v0) (TRef.of (T := ⟨S8x256x192x4x195, .f32⟩) main_v142) (fun x i => Host.gather gather_S8x256x195x195_S192x4x1_S8x256x192x4x195_014_2_n_n_2_2_82561195 x i),
    nullary main_v143 (iotaInDim S192 32 0),
    unary main_v143 main_v144 (broadcastInDim S192x1 ![0] bcast_S192_S192x1_0 : (⟨S192, .i32⟩ : BufTy).Contents (Elt F) → (⟨S192x1, .i32⟩ : BufTy).Contents (Elt F)),
    nullary main_c_16 (constantI S_ 32 1#32),
    unary main_c_16 main_v145 (broadcastInDim S192x1 ![] bcast_S_S192x1 : (⟨S_, .i32⟩ : BufTy).Contents (Elt F) → (⟨S192x1, .i32⟩ : BufTy).Contents (Elt F)),
    binary main_v145 main_v144 main_v146 (muli : (⟨S192x1, .i32⟩ : BufTy).Contents (Elt F) → (⟨S192x1, .i32⟩ : BufTy).Contents (Elt F) → (⟨S192x1, .i32⟩ : BufTy).Contents (Elt F)),
    nullary main_v147 (iotaInDim S4 32 0),
    unary main_v147 main_v148 (broadcastInDim S1x4 ![1] bcast_S4_S1x4_1 : (⟨S4, .i32⟩ : BufTy).Contents (Elt F) → (⟨S1x4, .i32⟩ : BufTy).Contents (Elt F)),
    unary main_v146 main_v149 (broadcastInDim S192x4 ![0, 1] bcast_S192x1_S192x4_0_1 : (⟨S192x1, .i32⟩ : BufTy).Contents (Elt F) → (⟨S192x4, .i32⟩ : BufTy).Contents (Elt F)),
    unary main_v148 main_v150 (broadcastInDim S192x4 ![0, 1] bcast_S1x4_S192x4_0_1 : (⟨S1x4, .i32⟩ : BufTy).Contents (Elt F) → (⟨S192x4, .i32⟩ : BufTy).Contents (Elt F)),
    binary main_v149 main_v150 main_v151 (addi : (⟨S192x4, .i32⟩ : BufTy).Contents (Elt F) → (⟨S192x4, .i32⟩ : BufTy).Contents (Elt F) → (⟨S192x4, .i32⟩ : BufTy).Contents (Elt F)),
    TRef.unary (TRef.of (T := ⟨S192x4, .i32⟩) main_v151) (TRef.of (T := ⟨S192x4x1, .i32⟩) main_call19_v0) (broadcastInDim S192x4x1 ![0, 1] bcast_S192x4_S192x4x1_0_1),
    TRef.binary (TRef.of (T := ⟨S8x256x192x4x195, .f32⟩) main_v142) (TRef.of (T := ⟨S192x4x1, .i32⟩) main_call19_v0) (TRef.of (T := ⟨S8x256x192x4x192x4, .f32⟩) main_v152) (fun x i => Host.gather gather_S8x256x192x4x195_S192x4x1_S8x256x192x4x192x4_0123_4_n_n_4_2_825619241 x i),
    binary main_v131 main_v152 main_v153 ((fun l r => Host.dotGeneral dot_S128x256x4x4_S8x256x192x4x192x4_S128x8x192x192_123_135_0_024_n_n none l r) : (⟨S128x256x4x4, .f32⟩ : BufTy).Contents (Elt F) → (⟨S8x256x192x4x192x4, .f32⟩ : BufTy).Contents (Elt F) → (⟨S128x8x192x192, .f32⟩ : BufTy).Contents (Elt F)),
    unary main_v153 main_v154 ((transpose S8x128x192x192 [1, 0, 2, 3] · transposes_S128x8x192x192_S8x128x192x192_1_0_2_3) : (⟨S128x8x192x192, .f32⟩ : BufTy).Contents (Elt F) → (⟨S8x128x192x192, .f32⟩ : BufTy).Contents (Elt F)),
    unary main_arg10 main_v155 (broadcastInDim S1x128x1x1 ![1] bcast_S128_S1x128x1x1_1 : (⟨S128, .f32⟩ : BufTy).Contents (Elt F) → (⟨S1x128x1x1, .f32⟩ : BufTy).Contents (Elt F)),
    unary main_v155 main_v156 (broadcastInDim S8x128x192x192 ![0, 1, 2, 3] bcast_S1x128x1x1_S8x128x192x192_0_1_2_3 : (⟨S1x128x1x1, .f32⟩ : BufTy).Contents (Elt F) → (⟨S8x128x192x192, .f32⟩ : BufTy).Contents (Elt F)),
    binary main_v154 main_v156 main_v157 (addf : (⟨S8x128x192x192, .f32⟩ : BufTy).Contents (Elt F) → (⟨S8x128x192x192, .f32⟩ : BufTy).Contents (Elt F) → (⟨S8x128x192x192, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S8x128x192x192, .f32⟩) main_call20_v0) (broadcastInDim S8x128x192x192 ![] bcast_S_S8x128x192x192),
    TRef.binary (TRef.of (T := ⟨S8x128x192x192, .f32⟩) main_v157) (TRef.of (T := ⟨S8x128x192x192, .f32⟩) main_call20_v0) (TRef.of (T := ⟨S8x128x192x192, .f32⟩) main_v158) maximumf ]

/-- Operations 205 to 206 of the reference. -/
abbrev segG1 : List (HloOp τ sig (Elt F)) :=
  [ TRef.unary (TRef.of (T := ⟨S128x3x4x4, .f32⟩) main_arg11) (TRef.of (T := ⟨S128x3x4x4, .f32⟩) main_v159) (Host.reverse [2, 3]),
    unary main_v159 main_v160 ((transpose S3x128x4x4 [1, 0, 2, 3] · transposes_S128x3x4x4_S3x128x4x4_1_0_2_3) : (⟨S128x3x4x4, .f32⟩ : BufTy).Contents (Elt F) → (⟨S3x128x4x4, .f32⟩ : BufTy).Contents (Elt F)) ]

/-- Operations 207 to 237 of the reference. -/
abbrev segG2 : List (HloOp τ sig (Elt F)) :=
  [ nullary main_cst_17 (constant S_ .f32 0x00000000#32),
    binary main_v158 main_cst_17 main_v161 ((fun x v => pad S8x128x387x387 ![0, 0, 2, 2] ![0, 0, 2, 2] ![0, 0, 1, 1] x v pads_S8x128x192x192_S8x128x387x387_000_000_221_221 h_S_) : (⟨S8x128x192x192, .f32⟩ : BufTy).Contents (Elt F) → (⟨S_, .f32⟩ : BufTy).Contents (Elt F) → (⟨S8x128x387x387, .f32⟩ : BufTy).Contents (Elt F)),
    nullary main_v162 (iotaInDim S384 32 0),
    unary main_v162 main_v163 (broadcastInDim S384x1 ![0] bcast_S384_S384x1_0 : (⟨S384, .i32⟩ : BufTy).Contents (Elt F) → (⟨S384x1, .i32⟩ : BufTy).Contents (Elt F)),
    nullary main_c_18 (constantI S_ 32 1#32),
    unary main_c_18 main_v164 (broadcastInDim S384x1 ![] bcast_S_S384x1 : (⟨S_, .i32⟩ : BufTy).Contents (Elt F) → (⟨S384x1, .i32⟩ : BufTy).Contents (Elt F)),
    binary main_v164 main_v163 main_v165 (muli : (⟨S384x1, .i32⟩ : BufTy).Contents (Elt F) → (⟨S384x1, .i32⟩ : BufTy).Contents (Elt F) → (⟨S384x1, .i32⟩ : BufTy).Contents (Elt F)),
    nullary main_v166 (iotaInDim S4 32 0),
    unary main_v166 main_v167 (broadcastInDim S1x4 ![1] bcast_S4_S1x4_1 : (⟨S4, .i32⟩ : BufTy).Contents (Elt F) → (⟨S1x4, .i32⟩ : BufTy).Contents (Elt F)),
    unary main_v165 main_v168 (broadcastInDim S384x4 ![0, 1] bcast_S384x1_S384x4_0_1 : (⟨S384x1, .i32⟩ : BufTy).Contents (Elt F) → (⟨S384x4, .i32⟩ : BufTy).Contents (Elt F)),
    unary main_v167 main_v169 (broadcastInDim S384x4 ![0, 1] bcast_S1x4_S384x4_0_1 : (⟨S1x4, .i32⟩ : BufTy).Contents (Elt F) → (⟨S384x4, .i32⟩ : BufTy).Contents (Elt F)),
    binary main_v168 main_v169 main_v170 (addi : (⟨S384x4, .i32⟩ : BufTy).Contents (Elt F) → (⟨S384x4, .i32⟩ : BufTy).Contents (Elt F) → (⟨S384x4, .i32⟩ : BufTy).Contents (Elt F)),
    TRef.unary (TRef.of (T := ⟨S384x4, .i32⟩) main_v170) (TRef.of (T := ⟨S384x4x1, .i32⟩) main_call22_v0) (broadcastInDim S384x4x1 ![0, 1] bcast_S384x4_S384x4x1_0_1),
    TRef.binary (TRef.of (T := ⟨S8x128x387x387, .f32⟩) main_v161) (TRef.of (T := ⟨S384x4x1, .i32⟩) main_call22_v0) (TRef.of (T := ⟨S8x128x384x4x387, .f32⟩) main_v171) (fun x i => Host.gather gather_S8x128x387x387_S384x4x1_S8x128x384x4x387_014_2_n_n_2_2_81281387 x i),
    nullary main_v172 (iotaInDim S384 32 0),
    unary main_v172 main_v173 (broadcastInDim S384x1 ![0] bcast_S384_S384x1_0 : (⟨S384, .i32⟩ : BufTy).Contents (Elt F) → (⟨S384x1, .i32⟩ : BufTy).Contents (Elt F)),
    nullary main_c_19 (constantI S_ 32 1#32),
    unary main_c_19 main_v174 (broadcastInDim S384x1 ![] bcast_S_S384x1 : (⟨S_, .i32⟩ : BufTy).Contents (Elt F) → (⟨S384x1, .i32⟩ : BufTy).Contents (Elt F)),
    binary main_v174 main_v173 main_v175 (muli : (⟨S384x1, .i32⟩ : BufTy).Contents (Elt F) → (⟨S384x1, .i32⟩ : BufTy).Contents (Elt F) → (⟨S384x1, .i32⟩ : BufTy).Contents (Elt F)),
    nullary main_v176 (iotaInDim S4 32 0),
    unary main_v176 main_v177 (broadcastInDim S1x4 ![1] bcast_S4_S1x4_1 : (⟨S4, .i32⟩ : BufTy).Contents (Elt F) → (⟨S1x4, .i32⟩ : BufTy).Contents (Elt F)),
    unary main_v175 main_v178 (broadcastInDim S384x4 ![0, 1] bcast_S384x1_S384x4_0_1 : (⟨S384x1, .i32⟩ : BufTy).Contents (Elt F) → (⟨S384x4, .i32⟩ : BufTy).Contents (Elt F)),
    unary main_v177 main_v179 (broadcastInDim S384x4 ![0, 1] bcast_S1x4_S384x4_0_1 : (⟨S1x4, .i32⟩ : BufTy).Contents (Elt F) → (⟨S384x4, .i32⟩ : BufTy).Contents (Elt F)),
    binary main_v178 main_v179 main_v180 (addi : (⟨S384x4, .i32⟩ : BufTy).Contents (Elt F) → (⟨S384x4, .i32⟩ : BufTy).Contents (Elt F) → (⟨S384x4, .i32⟩ : BufTy).Contents (Elt F)),
    TRef.unary (TRef.of (T := ⟨S384x4, .i32⟩) main_v180) (TRef.of (T := ⟨S384x4x1, .i32⟩) main_call23_v0) (broadcastInDim S384x4x1 ![0, 1] bcast_S384x4_S384x4x1_0_1),
    TRef.binary (TRef.of (T := ⟨S8x128x384x4x387, .f32⟩) main_v171) (TRef.of (T := ⟨S384x4x1, .i32⟩) main_call23_v0) (TRef.of (T := ⟨S8x128x384x4x384x4, .f32⟩) main_v181) (fun x i => Host.gather gather_S8x128x384x4x387_S384x4x1_S8x128x384x4x384x4_0123_4_n_n_4_2_812838441 x i),
    binary main_v160 main_v181 main_v182 ((fun l r => Host.dotGeneral dot_S3x128x4x4_S8x128x384x4x384x4_S3x8x384x384_123_135_0_024_n_n none l r) : (⟨S3x128x4x4, .f32⟩ : BufTy).Contents (Elt F) → (⟨S8x128x384x4x384x4, .f32⟩ : BufTy).Contents (Elt F) → (⟨S3x8x384x384, .f32⟩ : BufTy).Contents (Elt F)),
    unary main_v182 main_v183 ((transpose S8x3x384x384 [1, 0, 2, 3] · transposes_S3x8x384x384_S8x3x384x384_1_0_2_3) : (⟨S3x8x384x384, .f32⟩ : BufTy).Contents (Elt F) → (⟨S8x3x384x384, .f32⟩ : BufTy).Contents (Elt F)),
    unary main_arg12 main_v184 (broadcastInDim S1x3x1x1 ![1] bcast_S3_S1x3x1x1_1 : (⟨S3, .f32⟩ : BufTy).Contents (Elt F) → (⟨S1x3x1x1, .f32⟩ : BufTy).Contents (Elt F)),
    unary main_v184 main_v185 (broadcastInDim S8x3x384x384 ![0, 1, 2, 3] bcast_S1x3x1x1_S8x3x384x384_0_1_2_3 : (⟨S1x3x1x1, .f32⟩ : BufTy).Contents (Elt F) → (⟨S8x3x384x384, .f32⟩ : BufTy).Contents (Elt F)),
    binary main_v183 main_v185 main_v186 (addf : (⟨S8x3x384x384, .f32⟩ : BufTy).Contents (Elt F) → (⟨S8x3x384x384, .f32⟩ : BufTy).Contents (Elt F) → (⟨S8x3x384x384, .f32⟩ : BufTy).Contents (Elt F)) ]

/-- The operations of the main function's part 0. -/
def part0 : List (HloOp τ sig (Elt F)) := segA ++ (segB)

/-- The operations of the main function's part 1. -/
def part1 : List (HloOp τ sig (Elt F)) := segC ++ (segD ++ (segE1))

/-- The operations of the main function's part 2. -/
def part2 : List (HloOp τ sig (Elt F)) := segE2 ++ (segF ++ (segG1))

/-- The operations of the main function's part 3. -/
def part3 : List (HloOp τ sig (Elt F)) := segG2

/-- All the operations, in order. -/
def ops : List (HloOp τ sig (Elt F)) := part0 ++ (part1 ++ (part2 ++ part3))

set_option maxHeartbeats 4000000 in
theorem part0_eq (c : Dev nD) : main_part0 (F := F) c = seq part0 := rfl

set_option maxHeartbeats 4000000 in
theorem part1_eq (c : Dev nD) : main_part1 (F := F) c = seq part1 := rfl

set_option maxHeartbeats 4000000 in
theorem part2_eq (c : Dev nD) : main_part2 (F := F) c = seq part2 := rfl

set_option maxHeartbeats 4000000 in
theorem part3_eq (c : Dev nD) : main_part3 (F := F) c = seq part3 := rfl

theorem main_eq (c : Dev nD) : main (F := F) c = seq ops := by
  simp only [ops, seq_append, ← part0_eq c, ← part1_eq c, ← part2_eq c, ← part3_eq c]
  rfl

theorem no_scoped_refs : (Finset.univ.filter fun b : Ref sig .tc => b.isScoped) = ∅ := by decide

theorem no_scoped_sems : (Finset.univ.filter fun sm : SemLoc sig => sm.isScoped .tc) = ∅ := by decide

theorem segA_sub : (segA : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩

theorem segA_fresh : (segA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segB_sub : (segB : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩

theorem segB_fresh : (segB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segC_sub : (segC : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩

theorem segC_fresh : (segC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segD_sub : (segD : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., unary_bufs_sub .., binary_bufs_sub .., reshape_bufs_sub ..⟩

theorem segD_fresh : (segD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segE1_sub : (segE1 : List (HloOp τ sig (Elt F))).Forall fun op => op.bufs ⊆ tcRefs τ sig :=
  ⟨unary_bufs_sub .., unary_bufs_sub .., nullary_bufs_sub .., binary_bufs_sub .., nullary_bufs_sub .., unary_bufs_sub ..⟩

theorem segE1_fresh : (segE1 : List (HloOp τ sig (Elt F))).Forall fun op => op.fresh = ∅ :=
  ⟨rfl, rfl, rfl, rfl, rfl, rfl⟩

theorem segE2_sub : (segE2 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩

theorem segE2_fresh : (segE2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segF_sub : (segF : List (HloOp τ sig (Elt F))).Forall fun op => op.bufs ⊆ tcRefs τ sig :=
  ⟨unary_bufs_sub .., unary_bufs_sub .., nullary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub ..⟩

theorem segF_fresh : (segF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segG1_sub : (segG1 : List (HloOp τ sig (Elt F))).Forall fun op => op.bufs ⊆ tcRefs τ sig :=
  ⟨unary_bufs_sub .., unary_bufs_sub ..⟩

theorem segG1_fresh : (segG1 : List (HloOp τ sig (Elt F))).Forall fun op => op.fresh = ∅ :=
  ⟨rfl, rfl⟩

theorem segG2_sub : (segG2 : List (HloOp τ sig (Elt F))).Forall fun op => op.bufs ⊆ tcRefs τ sig :=
  ⟨nullary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩

theorem segG2_fresh : (segG2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub_mem : ∀ op ∈ (ops : List (HloOp τ sig (Elt F))), op.bufs ⊆ tcRefs τ sig := fun op h => by
  simp only [ops, part0, part1, part2, part3, List.mem_append, or_assoc] at h
  rcases h with h | h | h | h | h | h | h | h | h
  exacts [List.forall_iff_forall_mem.mp segA_sub op h, List.forall_iff_forall_mem.mp segB_sub op h, List.forall_iff_forall_mem.mp segC_sub op h, List.forall_iff_forall_mem.mp segD_sub op h, List.forall_iff_forall_mem.mp segE1_sub op h, List.forall_iff_forall_mem.mp segE2_sub op h, List.forall_iff_forall_mem.mp segF_sub op h, List.forall_iff_forall_mem.mp segG1_sub op h, List.forall_iff_forall_mem.mp segG2_sub op h]

theorem ops_fresh_mem : ∀ op ∈ (ops : List (HloOp τ sig (Elt F))), op.fresh = ∅ := fun op h => by
  simp only [ops, part0, part1, part2, part3, List.mem_append, or_assoc] at h
  rcases h with h | h | h | h | h | h | h | h | h
  exacts [List.forall_iff_forall_mem.mp segA_fresh op h, List.forall_iff_forall_mem.mp segB_fresh op h, List.forall_iff_forall_mem.mp segC_fresh op h, List.forall_iff_forall_mem.mp segD_fresh op h, List.forall_iff_forall_mem.mp segE1_fresh op h, List.forall_iff_forall_mem.mp segE2_fresh op h, List.forall_iff_forall_mem.mp segF_fresh op h, List.forall_iff_forall_mem.mp segG1_fresh op h, List.forall_iff_forall_mem.mp segG2_fresh op h]

theorem ops_sub : (ops : List (HloOp τ sig (Elt F))).Forall fun op => op.bufs ⊆ tcRefs τ sig :=
  List.forall_iff_forall_mem.mpr ops_sub_mem

end Cert.ReferenceIdeal.Val
-- ==== Proof.RefSegs.lean ====
module

public import proofs.«01_k».proof.Proof.RefOps

/-!
# What each segment of the reference computes
-/

@[expose] public section

set_option maxRecDepth 8192
set_option maxHeartbeats 2000000

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The first convolution, with its relu. -/
def conv1 (x : Vec F S8x3x384x384 .f32) (w : Vec F S128x3x4x4 .f32) (b : Vec F S128 .f32) : Vec F S8x128x192x192 .f32 :=
  maximumf (addf (transpose S8x128x192x192 [1, 0, 2, 3] (Host.dotGeneral dot_S128x3x4x4_S8x3x192x4x192x4_S128x8x192x192_123_135_0_024_n_n none w (Host.gather gather_S8x3x192x4x386_S192x4x1_S8x3x192x4x192x4_0123_4_n_n_4_2_8319241 (Host.gather gather_S8x3x386x386_S192x4x1_S8x3x192x4x386_014_2_n_n_2_2_831386 (pad S8x3x386x386 ![0, 0, 1, 1] ![0, 0, 1, 1] ![0, 0, 0, 0] x (sitofp .f32 (constantI S_ 32 0#32)) pads_S8x3x384x384_S8x3x386x386_000_000_110_110 h_S_) (broadcastInDim S192x4x1 ![0, 1] bcast_S192x4_S192x4x1_0_1 (addi (broadcastInDim S192x4 ![0, 1] bcast_S192x1_S192x4_0_1 (muli (broadcastInDim S192x1 ![] bcast_S_S192x1 (constantI S_ 32 2#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0)))))) (broadcastInDim S192x4x1 ![0, 1] bcast_S192x4_S192x4x1_0_1 (addi (broadcastInDim S192x4 ![0, 1] bcast_S192x1_S192x4_0_1 (muli (broadcastInDim S192x1 ![] bcast_S_S192x1 (constantI S_ 32 2#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0))))))) transposes_S128x8x192x192_S8x128x192x192_1_0_2_3) (broadcastInDim S8x128x192x192 ![0, 1, 2, 3] bcast_S1x128x1x1_S8x128x192x192_0_1_2_3 (broadcastInDim S1x128x1x1 ![1] bcast_S128_S1x128x1x1_1 b))) (broadcastInDim S8x128x192x192 ![] bcast_S_S8x128x192x192 (constant S_ .f32 0x00000000#32))

/-- The second convolution, with its relu. -/
def conv2 (x : Vec F S8x128x192x192 .f32) (w : Vec F S256x128x4x4 .f32) (b : Vec F S256 .f32) : Vec F S8x256x96x96 .f32 :=
  maximumf (addf (transpose S8x256x96x96 [1, 0, 2, 3] (Host.dotGeneral dot_S256x128x4x4_S8x128x96x4x96x4_S256x8x96x96_123_135_0_024_n_n none w (Host.gather gather_S8x128x96x4x194_S96x4x1_S8x128x96x4x96x4_0123_4_n_n_4_2_81289641 (Host.gather gather_S8x128x194x194_S96x4x1_S8x128x96x4x194_014_2_n_n_2_2_81281194 (pad S8x128x194x194 ![0, 0, 1, 1] ![0, 0, 1, 1] ![0, 0, 0, 0] x (sitofp .f32 (constantI S_ 32 0#32)) pads_S8x128x192x192_S8x128x194x194_000_000_110_110 h_S_) (broadcastInDim S96x4x1 ![0, 1] bcast_S96x4_S96x4x1_0_1 (addi (broadcastInDim S96x4 ![0, 1] bcast_S96x1_S96x4_0_1 (muli (broadcastInDim S96x1 ![] bcast_S_S96x1 (constantI S_ 32 2#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0)))))) (broadcastInDim S96x4x1 ![0, 1] bcast_S96x4_S96x4x1_0_1 (addi (broadcastInDim S96x4 ![0, 1] bcast_S96x1_S96x4_0_1 (muli (broadcastInDim S96x1 ![] bcast_S_S96x1 (constantI S_ 32 2#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0))))))) transposes_S256x8x96x96_S8x256x96x96_1_0_2_3) (broadcastInDim S8x256x96x96 ![0, 1, 2, 3] bcast_S1x256x1x1_S8x256x96x96_0_1_2_3 (broadcastInDim S1x256x1x1 ![1] bcast_S256_S1x256x1x1_1 b))) (broadcastInDim S8x256x96x96 ![] bcast_S_S8x256x96x96 (constant S_ .f32 0x00000000#32))

/-- The third convolution. -/
def conv3 (x : Vec F S8x256x96x96 .f32) (w : Vec F S64x256x4x4 .f32) (b : Vec F S64 .f32) : Vec F S8x64x48x48 .f32 :=
  addf (transpose S8x64x48x48 [1, 0, 2, 3] (Host.dotGeneral dot_S64x256x4x4_S8x256x48x4x48x4_S64x8x48x48_123_135_0_024_n_n none w (Host.gather gather_S8x256x48x4x98_S48x4x1_S8x256x48x4x48x4_0123_4_n_n_4_2_82564841 (Host.gather gather_S8x256x98x98_S48x4x1_S8x256x48x4x98_014_2_n_n_2_2_8256198 (pad S8x256x98x98 ![0, 0, 1, 1] ![0, 0, 1, 1] ![0, 0, 0, 0] x (sitofp .f32 (constantI S_ 32 0#32)) pads_S8x256x96x96_S8x256x98x98_000_000_110_110 h_S_) (broadcastInDim S48x4x1 ![0, 1] bcast_S48x4_S48x4x1_0_1 (addi (broadcastInDim S48x4 ![0, 1] bcast_S48x1_S48x4_0_1 (muli (broadcastInDim S48x1 ![] bcast_S_S48x1 (constantI S_ 32 2#32)) (broadcastInDim S48x1 ![0] bcast_S48_S48x1_0 (iotaInDim S48 32 0)))) (broadcastInDim S48x4 ![0, 1] bcast_S1x4_S48x4_0_1 (broadcastInDim S1x4 ![1] bcast_S4_S1x4_1 (iotaInDim S4 32 0)))))) (broadcastInDim S48x4x1 ![0, 1] bcast_S48x4_S48x4x1_0_1 (addi (broadcastInDim S48x4 ![0, 1] bcast_S48x1_S48x4_0_1 (muli (broadcastInDim S48x1 ![] bcast_S_S48x1 (constantI S_ 32 2#32)) (broadcastInDim S48x1 ![0] bcast_S48_S48x1_0 (iotaInDim S48 32 0)))) (broadcastInDim S48x4 ![0, 1] bcast_S1x4_S48x4_0_1 (broadcastInDim S1x4 ![1] bcast_S4_S1x4_1 (iotaInDim S4 32 0))))))) transposes_S64x8x48x48_S8x64x48x48_1_0_2_3) (broadcastInDim S8x64x48x48 ![0, 1, 2, 3] bcast_S1x64x1x1_S8x64x48x48_0_1_2_3 (broadcastInDim S1x64x1x1 ![1] bcast_S64_S1x64x1x1_1 b))

/-- The first transposed convolution, with its relu. -/
def deconv1 (x : Vec F S8x64x48x48 .f32) (w : Vec F S64x256x4x4 .f32) (b : Vec F S256 .f32) : Vec F S8x256x96x96 .f32 :=
  maximumf (addf (transpose S8x256x96x96 [1, 0, 2, 3] (Host.dotGeneral dot_S256x64x4x4_S8x64x96x4x96x4_S256x8x96x96_123_135_0_024_n_n none (transpose S256x64x4x4 [1, 0, 2, 3] (Host.reverse [2, 3] w) transposes_S64x256x4x4_S256x64x4x4_1_0_2_3) (Host.gather gather_S8x64x96x4x99_S96x4x1_S8x64x96x4x96x4_0123_4_n_n_4_2_8649641 (Host.gather gather_S8x64x99x99_S96x4x1_S8x64x96x4x99_014_2_n_n_2_2_864199 (pad S8x64x99x99 ![0, 0, 2, 2] ![0, 0, 2, 2] ![0, 0, 1, 1] x (constant S_ .f32 0x00000000#32) pads_S8x64x48x48_S8x64x99x99_000_000_221_221 h_S_) (broadcastInDim S96x4x1 ![0, 1] bcast_S96x4_S96x4x1_0_1 (addi (broadcastInDim S96x4 ![0, 1] bcast_S96x1_S96x4_0_1 (muli (broadcastInDim S96x1 ![] bcast_S_S96x1 (constantI S_ 32 1#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0)))))) (broadcastInDim S96x4x1 ![0, 1] bcast_S96x4_S96x4x1_0_1 (addi (broadcastInDim S96x4 ![0, 1] bcast_S96x1_S96x4_0_1 (muli (broadcastInDim S96x1 ![] bcast_S_S96x1 (constantI S_ 32 1#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0))))))) transposes_S256x8x96x96_S8x256x96x96_1_0_2_3) (broadcastInDim S8x256x96x96 ![0, 1, 2, 3] bcast_S1x256x1x1_S8x256x96x96_0_1_2_3 (broadcastInDim S1x256x1x1 ![1] bcast_S256_S1x256x1x1_1 b))) (broadcastInDim S8x256x96x96 ![] bcast_S_S8x256x96x96 (constant S_ .f32 0x00000000#32))

/-- The second transposed convolution, with its relu. -/
def deconv2 (x : Vec F S8x256x96x96 .f32) (w : Vec F S256x128x4x4 .f32) (b : Vec F S128 .f32) : Vec F S8x128x192x192 .f32 :=
  maximumf (addf (transpose S8x128x192x192 [1, 0, 2, 3] (Host.dotGeneral dot_S128x256x4x4_S8x256x192x4x192x4_S128x8x192x192_123_135_0_024_n_n none (transpose S128x256x4x4 [1, 0, 2, 3] (Host.reverse [2, 3] w) transposes_S256x128x4x4_S128x256x4x4_1_0_2_3) (Host.gather gather_S8x256x192x4x195_S192x4x1_S8x256x192x4x192x4_0123_4_n_n_4_2_825619241 (Host.gather gather_S8x256x195x195_S192x4x1_S8x256x192x4x195_014_2_n_n_2_2_82561195 (pad S8x256x195x195 ![0, 0, 2, 2] ![0, 0, 2, 2] ![0, 0, 1, 1] x (constant S_ .f32 0x00000000#32) pads_S8x256x96x96_S8x256x195x195_000_000_221_221 h_S_) (broadcastInDim S192x4x1 ![0, 1] bcast_S192x4_S192x4x1_0_1 (addi (broadcastInDim S192x4 ![0, 1] bcast_S192x1_S192x4_0_1 (muli (broadcastInDim S192x1 ![] bcast_S_S192x1 (constantI S_ 32 1#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0)))))) (broadcastInDim S192x4x1 ![0, 1] bcast_S192x4_S192x4x1_0_1 (addi (broadcastInDim S192x4 ![0, 1] bcast_S192x1_S192x4_0_1 (muli (broadcastInDim S192x1 ![] bcast_S_S192x1 (constantI S_ 32 1#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0))))))) transposes_S128x8x192x192_S8x128x192x192_1_0_2_3) (broadcastInDim S8x128x192x192 ![0, 1, 2, 3] bcast_S1x128x1x1_S8x128x192x192_0_1_2_3 (broadcastInDim S1x128x1x1 ![1] bcast_S128_S1x128x1x1_1 b))) (broadcastInDim S8x128x192x192 ![] bcast_S_S8x128x192x192 (constant S_ .f32 0x00000000#32))

/-- The third transposed convolution. -/
def deconv3 (x : Vec F S8x128x192x192 .f32) (w : Vec F S128x3x4x4 .f32) (b : Vec F S3 .f32) : Vec F S8x3x384x384 .f32 :=
  addf (transpose S8x3x384x384 [1, 0, 2, 3] (Host.dotGeneral dot_S3x128x4x4_S8x128x384x4x384x4_S3x8x384x384_123_135_0_024_n_n none (transpose S3x128x4x4 [1, 0, 2, 3] (Host.reverse [2, 3] w) transposes_S128x3x4x4_S3x128x4x4_1_0_2_3) (Host.gather gather_S8x128x384x4x387_S384x4x1_S8x128x384x4x384x4_0123_4_n_n_4_2_812838441 (Host.gather gather_S8x128x387x387_S384x4x1_S8x128x384x4x387_014_2_n_n_2_2_81281387 (pad S8x128x387x387 ![0, 0, 2, 2] ![0, 0, 2, 2] ![0, 0, 1, 1] x (constant S_ .f32 0x00000000#32) pads_S8x128x192x192_S8x128x387x387_000_000_221_221 h_S_) (broadcastInDim S384x4x1 ![0, 1] bcast_S384x4_S384x4x1_0_1 (addi (broadcastInDim S384x4 ![0, 1] bcast_S384x1_S384x4_0_1 (muli (broadcastInDim S384x1 ![] bcast_S_S384x1 (constantI S_ 32 1#32)) (broadcastInDim S384x1 ![0] bcast_S384_S384x1_0 (iotaInDim S384 32 0)))) (broadcastInDim S384x4 ![0, 1] bcast_S1x4_S384x4_0_1 (broadcastInDim S1x4 ![1] bcast_S4_S1x4_1 (iotaInDim S4 32 0)))))) (broadcastInDim S384x4x1 ![0, 1] bcast_S384x4_S384x4x1_0_1 (addi (broadcastInDim S384x4 ![0, 1] bcast_S384x1_S384x4_0_1 (muli (broadcastInDim S384x1 ![] bcast_S_S384x1 (constantI S_ 32 1#32)) (broadcastInDim S384x1 ![0] bcast_S384_S384x1_0 (iotaInDim S384 32 0)))) (broadcastInDim S384x4 ![0, 1] bcast_S1x4_S384x4_0_1 (broadcastInDim S1x4 ![1] bcast_S4_S1x4_1 (iotaInDim S4 32 0))))))) transposes_S3x8x384x384_S8x3x384x384_1_0_2_3) (broadcastInDim S8x3x384x384 ![0, 1, 2, 3] bcast_S1x3x1x1_S8x3x384x384_0_1_2_3 (broadcastInDim S1x3x1x1 ![1] bcast_S3_S1x3x1x1_1 b))

/-- The rows to be matched: the third convolution read as 18432 rows of 64. -/
def flat (z : Vec F S8x64x48x48 .f32) : Vec F S18432x64 .f32 :=
  shapeCast S18432x64 z shapeCasts_S8x64x48x48_S18432x64

/-- The distances of the rows to the codebook's rows. -/
def dists (f : Vec F S18432x64 .f32) (e : Vec F S1024x64 .f32) : Vec F S18432x1024 .f32 :=
  Host.sqrt (maximumf (subf (addf (broadcastInDim S18432x1024 ![0, 1] bcast_S18432x1_S18432x1024_0_1 (broadcastInDim S18432x1 ![0] bcast_S18432_S18432x1_0 (Host.reduceAdd (mulf f f) (constant S_ .f32 0x00000000#32) reducesTo_S18432x64_S18432_d1 h_S_))) (broadcastInDim S18432x1024 ![0, 1] bcast_S1x1024_S18432x1024_0_1 (broadcastInDim S1x1024 ![1] bcast_S1024_S1x1024_1 (Host.reduceAdd (mulf e e) (constant S_ .f32 0x00000000#32) reducesTo_S1024x64_S1024_d1 h_S_)))) (Host.dotGeneral dot_S18432x64_S64x1024_S18432x1024_1_0_0_1_n_n none (mulf (broadcastInDim S18432x64 ![] bcast_S_S18432x64 (constant S_ .f32 0x40000000#32)) f) (transpose S64x1024 [1, 0] e transposes_S1024x64_S64x1024_1_0))) (broadcastInDim S18432x1024 ![] bcast_S_S18432x1024 (constant S_ .f32 0x00000000#32)))

/-- The index of the first smallest distance of each row. -/
def first (d : Vec F S18432x1024 .f32) : Vec F S18432 .i32 :=
  fun j => (Host.argReduce reducer_argmin_f32_i32 d (iotaInDim S18432x1024 32 1) (constant S_ .f32 0x7F800000#32) (constantI S_ 32 0#32) reducesTo_S18432x1024_S18432_d1 h_S_ j).2

/-- The codebook's rows at the indices. -/
def rows (e : Vec F S1024x64 .f32) (i : Vec F S18432 .i32) : Vec F S8x64x48x48 .f32 :=
  shapeCast S8x64x48x48 (Host.gather gather_S1024x64_S18432x1_S18432x64_1_0_n_n_0_1_164 e (broadcastInDim S18432x1 ![0] bcast_S18432_S18432x1_0 i)) shapeCasts_S18432x64_S8x64x48x48

/-! The segments compute these. -/

theorem segA_val (V : Valuation τ sig (Elt F)) : after segA V (Proc.devRef .tc main_v26)
    = conv1 (V (Proc.devRef .tc main_arg0)) (V (Proc.devRef .tc main_arg1)) (V (Proc.devRef .tc main_arg2)) := by
  simp only [segA, TRef.nullary, TRef.unary, TRef.binary, TRef.quaternary, TRef.toBuf, TRef.ofBuf, cast_eq]
  after_results_simp
  rfl

theorem segB_val (V : Valuation τ sig (Elt F)) : after segB V (Proc.devRef .tc main_v53)
    = conv2 (V (Proc.devRef .tc main_v26)) (V (Proc.devRef .tc main_arg3)) (V (Proc.devRef .tc main_arg4)) := by
  simp only [segB, TRef.nullary, TRef.unary, TRef.binary, TRef.quaternary, TRef.toBuf, TRef.ofBuf, cast_eq]
  after_results_simp
  rfl

theorem segC_val (V : Valuation τ sig (Elt F)) : after segC V (Proc.devRef .tc main_v79)
    = conv3 (V (Proc.devRef .tc main_v53)) (V (Proc.devRef .tc main_arg5)) (V (Proc.devRef .tc main_arg6)) := by
  simp only [segC, TRef.nullary, TRef.unary, TRef.binary, TRef.quaternary, TRef.toBuf, TRef.ofBuf, cast_eq]
  after_results_simp
  rfl

theorem segE1_val (V : Valuation τ sig (Elt F)) : after segE2 (after segE1 V) (Proc.devRef .tc main_v129)
    = deconv1 (V (Proc.devRef .tc main_v100)) (V (Proc.devRef .tc main_arg7)) (V (Proc.devRef .tc main_arg8)) := by
  rw [← after_append]
  simp only [segE1, segE2, TRef.nullary, TRef.unary, TRef.binary, TRef.quaternary, TRef.toBuf, TRef.ofBuf, cast_eq, List.cons_append, List.nil_append]
  after_results_simp
  rfl

theorem segF_val (V : Valuation τ sig (Elt F)) : after segF V (Proc.devRef .tc main_v158)
    = deconv2 (V (Proc.devRef .tc main_v129)) (V (Proc.devRef .tc main_arg9)) (V (Proc.devRef .tc main_arg10)) := by
  simp only [segF, TRef.nullary, TRef.unary, TRef.binary, TRef.quaternary, TRef.toBuf, TRef.ofBuf, cast_eq]
  after_results_simp
  rfl

theorem segG1_val (V : Valuation τ sig (Elt F)) : after segG2 (after segG1 V) (Proc.devRef .tc main_v186)
    = deconv3 (V (Proc.devRef .tc main_v158)) (V (Proc.devRef .tc main_arg11)) (V (Proc.devRef .tc main_arg12)) := by
  rw [← after_append]
  simp only [segG1, segG2, TRef.nullary, TRef.unary, TRef.binary, TRef.quaternary, TRef.toBuf, TRef.ofBuf, cast_eq, List.cons_append, List.nil_append]
  after_results_simp
  rfl

theorem segD_val_v98 (V : Valuation τ sig (Elt F)) : after segD V (Proc.devRef .tc main_v98)
    = first (dists (flat (V (Proc.devRef .tc main_v79))) (V (Proc.devRef .tc main_arg13))) := by
  simp only [segD, TRef.nullary, TRef.unary, TRef.binary, TRef.quaternary, TRef.toBuf, TRef.ofBuf, cast_eq]
  after_results_simp
  rfl

theorem segD_val_v100 (V : Valuation τ sig (Elt F)) : after segD V (Proc.devRef .tc main_v100)
    = rows (V (Proc.devRef .tc main_arg13)) (first (dists (flat (V (Proc.devRef .tc main_v79))) (V (Proc.devRef .tc main_arg13)))) := by
  simp only [segD, TRef.nullary, TRef.unary, TRef.binary, TRef.quaternary, TRef.toBuf, TRef.ofBuf, cast_eq]
  after_results_simp
  rfl

end Cert.ReferenceIdeal.Val
-- ==== Proof.RefRun.lean ====
module

public import proofs.«01_k».proof.Proof.RefSegs

/-!
# The reference's run: its four results as functions of its arguments
-/

@[expose] public section

set_option maxRecDepth 8192
set_option maxHeartbeats 2000000

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The buffers `segA` writes. -/
def segA_W : List (Ref sig .tc) := [main_c, main_call0_v0, main_v0, main_v1, main_v2, main_c_0, main_v3, main_v4, main_v5, main_v6, main_v7, main_v8, main_v9, main_call1_v0, main_v10, main_v11, main_v12, main_c_1, main_v13, main_v14, main_v15, main_v16, main_v17, main_v18, main_v19, main_call2_v0, main_v20, main_v21, main_v22, main_v23, main_v24, main_v25, main_call3_cst, main_call3_v0, main_v26]

theorem segA_writes : (segA : List (HloOp τ sig (Elt F))).Forall fun op => op.writes ⊆ (segA_W.map (Proc.devRef (τ := τ) .tc)).toFinset := by
  simp only [segA, List.Forall]
  and_intros <;>
    (simp only [nullary_writes, unary_writes, binary_writes, quaternary_writes, reshape_writes, Finset.singleton_subset_iff, List.mem_toFinset]
     exact List.mem_map_of_mem (by decide))

theorem segA_keep (V : Valuation τ sig (Elt F)) (r : Ref sig .tc) (h : r ∉ segA_W) :
    after segA V (Proc.devRef .tc r) = V (Proc.devRef .tc r) :=
  after_of_writes_sub segA _ segA_writes h

/-- The buffers `segB` writes. -/
def segB_W : List (Ref sig .tc) := [main_c_2, main_call4_v0, main_v27, main_v28, main_v29, main_c_3, main_v30, main_v31, main_v32, main_v33, main_v34, main_v35, main_v36, main_call5_v0, main_v37, main_v38, main_v39, main_c_4, main_v40, main_v41, main_v42, main_v43, main_v44, main_v45, main_v46, main_call6_v0, main_v47, main_v48, main_v49, main_v50, main_v51, main_v52, main_call7_cst, main_call7_v0, main_v53]

theorem segB_writes : (segB : List (HloOp τ sig (Elt F))).Forall fun op => op.writes ⊆ (segB_W.map (Proc.devRef (τ := τ) .tc)).toFinset := by
  simp only [segB, List.Forall]
  and_intros <;>
    (simp only [nullary_writes, unary_writes, binary_writes, quaternary_writes, reshape_writes, Finset.singleton_subset_iff, List.mem_toFinset]
     exact List.mem_map_of_mem (by decide))

theorem segB_keep (V : Valuation τ sig (Elt F)) (r : Ref sig .tc) (h : r ∉ segB_W) :
    after segB V (Proc.devRef .tc r) = V (Proc.devRef .tc r) :=
  after_of_writes_sub segB _ segB_writes h

/-- The buffers `segC` writes. -/
def segC_W : List (Ref sig .tc) := [main_c_5, main_call8_v0, main_v54, main_v55, main_v56, main_c_6, main_v57, main_v58, main_v59, main_v60, main_v61, main_v62, main_v63, main_call9_v0, main_v64, main_v65, main_v66, main_c_7, main_v67, main_v68, main_v69, main_v70, main_v71, main_v72, main_v73, main_call10_v0, main_v74, main_v75, main_v76, main_v77, main_v78, main_v79]

theorem segC_writes : (segC : List (HloOp τ sig (Elt F))).Forall fun op => op.writes ⊆ (segC_W.map (Proc.devRef (τ := τ) .tc)).toFinset := by
  simp only [segC, List.Forall]
  and_intros <;>
    (simp only [nullary_writes, unary_writes, binary_writes, quaternary_writes, reshape_writes, Finset.singleton_subset_iff, List.mem_toFinset]
     exact List.mem_map_of_mem (by decide))

theorem segC_keep (V : Valuation τ sig (Elt F)) (r : Ref sig .tc) (h : r ∉ segC_W) :
    after segC V (Proc.devRef .tc r) = V (Proc.devRef .tc r) :=
  after_of_writes_sub segC _ segC_writes h

/-- The buffers `segD` writes. -/
def segD_W : List (Ref sig .tc) := [main_v80, main_v81, main_cst, main_v82, main_v83, main_v84, main_cst_8, main_v85, main_v86, main_v87, main_v88, main_v89, main_cst_9, main_v90, main_v91, main_v92, main_v93, main_v94, main_cst_10, main_v95, main_v96, main_v97, main_call11_v0, main_call11_cst, main_call11_c, main_call11_v1_0, main_v98, main_call12_v0, main_v99, main_v100]

theorem segD_writes : (segD : List (HloOp τ sig (Elt F))).Forall fun op => op.writes ⊆ (segD_W.map (Proc.devRef (τ := τ) .tc)).toFinset := by
  simp only [segD, List.Forall]
  and_intros <;>
    (simp only [nullary_writes, unary_writes, binary_writes, quaternary_writes, reshape_writes, Finset.singleton_subset_iff, List.mem_toFinset]
     exact List.mem_map_of_mem (by decide))

theorem segD_keep (V : Valuation τ sig (Elt F)) (r : Ref sig .tc) (h : r ∉ segD_W) :
    after segD V (Proc.devRef .tc r) = V (Proc.devRef .tc r) :=
  after_of_writes_sub segD _ segD_writes h

/-- The buffers `segE1` writes. -/
def segE1_W : List (Ref sig .tc) := [main_v101, main_v102, main_cst_11, main_v103, main_v104, main_v105]

theorem segE1_writes : (segE1 : List (HloOp τ sig (Elt F))).Forall fun op => op.writes ⊆ (segE1_W.map (Proc.devRef (τ := τ) .tc)).toFinset := by
  simp only [segE1, List.Forall]
  and_intros <;>
    (simp only [nullary_writes, unary_writes, binary_writes, quaternary_writes, reshape_writes, Finset.singleton_subset_iff, List.mem_toFinset]
     exact List.mem_map_of_mem (by decide))

theorem segE1_keep (V : Valuation τ sig (Elt F)) (r : Ref sig .tc) (h : r ∉ segE1_W) :
    after segE1 V (Proc.devRef .tc r) = V (Proc.devRef .tc r) :=
  after_of_writes_sub segE1 _ segE1_writes h

/-- The buffers `segE2` writes. -/
def segE2_W : List (Ref sig .tc) := [main_c_12, main_v106, main_v107, main_v108, main_v109, main_v110, main_v111, main_v112, main_call14_v0, main_v113, main_v114, main_v115, main_c_13, main_v116, main_v117, main_v118, main_v119, main_v120, main_v121, main_v122, main_call15_v0, main_v123, main_v124, main_v125, main_v126, main_v127, main_v128, main_call16_cst, main_call16_v0, main_v129]

theorem segE2_writes : (segE2 : List (HloOp τ sig (Elt F))).Forall fun op => op.writes ⊆ (segE2_W.map (Proc.devRef (τ := τ) .tc)).toFinset := by
  simp only [segE2, List.Forall]
  and_intros <;>
    (simp only [nullary_writes, unary_writes, binary_writes, quaternary_writes, reshape_writes, Finset.singleton_subset_iff, List.mem_toFinset]
     exact List.mem_map_of_mem (by decide))

theorem segE2_keep (V : Valuation τ sig (Elt F)) (r : Ref sig .tc) (h : r ∉ segE2_W) :
    after segE2 V (Proc.devRef .tc r) = V (Proc.devRef .tc r) :=
  after_of_writes_sub segE2 _ segE2_writes h

/-- The buffers `segF` writes. -/
def segF_W : List (Ref sig .tc) := [main_v130, main_v131, main_cst_14, main_v132, main_v133, main_v134, main_c_15, main_v135, main_v136, main_v137, main_v138, main_v139, main_v140, main_v141, main_call18_v0, main_v142, main_v143, main_v144, main_c_16, main_v145, main_v146, main_v147, main_v148, main_v149, main_v150, main_v151, main_call19_v0, main_v152, main_v153, main_v154, main_v155, main_v156, main_v157, main_call20_cst, main_call20_v0, main_v158]

theorem segF_writes : (segF : List (HloOp τ sig (Elt F))).Forall fun op => op.writes ⊆ (segF_W.map (Proc.devRef (τ := τ) .tc)).toFinset := by
  simp only [segF, List.Forall]
  and_intros <;>
    (simp only [nullary_writes, unary_writes, binary_writes, quaternary_writes, reshape_writes, Finset.singleton_subset_iff, List.mem_toFinset]
     exact List.mem_map_of_mem (by decide))

theorem segF_keep (V : Valuation τ sig (Elt F)) (r : Ref sig .tc) (h : r ∉ segF_W) :
    after segF V (Proc.devRef .tc r) = V (Proc.devRef .tc r) :=
  after_of_writes_sub segF _ segF_writes h

/-- The buffers `segG1` writes. -/
def segG1_W : List (Ref sig .tc) := [main_v159, main_v160]

theorem segG1_writes : (segG1 : List (HloOp τ sig (Elt F))).Forall fun op => op.writes ⊆ (segG1_W.map (Proc.devRef (τ := τ) .tc)).toFinset := by
  simp only [segG1, List.Forall]
  and_intros <;>
    (simp only [nullary_writes, unary_writes, binary_writes, quaternary_writes, reshape_writes, Finset.singleton_subset_iff, List.mem_toFinset]
     exact List.mem_map_of_mem (by decide))

theorem segG1_keep (V : Valuation τ sig (Elt F)) (r : Ref sig .tc) (h : r ∉ segG1_W) :
    after segG1 V (Proc.devRef .tc r) = V (Proc.devRef .tc r) :=
  after_of_writes_sub segG1 _ segG1_writes h

/-- The buffers `segG2` writes. -/
def segG2_W : List (Ref sig .tc) := [main_cst_17, main_v161, main_v162, main_v163, main_c_18, main_v164, main_v165, main_v166, main_v167, main_v168, main_v169, main_v170, main_call22_v0, main_v171, main_v172, main_v173, main_c_19, main_v174, main_v175, main_v176, main_v177, main_v178, main_v179, main_v180, main_call23_v0, main_v181, main_v182, main_v183, main_v184, main_v185, main_v186]

theorem segG2_writes : (segG2 : List (HloOp τ sig (Elt F))).Forall fun op => op.writes ⊆ (segG2_W.map (Proc.devRef (τ := τ) .tc)).toFinset := by
  simp only [segG2, List.Forall]
  and_intros <;>
    (simp only [nullary_writes, unary_writes, binary_writes, quaternary_writes, reshape_writes, Finset.singleton_subset_iff, List.mem_toFinset]
     exact List.mem_map_of_mem (by decide))

theorem segG2_keep (V : Valuation τ sig (Elt F)) (r : Ref sig .tc) (h : r ∉ segG2_W) :
    after segG2 V (Proc.devRef .tc r) = V (Proc.devRef .tc r) :=
  after_of_writes_sub segG2 _ segG2_writes h

/-- The contents after each segment. -/
def U1 (V : Valuation τ sig (Elt F)) : Valuation τ sig (Elt F) := after segA V
def U2 (V : Valuation τ sig (Elt F)) : Valuation τ sig (Elt F) := after segB (U1 V)
def U3 (V : Valuation τ sig (Elt F)) : Valuation τ sig (Elt F) := after segC (U2 V)
def U4 (V : Valuation τ sig (Elt F)) : Valuation τ sig (Elt F) := after segD (U3 V)
def U5 (V : Valuation τ sig (Elt F)) : Valuation τ sig (Elt F) := after segE2 (after segE1 (U4 V))
def U6 (V : Valuation τ sig (Elt F)) : Valuation τ sig (Elt F) := after segF (U5 V)
def U7 (V : Valuation τ sig (Elt F)) : Valuation τ sig (Elt F) := after segG2 (after segG1 (U6 V))

theorem after_ops (V : Valuation τ sig (Elt F)) : after ops V = U7 V := by
  simp only [ops, part0, part1, part2, part3, after_append]
  rfl

/-- A buffer no segment writes up to the given one is as at the start. -/
theorem U1_of (V : Valuation τ sig (Elt F)) (r : Ref sig .tc) (h1 : r ∉ segA_W) : U1 V (Proc.devRef .tc r) = V (Proc.devRef .tc r) :=
  segA_keep V r h1
theorem U2_of (V : Valuation τ sig (Elt F)) (r : Ref sig .tc) (h : r ∉ segB_W) : U2 V (Proc.devRef .tc r) = U1 V (Proc.devRef .tc r) :=
  segB_keep _ r h
theorem U3_of (V : Valuation τ sig (Elt F)) (r : Ref sig .tc) (h : r ∉ segC_W) : U3 V (Proc.devRef .tc r) = U2 V (Proc.devRef .tc r) :=
  segC_keep _ r h
theorem U4_of (V : Valuation τ sig (Elt F)) (r : Ref sig .tc) (h : r ∉ segD_W) : U4 V (Proc.devRef .tc r) = U3 V (Proc.devRef .tc r) :=
  segD_keep _ r h
theorem U5_of (V : Valuation τ sig (Elt F)) (r : Ref sig .tc) (h : r ∉ segE1_W) (h' : r ∉ segE2_W) :
    U5 V (Proc.devRef .tc r) = U4 V (Proc.devRef .tc r) :=
  (segE2_keep _ r h').trans (segE1_keep _ r h)
theorem U6_of (V : Valuation τ sig (Elt F)) (r : Ref sig .tc) (h : r ∉ segF_W) : U6 V (Proc.devRef .tc r) = U5 V (Proc.devRef .tc r) :=
  segF_keep _ r h
theorem U7_of (V : Valuation τ sig (Elt F)) (r : Ref sig .tc) (h : r ∉ segG1_W) (h' : r ∉ segG2_W) :
    U7 V (Proc.devRef .tc r) = U6 V (Proc.devRef .tc r) :=
  (segG2_keep _ r h').trans (segG1_keep _ r h)

theorem U7_arg0 (V : Valuation τ sig (Elt F)) : U7 V (Proc.devRef .tc main_arg0) = V (Proc.devRef .tc main_arg0) :=
  ((U7_of V main_arg0 (by decide) (by decide)).trans ((U6_of V main_arg0 (by decide)).trans ((U5_of V main_arg0 (by decide) (by decide)).trans ((U4_of V main_arg0 (by decide)).trans ((U3_of V main_arg0 (by decide)).trans ((U2_of V main_arg0 (by decide)).trans (U1_of V main_arg0 (by decide))))))))

theorem U7_arg1 (V : Valuation τ sig (Elt F)) : U7 V (Proc.devRef .tc main_arg1) = V (Proc.devRef .tc main_arg1) :=
  ((U7_of V main_arg1 (by decide) (by decide)).trans ((U6_of V main_arg1 (by decide)).trans ((U5_of V main_arg1 (by decide) (by decide)).trans ((U4_of V main_arg1 (by decide)).trans ((U3_of V main_arg1 (by decide)).trans ((U2_of V main_arg1 (by decide)).trans (U1_of V main_arg1 (by decide))))))))

theorem U7_arg2 (V : Valuation τ sig (Elt F)) : U7 V (Proc.devRef .tc main_arg2) = V (Proc.devRef .tc main_arg2) :=
  ((U7_of V main_arg2 (by decide) (by decide)).trans ((U6_of V main_arg2 (by decide)).trans ((U5_of V main_arg2 (by decide) (by decide)).trans ((U4_of V main_arg2 (by decide)).trans ((U3_of V main_arg2 (by decide)).trans ((U2_of V main_arg2 (by decide)).trans (U1_of V main_arg2 (by decide))))))))

theorem U7_arg3 (V : Valuation τ sig (Elt F)) : U7 V (Proc.devRef .tc main_arg3) = V (Proc.devRef .tc main_arg3) :=
  ((U7_of V main_arg3 (by decide) (by decide)).trans ((U6_of V main_arg3 (by decide)).trans ((U5_of V main_arg3 (by decide) (by decide)).trans ((U4_of V main_arg3 (by decide)).trans ((U3_of V main_arg3 (by decide)).trans ((U2_of V main_arg3 (by decide)).trans (U1_of V main_arg3 (by decide))))))))

theorem U7_arg4 (V : Valuation τ sig (Elt F)) : U7 V (Proc.devRef .tc main_arg4) = V (Proc.devRef .tc main_arg4) :=
  ((U7_of V main_arg4 (by decide) (by decide)).trans ((U6_of V main_arg4 (by decide)).trans ((U5_of V main_arg4 (by decide) (by decide)).trans ((U4_of V main_arg4 (by decide)).trans ((U3_of V main_arg4 (by decide)).trans ((U2_of V main_arg4 (by decide)).trans (U1_of V main_arg4 (by decide))))))))

theorem U7_arg5 (V : Valuation τ sig (Elt F)) : U7 V (Proc.devRef .tc main_arg5) = V (Proc.devRef .tc main_arg5) :=
  ((U7_of V main_arg5 (by decide) (by decide)).trans ((U6_of V main_arg5 (by decide)).trans ((U5_of V main_arg5 (by decide) (by decide)).trans ((U4_of V main_arg5 (by decide)).trans ((U3_of V main_arg5 (by decide)).trans ((U2_of V main_arg5 (by decide)).trans (U1_of V main_arg5 (by decide))))))))

theorem U7_arg6 (V : Valuation τ sig (Elt F)) : U7 V (Proc.devRef .tc main_arg6) = V (Proc.devRef .tc main_arg6) :=
  ((U7_of V main_arg6 (by decide) (by decide)).trans ((U6_of V main_arg6 (by decide)).trans ((U5_of V main_arg6 (by decide) (by decide)).trans ((U4_of V main_arg6 (by decide)).trans ((U3_of V main_arg6 (by decide)).trans ((U2_of V main_arg6 (by decide)).trans (U1_of V main_arg6 (by decide))))))))

theorem U7_arg7 (V : Valuation τ sig (Elt F)) : U7 V (Proc.devRef .tc main_arg7) = V (Proc.devRef .tc main_arg7) :=
  ((U7_of V main_arg7 (by decide) (by decide)).trans ((U6_of V main_arg7 (by decide)).trans ((U5_of V main_arg7 (by decide) (by decide)).trans ((U4_of V main_arg7 (by decide)).trans ((U3_of V main_arg7 (by decide)).trans ((U2_of V main_arg7 (by decide)).trans (U1_of V main_arg7 (by decide))))))))

theorem U7_arg8 (V : Valuation τ sig (Elt F)) : U7 V (Proc.devRef .tc main_arg8) = V (Proc.devRef .tc main_arg8) :=
  ((U7_of V main_arg8 (by decide) (by decide)).trans ((U6_of V main_arg8 (by decide)).trans ((U5_of V main_arg8 (by decide) (by decide)).trans ((U4_of V main_arg8 (by decide)).trans ((U3_of V main_arg8 (by decide)).trans ((U2_of V main_arg8 (by decide)).trans (U1_of V main_arg8 (by decide))))))))

theorem U7_arg9 (V : Valuation τ sig (Elt F)) : U7 V (Proc.devRef .tc main_arg9) = V (Proc.devRef .tc main_arg9) :=
  ((U7_of V main_arg9 (by decide) (by decide)).trans ((U6_of V main_arg9 (by decide)).trans ((U5_of V main_arg9 (by decide) (by decide)).trans ((U4_of V main_arg9 (by decide)).trans ((U3_of V main_arg9 (by decide)).trans ((U2_of V main_arg9 (by decide)).trans (U1_of V main_arg9 (by decide))))))))

theorem U7_arg10 (V : Valuation τ sig (Elt F)) : U7 V (Proc.devRef .tc main_arg10) = V (Proc.devRef .tc main_arg10) :=
  ((U7_of V main_arg10 (by decide) (by decide)).trans ((U6_of V main_arg10 (by decide)).trans ((U5_of V main_arg10 (by decide) (by decide)).trans ((U4_of V main_arg10 (by decide)).trans ((U3_of V main_arg10 (by decide)).trans ((U2_of V main_arg10 (by decide)).trans (U1_of V main_arg10 (by decide))))))))

theorem U7_arg11 (V : Valuation τ sig (Elt F)) : U7 V (Proc.devRef .tc main_arg11) = V (Proc.devRef .tc main_arg11) :=
  ((U7_of V main_arg11 (by decide) (by decide)).trans ((U6_of V main_arg11 (by decide)).trans ((U5_of V main_arg11 (by decide) (by decide)).trans ((U4_of V main_arg11 (by decide)).trans ((U3_of V main_arg11 (by decide)).trans ((U2_of V main_arg11 (by decide)).trans (U1_of V main_arg11 (by decide))))))))

theorem U7_arg12 (V : Valuation τ sig (Elt F)) : U7 V (Proc.devRef .tc main_arg12) = V (Proc.devRef .tc main_arg12) :=
  ((U7_of V main_arg12 (by decide) (by decide)).trans ((U6_of V main_arg12 (by decide)).trans ((U5_of V main_arg12 (by decide) (by decide)).trans ((U4_of V main_arg12 (by decide)).trans ((U3_of V main_arg12 (by decide)).trans ((U2_of V main_arg12 (by decide)).trans (U1_of V main_arg12 (by decide))))))))

theorem U7_arg13 (V : Valuation τ sig (Elt F)) : U7 V (Proc.devRef .tc main_arg13) = V (Proc.devRef .tc main_arg13) :=
  ((U7_of V main_arg13 (by decide) (by decide)).trans ((U6_of V main_arg13 (by decide)).trans ((U5_of V main_arg13 (by decide) (by decide)).trans ((U4_of V main_arg13 (by decide)).trans ((U3_of V main_arg13 (by decide)).trans ((U2_of V main_arg13 (by decide)).trans (U1_of V main_arg13 (by decide))))))))

/-- The first three layers, as functions of the starting contents. -/
def r1 (V : Valuation τ sig (Elt F)) : Vec F S8x128x192x192 .f32 := conv1 (V (Proc.devRef .tc main_arg0)) (V (Proc.devRef .tc main_arg1)) (V (Proc.devRef .tc main_arg2))
def r2 (V : Valuation τ sig (Elt F)) : Vec F S8x256x96x96 .f32 := conv2 (r1 V) (V (Proc.devRef .tc main_arg3)) (V (Proc.devRef .tc main_arg4))
def r3 (V : Valuation τ sig (Elt F)) : Vec F S8x64x48x48 .f32 := conv3 (r2 V) (V (Proc.devRef .tc main_arg5)) (V (Proc.devRef .tc main_arg6))
/-- The indices and the rows. -/
def rIdx (V : Valuation τ sig (Elt F)) : Vec F S18432 .i32 := first (dists (flat (r3 V)) (V (Proc.devRef .tc main_arg13)))
def r4 (V : Valuation τ sig (Elt F)) : Vec F S8x64x48x48 .f32 := rows (V (Proc.devRef .tc main_arg13)) (rIdx V)
/-- The last three layers. -/
def r5 (V : Valuation τ sig (Elt F)) : Vec F S8x256x96x96 .f32 := deconv1 (r4 V) (V (Proc.devRef .tc main_arg7)) (V (Proc.devRef .tc main_arg8))
def r6 (V : Valuation τ sig (Elt F)) : Vec F S8x128x192x192 .f32 := deconv2 (r5 V) (V (Proc.devRef .tc main_arg9)) (V (Proc.devRef .tc main_arg10))
def r7 (V : Valuation τ sig (Elt F)) : Vec F S8x3x384x384 .f32 := deconv3 (r6 V) (V (Proc.devRef .tc main_arg11)) (V (Proc.devRef .tc main_arg12))

theorem U1_v26 (V : Valuation τ sig (Elt F)) : U1 V (Proc.devRef .tc main_v26) = r1 V := segA_val V

theorem U2_v53 (V : Valuation τ sig (Elt F)) : U2 V (Proc.devRef .tc main_v53) = r2 V := by
  refine (segB_val (U1 V)).trans ?_
  rw [U1_v26 V, U1_of V main_arg3 (by decide), U1_of V main_arg4 (by decide)]
  rfl

theorem U3_v79 (V : Valuation τ sig (Elt F)) : U3 V (Proc.devRef .tc main_v79) = r3 V := by
  refine (segC_val (U2 V)).trans ?_
  rw [U2_v53 V, (U2_of V main_arg5 (by decide)).trans (U1_of V main_arg5 (by decide)), (U2_of V main_arg6 (by decide)).trans (U1_of V main_arg6 (by decide))]
  rfl

theorem U4_v98 (V : Valuation τ sig (Elt F)) : U4 V (Proc.devRef .tc main_v98) = rIdx V := by
  refine (segD_val_v98 (U3 V)).trans ?_
  rw [U3_v79 V, (U3_of V main_arg13 (by decide)).trans ((U2_of V main_arg13 (by decide)).trans (U1_of V main_arg13 (by decide)))]
  rfl

theorem U4_v100 (V : Valuation τ sig (Elt F)) : U4 V (Proc.devRef .tc main_v100) = r4 V := by
  refine (segD_val_v100 (U3 V)).trans ?_
  rw [U3_v79 V, (U3_of V main_arg13 (by decide)).trans ((U2_of V main_arg13 (by decide)).trans (U1_of V main_arg13 (by decide)))]
  rfl

theorem U5_v129 (V : Valuation τ sig (Elt F)) : U5 V (Proc.devRef .tc main_v129) = r5 V := by
  refine (segE1_val (U4 V)).trans ?_
  rw [U4_v100 V, (U4_of V main_arg7 (by decide)).trans ((U3_of V main_arg7 (by decide)).trans ((U2_of V main_arg7 (by decide)).trans (U1_of V main_arg7 (by decide)))), (U4_of V main_arg8 (by decide)).trans ((U3_of V main_arg8 (by decide)).trans ((U2_of V main_arg8 (by decide)).trans (U1_of V main_arg8 (by decide))))]
  rfl

theorem U6_v158 (V : Valuation τ sig (Elt F)) : U6 V (Proc.devRef .tc main_v158) = r6 V := by
  refine (segF_val (U5 V)).trans ?_
  rw [U5_v129 V, (U5_of V main_arg9 (by decide) (by decide)).trans ((U4_of V main_arg9 (by decide)).trans ((U3_of V main_arg9 (by decide)).trans ((U2_of V main_arg9 (by decide)).trans (U1_of V main_arg9 (by decide))))), (U5_of V main_arg10 (by decide) (by decide)).trans ((U4_of V main_arg10 (by decide)).trans ((U3_of V main_arg10 (by decide)).trans ((U2_of V main_arg10 (by decide)).trans (U1_of V main_arg10 (by decide)))))]
  rfl

theorem U7_v186 (V : Valuation τ sig (Elt F)) : U7 V (Proc.devRef .tc main_v186) = r7 V := by
  refine (segG1_val (U6 V)).trans ?_
  rw [U6_v158 V, (U6_of V main_arg11 (by decide)).trans ((U5_of V main_arg11 (by decide) (by decide)).trans ((U4_of V main_arg11 (by decide)).trans ((U3_of V main_arg11 (by decide)).trans ((U2_of V main_arg11 (by decide)).trans (U1_of V main_arg11 (by decide)))))), (U6_of V main_arg12 (by decide)).trans ((U5_of V main_arg12 (by decide) (by decide)).trans ((U4_of V main_arg12 (by decide)).trans ((U3_of V main_arg12 (by decide)).trans ((U2_of V main_arg12 (by decide)).trans (U1_of V main_arg12 (by decide))))))]
  rfl

theorem U7_v79 (V : Valuation τ sig (Elt F)) : U7 V (Proc.devRef .tc main_v79) = r3 V :=
  ((U7_of V main_v79 (by decide) (by decide)).trans ((U6_of V main_v79 (by decide)).trans ((U5_of V main_v79 (by decide) (by decide)).trans (U4_of V main_v79 (by decide))))).trans (U3_v79 V)

theorem U7_v98 (V : Valuation τ sig (Elt F)) : U7 V (Proc.devRef .tc main_v98) = rIdx V :=
  ((U7_of V main_v98 (by decide) (by decide)).trans ((U6_of V main_v98 (by decide)).trans (U5_of V main_v98 (by decide) (by decide)))).trans (U4_v98 V)

theorem U7_v100 (V : Valuation τ sig (Elt F)) : U7 V (Proc.devRef .tc main_v100) = r4 V :=
  ((U7_of V main_v100 (by decide) (by decide)).trans ((U6_of V main_v100 (by decide)).trans (U5_of V main_v100 (by decide) (by decide)))).trans (U4_v100 V)

/-- Every fair execution of the reference ends with its four results at these functions of its
arguments' contents, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186) = r7 (launchContents m c)
      ∧ r.2.mem ((c.tc : Thread nD τ).loc main_v79) = r3 (launchContents m c)
      ∧ r.2.mem ((c.tc : Thread nD τ).loc main_v100) = r4 (launchContents m c)
      ∧ r.2.mem ((c.tc : Thread nD τ).loc main_v98) = rIdx (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ?_)
    (run_seq no_scoped_refs no_scoped_sems defs main (fun _ => ops) main_eq (fun _ => ops_sub) m ρ fun _ => ops_fresh_mem)
  have key : ∀ b : Ref sig .tc, _ := fun b => (h c b).trans (congrFun (after_ops (launchContents m c)) (Proc.devRef .tc b))
  exact ⟨(key main_v186).trans (U7_v186 _), (key main_v79).trans (U7_v79 _), (key main_v100).trans (U7_v100 _), (key main_v98).trans (U7_v98 _),
    (key main_arg0).trans (U7_arg0 _),
    (key main_arg1).trans (U7_arg1 _),
    (key main_arg2).trans (U7_arg2 _),
    (key main_arg3).trans (U7_arg3 _),
    (key main_arg4).trans (U7_arg4 _),
    (key main_arg5).trans (U7_arg5 _),
    (key main_arg6).trans (U7_arg6 _),
    (key main_arg7).trans (U7_arg7 _),
    (key main_arg8).trans (U7_arg8 _),
    (key main_arg9).trans (U7_arg9 _),
    (key main_arg10).trans (U7_arg10 _),
    (key main_arg11).trans (U7_arg11 _),
    (key main_arg12).trans (U7_arg12 _),
    (key main_arg13).trans (U7_arg13 _)⟩

end Cert.ReferenceIdeal.Val
-- ==== Proof.KRun.lean ====
module

public import proofs.«01_k».proof.Proof.Gen.KernelIdeal.Frame

/-!
# The kernel's run, with its results

Every fair execution ends with each result at the contents the last host stretch leaves, and each
argument unchanged. The launch is set up as in the frame.
-/

@[expose] public section

set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run, with the four results at the last boundary's contents. -/
theorem run : θ_run defs (onTc (τ := τ) (main (F := F))) ⟨m, fun _ => 0, ρ⟩ (fun r => ∀ c : Dev nD,
      r.2.mem ((c.tc : Thread nD τ).loc main_v137) = W27 m ρ c (Proc.devRef .tc main_v137)
      ∧ r.2.mem ((c.tc : Thread nD τ).loc main_v34) = W27 m ρ c (Proc.devRef .tc main_v34)
      ∧ r.2.mem ((c.tc : Thread nD τ).loc main_v38) = W27 m ρ c (Proc.devRef .tc main_v38)
      ∧ r.2.mem ((c.tc : Thread nD τ).loc main_v37) = W27 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h _ => fun c =>
      ⟨h c _ (mem_uc main_v137 (by decide)),
       h c _ (mem_uc main_v34 (by decide)),
       h c _ (mem_uc main_v38 (by decide)),
       h c _ (mem_uc main_v37 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c)⟩)

end Cert.KernelIdeal.Val
-- ==== Proof.HostConv.lean ====
module

public import proofs.«01_k».proof.Proof.Gen.KernelIdeal.Launch
public import Idealize.ShloMosaic.Lib.StableHlo.Run
public import Idealize.ShloMosaic.Lib.Pipeline.Frame

/-!
# The host operations around the three convolutions
-/

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

/-- The padded input of convolution 1. -/
def cp1 (x : Vec F S8x3x384x384 .f32) : Vec F S8x386x386x3 .f32 :=
  pad S8x386x386x3 ![0, 1, 1, 0] ![0, 1, 1, 0] ![0, 0, 0, 0] (transpose S8x384x384x3 [0, 2, 3, 1] x transposes_S8x3x384x384_S8x384x384x3_0_2_3_1) (sitofp .f32 (constantI S_ 32 0#32)) pads_S8x384x384x3_S8x386x386x3_000_110_110_000 h_S_

/-- The blocks of 2x2 pixels of a padded input, as channels. -/
def cs1 (X : Vec F S8x386x386x3 .f32) : Vec F S8x193x193x12 .f32 :=
  concatenate S8x193x193x12 3 [⟨S8x193x193x3, (Host.slice S8x193x193x3 ![0, 0, 0, 0] ![1, 2, 2, 1] X slicesBy_S8x386x386x3_S8x193x193x3_0s1_0s2_0s2_0s1)⟩, ⟨S8x193x193x3, (Host.slice S8x193x193x3 ![0, 0, 1, 0] ![1, 2, 2, 1] X slicesBy_S8x386x386x3_S8x193x193x3_0s1_0s2_1s2_0s1)⟩, ⟨S8x193x193x3, (Host.slice S8x193x193x3 ![0, 1, 0, 0] ![1, 2, 2, 1] X slicesBy_S8x386x386x3_S8x193x193x3_0s1_1s2_0s2_0s1)⟩, ⟨S8x193x193x3, (Host.slice S8x193x193x3 ![0, 1, 1, 0] ![1, 2, 2, 1] X slicesBy_S8x386x386x3_S8x193x193x3_0s1_1s2_1s2_0s1)⟩] concatenates_S8x193x193x3_S8x193x193x3_S8x193x193x3_S8x193x193x3_S8x193x193x12_d3

/-- The weights of convolution 1, arranged for the blocks. -/
def cw1 (w : Vec F S128x3x4x4 .f32) : Vec F S2x2x12x128 .f32 :=
  shapeCast S2x2x12x128 (transpose S2x2x2x2x3x128 [2, 4, 3, 5, 1, 0] (shapeCast S128x3x2x2x2x2 w shapeCasts_S128x3x4x4_S128x3x2x2x2x2) transposes_S128x3x2x2x2x2_S2x2x2x2x3x128_2_4_3_5_1_0) shapeCasts_S2x2x2x2x3x128_S2x2x12x128

/-- The bias of convolution 1 as a row. -/
def cb1 (b : Vec F S128 .f32) : Vec F S1x128 .f32 :=
  shapeCast S1x128 b shapeCasts_S128_S1x128

theorem cx1_val (V : Valuation τ sig (Elt F)) : after hostOps0_2 (after hostOps0_1 (after hostOps0 V)) (Proc.devRef .tc main_v6)
    = cs1 (cp1 (V (Proc.devRef .tc main_arg0))) := by
  rw [← after_append, ← after_append]
  simp only [hostOps0, hostOps0_1, hostOps0_2, TRef.nullary, TRef.unary, TRef.binary, TRef.quaternary, TRef.toBuf, TRef.ofBuf, cast_eq, List.cons_append, List.nil_append]
  after_results_simp
  rfl

theorem cw1_val (V : Valuation τ sig (Elt F)) : after hostOps0_2 (after hostOps0_1 (after hostOps0 V)) (Proc.devRef .tc main_v9)
    = cw1 (V (Proc.devRef .tc main_arg1)) := by
  rw [← after_append, ← after_append]
  simp only [hostOps0, hostOps0_1, hostOps0_2, TRef.nullary, TRef.unary, TRef.binary, TRef.quaternary, TRef.toBuf, TRef.ofBuf, cast_eq, List.cons_append, List.nil_append]
  after_results_simp
  rfl

theorem cb1_val (V : Valuation τ sig (Elt F)) : after hostOps0_2 (after hostOps0_1 (after hostOps0 V)) (Proc.devRef .tc main_v10)
    = cb1 (V (Proc.devRef .tc main_arg2)) := by
  rw [← after_append, ← after_append]
  simp only [hostOps0, hostOps0_1, hostOps0_2, TRef.nullary, TRef.unary, TRef.binary, TRef.quaternary, TRef.toBuf, TRef.ofBuf, cast_eq, List.cons_append, List.nil_append]
  after_results_simp
  rfl

/-- The padded input of convolution 2. -/
def cp2 (x : Vec F S8x192x192x128 .f32) : Vec F S8x194x194x128 .f32 :=
  pad S8x194x194x128 ![0, 1, 1, 0] ![0, 1, 1, 0] ![0, 0, 0, 0] x (sitofp .f32 (constantI S_ 32 0#32)) pads_S8x192x192x128_S8x194x194x128_000_110_110_000 h_S_

/-- The blocks of 2x2 pixels of a padded input, as channels. -/
def cs2 (X : Vec F S8x194x194x128 .f32) : Vec F S8x97x97x512 .f32 :=
  concatenate S8x97x97x512 3 [⟨S8x97x97x128, (Host.slice S8x97x97x128 ![0, 0, 0, 0] ![1, 2, 2, 1] X slicesBy_S8x194x194x128_S8x97x97x128_0s1_0s2_0s2_0s1)⟩, ⟨S8x97x97x128, (Host.slice S8x97x97x128 ![0, 0, 1, 0] ![1, 2, 2, 1] X slicesBy_S8x194x194x128_S8x97x97x128_0s1_0s2_1s2_0s1)⟩, ⟨S8x97x97x128, (Host.slice S8x97x97x128 ![0, 1, 0, 0] ![1, 2, 2, 1] X slicesBy_S8x194x194x128_S8x97x97x128_0s1_1s2_0s2_0s1)⟩, ⟨S8x97x97x128, (Host.slice S8x97x97x128 ![0, 1, 1, 0] ![1, 2, 2, 1] X slicesBy_S8x194x194x128_S8x97x97x128_0s1_1s2_1s2_0s1)⟩] concatenates_S8x97x97x128_S8x97x97x128_S8x97x97x128_S8x97x97x128_S8x97x97x512_d3

/-- The weights of convolution 2, arranged for the blocks. -/
def cw2 (w : Vec F S256x128x4x4 .f32) : Vec F S2x2x512x256 .f32 :=
  shapeCast S2x2x512x256 (transpose S2x2x2x2x128x256 [2, 4, 3, 5, 1, 0] (shapeCast S256x128x2x2x2x2 w shapeCasts_S256x128x4x4_S256x128x2x2x2x2) transposes_S256x128x2x2x2x2_S2x2x2x2x128x256_2_4_3_5_1_0) shapeCasts_S2x2x2x2x128x256_S2x2x512x256

/-- The bias of convolution 2 as a row. -/
def cb2 (b : Vec F S256 .f32) : Vec F S1x256 .f32 :=
  shapeCast S1x256 b shapeCasts_S256_S1x256

theorem cx2_val (V : Valuation τ sig (Elt F)) : after hostOps1_2 (after hostOps1_1 (after hostOps1 V)) (Proc.devRef .tc main_v17)
    = cs2 (cp2 (V (Proc.devRef .tc main_v11))) := by
  rw [← after_append, ← after_append]
  simp only [hostOps1, hostOps1_1, hostOps1_2, TRef.nullary, TRef.unary, TRef.binary, TRef.quaternary, TRef.toBuf, TRef.ofBuf, cast_eq, List.cons_append, List.nil_append]
  after_results_simp
  rfl

theorem cw2_val (V : Valuation τ sig (Elt F)) : after hostOps1_2 (after hostOps1_1 (after hostOps1 V)) (Proc.devRef .tc main_v20)
    = cw2 (V (Proc.devRef .tc main_arg3)) := by
  rw [← after_append, ← after_append]
  simp only [hostOps1, hostOps1_1, hostOps1_2, TRef.nullary, TRef.unary, TRef.binary, TRef.quaternary, TRef.toBuf, TRef.ofBuf, cast_eq, List.cons_append, List.nil_append]
  after_results_simp
  rfl

theorem cb2_val (V : Valuation τ sig (Elt F)) : after hostOps1_2 (after hostOps1_1 (after hostOps1 V)) (Proc.devRef .tc main_v21)
    = cb2 (V (Proc.devRef .tc main_arg4)) := by
  rw [← after_append, ← after_append]
  simp only [hostOps1, hostOps1_1, hostOps1_2, TRef.nullary, TRef.unary, TRef.binary, TRef.quaternary, TRef.toBuf, TRef.ofBuf, cast_eq, List.cons_append, List.nil_append]
  after_results_simp
  rfl

/-- The padded input of convolution 3. -/
def cp3 (x : Vec F S8x96x96x256 .f32) : Vec F S8x98x98x256 .f32 :=
  pad S8x98x98x256 ![0, 1, 1, 0] ![0, 1, 1, 0] ![0, 0, 0, 0] x (sitofp .f32 (constantI S_ 32 0#32)) pads_S8x96x96x256_S8x98x98x256_000_110_110_000 h_S_

/-- The blocks of 2x2 pixels of a padded input, as channels. -/
def cs3 (X : Vec F S8x98x98x256 .f32) : Vec F S8x49x49x1024 .f32 :=
  concatenate S8x49x49x1024 3 [⟨S8x49x49x256, (Host.slice S8x49x49x256 ![0, 0, 0, 0] ![1, 2, 2, 1] X slicesBy_S8x98x98x256_S8x49x49x256_0s1_0s2_0s2_0s1)⟩, ⟨S8x49x49x256, (Host.slice S8x49x49x256 ![0, 0, 1, 0] ![1, 2, 2, 1] X slicesBy_S8x98x98x256_S8x49x49x256_0s1_0s2_1s2_0s1)⟩, ⟨S8x49x49x256, (Host.slice S8x49x49x256 ![0, 1, 0, 0] ![1, 2, 2, 1] X slicesBy_S8x98x98x256_S8x49x49x256_0s1_1s2_0s2_0s1)⟩, ⟨S8x49x49x256, (Host.slice S8x49x49x256 ![0, 1, 1, 0] ![1, 2, 2, 1] X slicesBy_S8x98x98x256_S8x49x49x256_0s1_1s2_1s2_0s1)⟩] concatenates_S8x49x49x256_S8x49x49x256_S8x49x49x256_S8x49x49x256_S8x49x49x1024_d3

/-- The weights of convolution 3, arranged for the blocks. -/
def cw3 (w : Vec F S64x256x4x4 .f32) : Vec F S2x2x1024x64 .f32 :=
  shapeCast S2x2x1024x64 (transpose S2x2x2x2x256x64 [2, 4, 3, 5, 1, 0] (shapeCast S64x256x2x2x2x2 w shapeCasts_S64x256x4x4_S64x256x2x2x2x2) transposes_S64x256x2x2x2x2_S2x2x2x2x256x64_2_4_3_5_1_0) shapeCasts_S2x2x2x2x256x64_S2x2x1024x64

/-- The bias of convolution 3 as a row. -/
def cb3 (b : Vec F S64 .f32) : Vec F S1x64 .f32 :=
  shapeCast S1x64 b shapeCasts_S64_S1x64

theorem cx3_val (V : Valuation τ sig (Elt F)) : after hostOps2_2 (after hostOps2_1 (after hostOps2 V)) (Proc.devRef .tc main_v28)
    = cs3 (cp3 (V (Proc.devRef .tc main_v22))) := by
  rw [← after_append, ← after_append]
  simp only [hostOps2, hostOps2_1, hostOps2_2, TRef.nullary, TRef.unary, TRef.binary, TRef.quaternary, TRef.toBuf, TRef.ofBuf, cast_eq, List.cons_append, List.nil_append]
  after_results_simp
  rfl

theorem cw3_val (V : Valuation τ sig (Elt F)) : after hostOps2_2 (after hostOps2_1 (after hostOps2 V)) (Proc.devRef .tc main_v31)
    = cw3 (V (Proc.devRef .tc main_arg5)) := by
  rw [← after_append, ← after_append]
  simp only [hostOps2, hostOps2_1, hostOps2_2, TRef.nullary, TRef.unary, TRef.binary, TRef.quaternary, TRef.toBuf, TRef.ofBuf, cast_eq, List.cons_append, List.nil_append]
  after_results_simp
  rfl

theorem cb3_val (V : Valuation τ sig (Elt F)) : after hostOps2_2 (after hostOps2_1 (after hostOps2 V)) (Proc.devRef .tc main_v32)
    = cb3 (V (Proc.devRef .tc main_arg6)) := by
  rw [← after_append, ← after_append]
  simp only [hostOps2, hostOps2_1, hostOps2_2, TRef.nullary, TRef.unary, TRef.binary, TRef.quaternary, TRef.toBuf, TRef.ofBuf, cast_eq, List.cons_append, List.nil_append]
  after_results_simp
  rfl

/-- An image with its channels second. -/
def zf (x : Vec F S8x48x48x64 .f32) : Vec F S8x64x48x48 .f32 :=
  transpose S8x64x48x48 [0, 3, 1, 2] x transposes_S8x48x48x64_S8x64x48x48_0_3_1_2

/-- An image as 18432 rows of 64. -/
def fl (z : Vec F S8x64x48x48 .f32) : Vec F S18432x64 .f32 :=
  shapeCast S18432x64 z shapeCasts_S8x64x48x48_S18432x64

theorem zf_val (V : Valuation τ sig (Elt F)) : after hostOps3 V (Proc.devRef .tc main_v34)
    = zf (V (Proc.devRef .tc main_v33)) := by
  simp only [hostOps3, TRef.nullary, TRef.unary, TRef.binary, TRef.quaternary, TRef.toBuf, TRef.ofBuf, cast_eq]
  after_results_simp
  rfl

theorem fl_val (V : Valuation τ sig (Elt F)) : after hostOps3 V (Proc.devRef .tc main_v35)
    = fl (zf (V (Proc.devRef .tc main_v33))) := by
  simp only [hostOps3, TRef.nullary, TRef.unary, TRef.binary, TRef.quaternary, TRef.toBuf, TRef.ofBuf, cast_eq]
  after_results_simp
  rfl

/-! The tables of tap positions. -/

theorem lit0_val (V : Valuation τ sig (Elt F)) : after hostOps0 V (Proc.devRef .tc main_c)
    = (fun i : S2x2.Idx => lit0 (S2x2.rowMajor i)) := by
  simp only [hostOps0, TRef.nullary, TRef.unary, TRef.binary, TRef.quaternary, TRef.toBuf, TRef.ofBuf, cast_eq]
  after_results_simp
  rfl

theorem lit1_val (V : Valuation τ sig (Elt F)) : after hostOps0 V (Proc.devRef .tc main_c_0)
    = (fun i : S2x2.Idx => lit1 (S2x2.rowMajor i)) := by
  simp only [hostOps0, TRef.nullary, TRef.unary, TRef.binary, TRef.quaternary, TRef.toBuf, TRef.ofBuf, cast_eq]
  after_results_simp
  rfl

theorem lit2_val (V : Valuation τ sig (Elt F)) : after hostOps0 V (Proc.devRef .tc main_c_1)
    = (fun i : S2x2.Idx => lit2 (S2x2.rowMajor i)) := by
  simp only [hostOps0, TRef.nullary, TRef.unary, TRef.binary, TRef.quaternary, TRef.toBuf, TRef.ofBuf, cast_eq]
  after_results_simp
  rfl

end Cert.KernelIdeal.Val
-- ==== Proof.HostDeconv.lean ====
module

public import proofs.«01_k».proof.Proof.Gen.KernelIdeal.Launch
public import Idealize.ShloMosaic.Lib.StableHlo.Run
public import Idealize.ShloMosaic.Lib.Pipeline.Frame

/-!
# The host operations around the three transposed convolutions
-/

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

/-- The pairs of tap positions, from the table of tap positions. -/
def pairs (t : IVec S2x2 32) : IVec S2x2x2x2x2 32 :=
  concatenate S2x2x2x2x2 4 [⟨S2x2x2x2x1, (broadcastInDim S2x2x2x2x1 ![0, 1, 2, 3] bcast_S2x2x2x2_S2x2x2x2x1_0_1_2_3 (broadcastInDim S2x2x2x2 ![0, 1, 2, 3] bcast_S2x2x1x1_S2x2x2x2_0_1_2_3 (select (cmpi .slt (broadcastInDim S2x2x1x1 ![0, 1] bcast_S2x2_S2x2x1x1_0_1 t) (broadcastInDim S2x2x1x1 ![] bcast_S_S2x2x1x1 (constantI S_ 32 0#32))) (addi (broadcastInDim S2x2x1x1 ![0, 1] bcast_S2x2_S2x2x1x1_0_1 t) (broadcastInDim S2x2x1x1 ![] bcast_S_S2x2x1x1 (constantI S_ 32 4#32))) (broadcastInDim S2x2x1x1 ![0, 1] bcast_S2x2_S2x2x1x1_0_1 t))))⟩, ⟨S2x2x2x2x1, (broadcastInDim S2x2x2x2x1 ![0, 1, 2, 3] bcast_S2x2x2x2_S2x2x2x2x1_0_1_2_3 (broadcastInDim S2x2x2x2 ![0, 1, 2, 3] bcast_S1x1x2x2_S2x2x2x2_0_1_2_3 (select (cmpi .slt (broadcastInDim S1x1x2x2 ![2, 3] bcast_S2x2_S1x1x2x2_2_3 t) (broadcastInDim S1x1x2x2 ![] bcast_S_S1x1x2x2 (constantI S_ 32 0#32))) (addi (broadcastInDim S1x1x2x2 ![2, 3] bcast_S2x2_S1x1x2x2_2_3 t) (broadcastInDim S1x1x2x2 ![] bcast_S_S1x1x2x2 (constantI S_ 32 4#32))) (broadcastInDim S1x1x2x2 ![2, 3] bcast_S2x2_S1x1x2x2_2_3 t))))⟩] concatenates_S2x2x2x2x1_S2x2x2x2x1_S2x2x2x2x2_d4

/-- The padded input of transposed convolution 1. -/
def dp1 (x : Vec F S8x48x48x64 .f32) : Vec F S8x50x50x64 .f32 :=
  pad S8x50x50x64 ![0, 1, 1, 0] ![0, 1, 1, 0] ![0, 0, 0, 0] x (sitofp .f32 (constantI S_ 32 0#32)) pads_S8x48x48x64_S8x50x50x64_000_110_110_000 h_S_

/-- The weights of transposed convolution 1 at the taps of each of the four output positions. -/
def dg1 (w : Vec F S64x256x4x4 .f32) (t : IVec S2x2 32) : Vec F S64x256x2x2x2x2 .f32 :=
  Host.gather gather_S64x256x4x4_S2x2x2x2x2_S64x256x2x2x2x2_01_23_n_n_23_4_6425611 w (pairs t)

/-- The same, arranged by neighbour, channel and output position. -/
def dw1 (g : Vec F S64x256x2x2x2x2 .f32) : Vec F S2x2x64x1024 .f32 :=
  shapeCast S2x2x64x1024 (transpose S2x2x64x2x2x256 [3, 5, 0, 2, 4, 1] g transposes_S64x256x2x2x2x2_S2x2x64x2x2x256_3_5_0_2_4_1) shapeCasts_S2x2x64x2x2x256_S2x2x64x1024

/-- The bias of transposed convolution 1, once for each of the four output positions. -/
def db1 (b : Vec F S256 .f32) : Vec F S1x1024 .f32 :=
  shapeCast S1x1024 (shapeCast S1024 (broadcastInDim S4x256 ![0, 1] bcast_S1x256_S4x256_0_1 (shapeCast S1x256 b shapeCasts_S256_S1x256)) shapeCasts_S4x256_S1024) shapeCasts_S1024_S1x1024

/-- The picked rows as an image, channels second. -/
def zq (x : Vec F S18432x64 .f32) : Vec F S8x64x48x48 .f32 :=
  shapeCast S8x64x48x48 x shapeCasts_S18432x64_S8x64x48x48

/-- An image with its channels last. -/
def zl (x : Vec F S8x64x48x48 .f32) : Vec F S8x48x48x64 .f32 :=
  transpose S8x48x48x64 [0, 2, 3, 1] x transposes_S8x64x48x48_S8x48x48x64_0_2_3_1

/-- The indices as one list. -/
def ids (x : Vec F S36x1x512 .i32) : Vec F S18432 .i32 :=
  shapeCast S18432 x shapeCasts_S36x1x512_S18432

theorem dx1_val (V : Valuation τ sig (Elt F)) : after hostOps4_2 (after hostOps4_1 (after hostOps4 V)) (Proc.devRef .tc main_v40)
    = dp1 (zl (zq (V (Proc.devRef .tc main_v36_1)))) := by
  rw [← after_append, ← after_append]
  simp only [hostOps4, hostOps4_1, hostOps4_2, TRef.nullary, TRef.unary, TRef.binary, TRef.quaternary, TRef.toBuf, TRef.ofBuf, cast_eq, List.cons_append, List.nil_append]
  after_results_simp
  rfl

theorem dw1_val (V : Valuation τ sig (Elt F)) : after hostOps4_2 (after hostOps4_1 (after hostOps4 V)) (Proc.devRef .tc main_v60)
    = dw1 (dg1 (V (Proc.devRef .tc main_arg7)) (V (Proc.devRef .tc main_c))) := by
  rw [← after_append, ← after_append]
  simp only [hostOps4, hostOps4_1, hostOps4_2, TRef.nullary, TRef.unary, TRef.binary, TRef.quaternary, TRef.toBuf, TRef.ofBuf, cast_eq, List.cons_append, List.nil_append]
  after_results_simp
  rfl

theorem db1_val (V : Valuation τ sig (Elt F)) : after hostOps4_2 (after hostOps4_1 (after hostOps4 V)) (Proc.devRef .tc main_v64)
    = db1 (V (Proc.devRef .tc main_arg8)) := by
  rw [← after_append, ← after_append]
  simp only [hostOps4, hostOps4_1, hostOps4_2, TRef.nullary, TRef.unary, TRef.binary, TRef.quaternary, TRef.toBuf, TRef.ofBuf, cast_eq, List.cons_append, List.nil_append]
  after_results_simp
  rfl

theorem idx_val (V : Valuation τ sig (Elt F)) : after hostOps4 V (Proc.devRef .tc main_v37)
    = ids (V (Proc.devRef .tc main_v36_0)) := by
  simp only [hostOps4, TRef.nullary, TRef.unary, TRef.binary, TRef.quaternary, TRef.toBuf, TRef.ofBuf, cast_eq]
  after_results_simp
  rfl

theorem zq_val (V : Valuation τ sig (Elt F)) : after hostOps4 V (Proc.devRef .tc main_v38)
    = zq (V (Proc.devRef .tc main_v36_1)) := by
  simp only [hostOps4, TRef.nullary, TRef.unary, TRef.binary, TRef.quaternary, TRef.toBuf, TRef.ofBuf, cast_eq]
  after_results_simp
  rfl

/-- The padded input of transposed convolution 2. -/
def dp2 (x : Vec F S8x96x96x256 .f32) : Vec F S8x98x98x256 .f32 :=
  pad S8x98x98x256 ![0, 1, 1, 0] ![0, 1, 1, 0] ![0, 0, 0, 0] x (sitofp .f32 (constantI S_ 32 0#32)) pads_S8x96x96x256_S8x98x98x256_000_110_110_000 h_S_

/-- The weights of transposed convolution 2 at the taps of each of the four output positions. -/
def dg2 (w : Vec F S256x128x4x4 .f32) (t : IVec S2x2 32) : Vec F S256x128x2x2x2x2 .f32 :=
  Host.gather gather_S256x128x4x4_S2x2x2x2x2_S256x128x2x2x2x2_01_23_n_n_23_4_25612811 w (pairs t)

/-- The same, arranged by neighbour, channel and output position. -/
def dw2 (g : Vec F S256x128x2x2x2x2 .f32) : Vec F S2x2x256x512 .f32 :=
  shapeCast S2x2x256x512 (transpose S2x2x256x2x2x128 [3, 5, 0, 2, 4, 1] g transposes_S256x128x2x2x2x2_S2x2x256x2x2x128_3_5_0_2_4_1) shapeCasts_S2x2x256x2x2x128_S2x2x256x512

/-- The bias of transposed convolution 2, once for each of the four output positions. -/
def db2 (b : Vec F S128 .f32) : Vec F S1x512 .f32 :=
  shapeCast S1x512 (shapeCast S512 (broadcastInDim S4x128 ![0, 1] bcast_S1x128_S4x128_0_1 (shapeCast S1x128 b shapeCasts_S128_S1x128)) shapeCasts_S4x128_S512) shapeCasts_S512_S1x512

theorem dx2_val (V : Valuation τ sig (Elt F)) : after hostOps5_2 (after hostOps5_1 (after hostOps5 V)) (Proc.devRef .tc main_v66)
    = dp2 (V (Proc.devRef .tc main_v65)) := by
  rw [← after_append, ← after_append]
  simp only [hostOps5, hostOps5_1, hostOps5_2, TRef.nullary, TRef.unary, TRef.binary, TRef.quaternary, TRef.toBuf, TRef.ofBuf, cast_eq, List.cons_append, List.nil_append]
  after_results_simp
  rfl

theorem dw2_val (V : Valuation τ sig (Elt F)) : after hostOps5_2 (after hostOps5_1 (after hostOps5 V)) (Proc.devRef .tc main_v86)
    = dw2 (dg2 (V (Proc.devRef .tc main_arg9)) (V (Proc.devRef .tc main_c_0))) := by
  rw [← after_append, ← after_append]
  simp only [hostOps5, hostOps5_1, hostOps5_2, TRef.nullary, TRef.unary, TRef.binary, TRef.quaternary, TRef.toBuf, TRef.ofBuf, cast_eq, List.cons_append, List.nil_append]
  after_results_simp
  rfl

theorem db2_val (V : Valuation τ sig (Elt F)) : after hostOps5_2 (after hostOps5_1 (after hostOps5 V)) (Proc.devRef .tc main_v90)
    = db2 (V (Proc.devRef .tc main_arg10)) := by
  rw [← after_append, ← after_append]
  simp only [hostOps5, hostOps5_1, hostOps5_2, TRef.nullary, TRef.unary, TRef.binary, TRef.quaternary, TRef.toBuf, TRef.ofBuf, cast_eq, List.cons_append, List.nil_append]
  after_results_simp
  rfl

/-- The padded input of transposed convolution 3. -/
def dp3 (x : Vec F S8x192x192x128 .f32) : Vec F S8x210x194x128 .f32 :=
  pad S8x210x194x128 ![0, 1, 1, 0] ![0, 17, 1, 0] ![0, 0, 0, 0] x (sitofp .f32 (constantI S_ 32 0#32)) pads_S8x192x192x128_S8x210x194x128_000_1170_110_000 h_S_

/-- The weights of transposed convolution 3 at the taps of each of the four output positions. -/
def dg3 (w : Vec F S128x3x4x4 .f32) (t : IVec S2x2 32) : Vec F S128x3x2x2x2x2 .f32 :=
  Host.gather gather_S128x3x4x4_S2x2x2x2x2_S128x3x2x2x2x2_01_23_n_n_23_4_128311 w (pairs t)

/-- The same, arranged by neighbour, channel and output position. -/
def dw3 (g : Vec F S128x3x2x2x2x2 .f32) : Vec F S2x2x128x12 .f32 :=
  shapeCast S2x2x128x12 (transpose S2x2x128x2x2x3 [3, 5, 0, 2, 4, 1] g transposes_S128x3x2x2x2x2_S2x2x128x2x2x3_3_5_0_2_4_1) shapeCasts_S2x2x128x2x2x3_S2x2x128x12

/-- The bias of transposed convolution 3, once for each of the four output positions. -/
def db3 (b : Vec F S3 .f32) : Vec F S1x12 .f32 :=
  shapeCast S1x12 (shapeCast S12 (broadcastInDim S4x3 ![0, 1] bcast_S1x3_S4x3_0_1 (shapeCast S1x3 b shapeCasts_S3_S1x3)) shapeCasts_S4x3_S12) shapeCasts_S12_S1x12

theorem dx3_val (V : Valuation τ sig (Elt F)) : after hostOps6_2 (after hostOps6_1 (after hostOps6 V)) (Proc.devRef .tc main_v92)
    = dp3 (V (Proc.devRef .tc main_v91)) := by
  rw [← after_append, ← after_append]
  simp only [hostOps6, hostOps6_1, hostOps6_2, TRef.nullary, TRef.unary, TRef.binary, TRef.quaternary, TRef.toBuf, TRef.ofBuf, cast_eq, List.cons_append, List.nil_append]
  after_results_simp
  rfl

theorem dw3_val (V : Valuation τ sig (Elt F)) : after hostOps6_2 (after hostOps6_1 (after hostOps6 V)) (Proc.devRef .tc main_v112)
    = dw3 (dg3 (V (Proc.devRef .tc main_arg11)) (V (Proc.devRef .tc main_c_1))) := by
  rw [← after_append, ← after_append]
  simp only [hostOps6, hostOps6_1, hostOps6_2, TRef.nullary, TRef.unary, TRef.binary, TRef.quaternary, TRef.toBuf, TRef.ofBuf, cast_eq, List.cons_append, List.nil_append]
  after_results_simp
  rfl

theorem db3_val (V : Valuation τ sig (Elt F)) : after hostOps6_2 (after hostOps6_1 (after hostOps6 V)) (Proc.devRef .tc main_v116)
    = db3 (V (Proc.devRef .tc main_arg12)) := by
  rw [← after_append, ← after_append]
  simp only [hostOps6, hostOps6_1, hostOps6_2, TRef.nullary, TRef.unary, TRef.binary, TRef.quaternary, TRef.toBuf, TRef.ofBuf, cast_eq, List.cons_append, List.nil_append]
  after_results_simp
  rfl

/-- The four output positions of each place, taken from the neighbouring places. -/
def outs (v : Vec F S8x208x194x2x2x3 .f32) : Vec F S8x192x192x2x2x3 .f32 :=
  concatenate S8x192x192x2x2x3 3 [⟨S8x192x192x1x2x3, (broadcastInDim S8x192x192x1x2x3 ![0, 1, 2, 4, 5] bcast_S8x192x192x2x3_S8x192x192x1x2x3_0_1_2_4_5 (concatenate S8x192x192x2x3 3 [⟨S8x192x192x1x3, (broadcastInDim S8x192x192x1x3 ![0, 1, 2, 4] bcast_S8x192x192x3_S8x192x192x1x3_0_1_2_4 (shapeCast S8x192x192x3 (extractStridedSlice S8x192x192x1x1x3 ![0, 0, 0, 0, 0, 0] v slices_S8x208x194x2x2x3_S8x192x192x1x1x3_0_0_0_0_0_0) shapeCasts_S8x192x192x1x1x3_S8x192x192x3))⟩, ⟨S8x192x192x1x3, (broadcastInDim S8x192x192x1x3 ![0, 1, 2, 4] bcast_S8x192x192x3_S8x192x192x1x3_0_1_2_4 (shapeCast S8x192x192x3 (extractStridedSlice S8x192x192x1x1x3 ![0, 0, 1, 0, 1, 0] v slices_S8x208x194x2x2x3_S8x192x192x1x1x3_0_0_1_0_1_0) shapeCasts_S8x192x192x1x1x3_S8x192x192x3))⟩] concatenates_S8x192x192x1x3_S8x192x192x1x3_S8x192x192x2x3_d3))⟩, ⟨S8x192x192x1x2x3, (broadcastInDim S8x192x192x1x2x3 ![0, 1, 2, 4, 5] bcast_S8x192x192x2x3_S8x192x192x1x2x3_0_1_2_4_5 (concatenate S8x192x192x2x3 3 [⟨S8x192x192x1x3, (broadcastInDim S8x192x192x1x3 ![0, 1, 2, 4] bcast_S8x192x192x3_S8x192x192x1x3_0_1_2_4 (shapeCast S8x192x192x3 (extractStridedSlice S8x192x192x1x1x3 ![0, 1, 0, 1, 0, 0] v slices_S8x208x194x2x2x3_S8x192x192x1x1x3_0_1_0_1_0_0) shapeCasts_S8x192x192x1x1x3_S8x192x192x3))⟩, ⟨S8x192x192x1x3, (broadcastInDim S8x192x192x1x3 ![0, 1, 2, 4] bcast_S8x192x192x3_S8x192x192x1x3_0_1_2_4 (shapeCast S8x192x192x3 (extractStridedSlice S8x192x192x1x1x3 ![0, 1, 1, 1, 1, 0] v slices_S8x208x194x2x2x3_S8x192x192x1x1x3_0_1_1_1_1_0) shapeCasts_S8x192x192x1x1x3_S8x192x192x3))⟩] concatenates_S8x192x192x1x3_S8x192x192x1x3_S8x192x192x2x3_d3))⟩] concatenates_S8x192x192x1x2x3_S8x192x192x1x2x3_S8x192x192x2x2x3_d3

/-- The channels of an array as output position and color. -/
def outc (x : Vec F S8x208x194x12 .f32) : Vec F S8x208x194x2x2x3 .f32 :=
  shapeCast S8x208x194x2x2x3 x shapeCasts_S8x208x194x12_S8x208x194x2x2x3

/-- The image from its output positions. -/
def outi (v : Vec F S8x192x192x2x2x3 .f32) : Vec F S8x3x384x384 .f32 :=
  shapeCast S8x3x384x384 (transpose S8x3x192x2x192x2 [0, 5, 1, 3, 2, 4] v transposes_S8x192x192x2x2x3_S8x3x192x2x192x2_0_5_1_3_2_4) shapeCasts_S8x3x192x2x192x2_S8x3x384x384

theorem out_val (V : Valuation τ sig (Elt F)) : after hostOps7 V (Proc.devRef .tc main_v137)
    = outi (outs (outc (V (Proc.devRef .tc main_v117)))) := by
  simp only [hostOps7, TRef.nullary, TRef.unary, TRef.binary, TRef.quaternary, TRef.toBuf, TRef.ofBuf, cast_eq]
  after_results_simp
  rfl

end Cert.KernelIdeal.Val
-- ==== Proof.Quad.lean ====
module

public import proofs.«01_k».proof.Proof.Gen.KernelIdeal.Frame
public import Idealize.ShloMosaic.Lib.Pointwise
public import Idealize.ShloMosaic.Lib.Pipeline.ValueKit

/-!
# Two-by-two sums

Every convolution tile of the kernel adds four products, one for each of the four
shifts by zero or one row and zero or one column, and then a bias. This module names that sum.
-/

@[expose] public section

noncomputable section

namespace Cert.KernelIdeal.Val

open Idealize.ShloMosaic

/-- The sum of the four products of two-by-two places, and the bias. -/
def quad {K : ℕ} (u w : Fin 2 → Fin 2 → Fin K → EReal) (b : EReal) : EReal :=
  ((∑ k, u 0 0 k * w 0 0 k) + (∑ k, u 0 1 k * w 0 1 k) + (∑ k, u 1 0 k * w 1 0 k) + (∑ k, u 1 1 k * w 1 1 k)) + b

theorem quad_congr {K : ℕ} {u u' w w' : Fin 2 → Fin 2 → Fin K → EReal} {b b' : EReal} (hu : ∀ a e k, u a e k = u' a e k)
    (hw : ∀ a e k, w a e k = w' a e k) (hb : b = b') : quad u w b = quad u' w' b' := by
  obtain rfl : u = u' := funext fun a => funext fun e => funext fun k => hu a e k
  obtain rfl : w = w' := funext fun a => funext fun e => funext fun k => hw a e k
  rw [hb]

theorem relu_quad_congr {K : ℕ} {u u' w w' : Fin 2 → Fin 2 → Fin K → EReal} {b b' : EReal} (hu : ∀ a e k, u a e k = u' a e k)
    (hw : ∀ a e k, w a e k = w' a e k) (hb : b = b') : max (quad u w b) 0 = max (quad u' w' b') 0 := by
  rw [quad_congr hu hw hb]

/-- Four sums over products and a bias are the two-by-two sum when their terms are. -/
theorem quad_of {K : ℕ} {p00 q00 p01 q01 p10 q10 p11 q11 : Fin K → EReal} {u w : Fin 2 → Fin 2 → Fin K → EReal} {b b' : EReal}
    (h00 : ∀ k, p00 k = u 0 0 k) (g00 : ∀ k, q00 k = w 0 0 k) (h01 : ∀ k, p01 k = u 0 1 k) (g01 : ∀ k, q01 k = w 0 1 k)
    (h10 : ∀ k, p10 k = u 1 0 k) (g10 : ∀ k, q10 k = w 1 0 k) (h11 : ∀ k, p11 k = u 1 1 k) (g11 : ∀ k, q11 k = w 1 1 k)
    (hb : b = b') :
    ((∑ k, p00 k * q00 k) + (∑ k, p01 k * q01 k) + (∑ k, p10 k * q10 k) + (∑ k, p11 k * q11 k)) + b = quad u w b' := by
  simp only [h00, h01, h10, h11, g00, g01, g10, g11, hb, quad]

/-- The same under the relu. -/
theorem relu_quad_of {K : ℕ} {p00 q00 p01 q01 p10 q10 p11 q11 : Fin K → EReal} {u w : Fin 2 → Fin 2 → Fin K → EReal} {b b' : EReal}
    (h00 : ∀ k, p00 k = u 0 0 k) (g00 : ∀ k, q00 k = w 0 0 k) (h01 : ∀ k, p01 k = u 0 1 k) (g01 : ∀ k, q01 k = w 0 1 k)
    (h10 : ∀ k, p10 k = u 1 0 k) (g10 : ∀ k, q10 k = w 1 0 k) (h11 : ∀ k, p11 k = u 1 1 k) (g11 : ∀ k, q11 k = w 1 1 k)
    (hb : b = b') :
    max (((∑ k, p00 k * q00 k) + (∑ k, p01 k * q01 k) + (∑ k, p10 k * q10 k) + (∑ k, p11 k * q11 k)) + b) 0 = max (quad u w b') 0 := by
  rw [quad_of h00 g00 h01 g01 h10 g10 h11 g11 hb]

/-- Two places of rank four are one when their coordinates are. -/
theorem ix4_at {n0 n1 n2 n3 : ℕ} {a : Fin n0} {b b' c c' d d' : ℕ} {hb : b < n1} {hb' : b' < n1} {hc : c < n2} {hc' : c' < n2}
    {hd : d < n3} {hd' : d' < n3} (eb : b = b') (ec : c = c') (ed : d = d') :
    (ix4 a ⟨b, hb⟩ ⟨c, hc⟩ ⟨d, hd⟩) = ix4 a ⟨b', hb'⟩ ⟨c', hc'⟩ ⟨d', hd'⟩ := by
  subst eb ec ed; rfl

theorem ix4_last {n0 n1 n2 n3 : ℕ} {a : Fin n0} {b : Fin n1} {c : Fin n2} {d d' : ℕ}
    {hd : d < n3} {hd' : d' < n3} (ed : d = d') :
    (ix4 a b c ⟨d, hd⟩) = ix4 a b c ⟨d', hd'⟩ := by
  subst ed; rfl

theorem ix2_last {n0 n1 : ℕ} {a : Fin n0} {d d' : ℕ} {hd : d < n1} {hd' : d' < n1} (ed : d = d') :
    (ix2 a ⟨d, hd⟩) = ix2 a ⟨d', hd'⟩ := by
  subst ed; rfl

end Cert.KernelIdeal.Val
-- ==== Proof.Layers.lean ====
module

public import proofs.«01_k».proof.Proof.Quad
public import Idealize.ShloMosaic.Lib.Pointwise

/-!
# Convolutions and transposed convolutions at one position

One output value of a 4x4 convolution with stride 2 and of its transposed form, as a plain sum over
the channel and the two taps, and the same values as four sums over a 2x2 neighbourhood.
-/

@[expose] public section

noncomputable section

namespace Cert.Math

open Idealize.ShloMosaic Cert.KernelIdeal.Val

/-- A plane with one zero row and column on each side, at a position. -/
def padAt {H W : Nat} (x : Fin H → Fin W → EReal) (p q : Nat) : EReal :=
  if h : (1 ≤ p ∧ p - 1 < H) ∧ (1 ≤ q ∧ q - 1 < W) then x ⟨p - 1, h.1.2⟩ ⟨q - 1, h.2.2⟩ else 0

/-- A plane with two zero rows and columns on each side and one zero between any two entries, at a position. -/
def dilAt {H W : Nat} (x : Fin H → Fin W → EReal) (p q : Nat) : EReal :=
  if h : (2 ≤ p ∧ (p - 2) % 2 = 0 ∧ (p - 2) / 2 < H) ∧ (2 ≤ q ∧ (q - 2) % 2 = 0 ∧ (q - 2) / 2 < W) then
    x ⟨(p - 2) / 2, h.1.2.2⟩ ⟨(q - 2) / 2, h.2.2.2⟩ else 0

/-- One value of the convolution with stride 2. -/
def convAt {C H W : Nat} (x : Fin C → Fin H → Fin W → EReal) (w : Fin C → Fin 4 → Fin 4 → EReal) (b : EReal) (i j : Nat) : EReal :=
  (∑ c : Fin C, ∑ k : Fin 4, ∑ l : Fin 4, w c k l * padAt (x c) (2 * i + k.val) (2 * j + l.val)) + b

/-- One value of the transposed convolution with stride 2. -/
def deconvAt {C H W : Nat} (x : Fin C → Fin H → Fin W → EReal) (w : Fin C → Fin 4 → Fin 4 → EReal) (b : EReal) (i j : Nat) : EReal :=
  (∑ c : Fin C, ∑ k : Fin 4, ∑ l : Fin 4, w c (Fin.rev k) (Fin.rev l) * dilAt (x c) (i + k.val) (j + l.val)) + b

/-- A sum over four groups of `C` channels. -/
theorem sum_groups {C M : Nat} (hM : M = 4 * C) (f : Fin M → EReal) :
    ∑ m, f m = ∑ c : Fin C, ((f ⟨0 * C + c.val, by omega⟩ + f ⟨1 * C + c.val, by omega⟩)
      + (f ⟨2 * C + c.val, by omega⟩ + f ⟨3 * C + c.val, by omega⟩)) := by
  subst hM
  rw [← Fintype.sum_equiv finProdFinEquiv (fun p : Fin 4 × Fin C => f (finProdFinEquiv p)) f fun _ => rfl,
    Fintype.sum_prod_type]
  simp only [Finset.sum_add_distrib, Fin.sum_univ_four, ← add_assoc]
  congr 1
  · congr 1
    · congr 1
      all_goals exact Finset.sum_congr rfl fun c _ => congrArg f (Fin.ext (by
        simp only [finProdFinEquiv, Equiv.coe_fn_mk, Fin.val_zero, Fin.val_one]; ring))
    · exact Finset.sum_congr rfl fun c _ => congrArg f (Fin.ext (by
        simp only [finProdFinEquiv, Equiv.coe_fn_mk, Fin.val_two]; ring))
  · exact Finset.sum_congr rfl fun c _ => congrArg f (Fin.ext (by
      show c.val + C * 3 = _
      ring))

/-- The convolution from a 2x2 neighbourhood of blocks of 2x2 pixels. -/
theorem quad_conv {C M H W : Nat} (hM : M = 4 * C) (x : Fin C → Fin H → Fin W → EReal)
    (w : Fin C → Fin 4 → Fin 4 → EReal) (b : EReal) (i j : Nat)
    (U V : Fin 2 → Fin 2 → Fin M → EReal)
    (hU : ∀ (a a' e f : Fin 2) (c : Fin C), U a a' ⟨(2 * e.val + f.val) * C + c.val, by
      have := e.isLt; have := f.isLt; have := c.isLt
      have : (2 * e.val + f.val) * C ≤ 3 * C := Nat.mul_le_mul_right _ (by omega)
      omega⟩ = padAt (x c) (2 * (i + a.val) + e.val) (2 * (j + a'.val) + f.val))
    (hV : ∀ (a a' e f : Fin 2) (c : Fin C), V a a' ⟨(2 * e.val + f.val) * C + c.val, by
      have := e.isLt; have := f.isLt; have := c.isLt
      have : (2 * e.val + f.val) * C ≤ 3 * C := Nat.mul_le_mul_right _ (by omega)
      omega⟩ = w c ⟨2 * a.val + e.val, by omega⟩ ⟨2 * a'.val + f.val, by omega⟩) :
    quad U V b = convAt x w b i j := by
  unfold quad convAt
  congr 1
  have key : ∀ a a' : Fin 2, (∑ m, U a a' m * V a a' m) = ∑ c : Fin C, (
      (w c ⟨2 * a.val, by omega⟩ ⟨2 * a'.val, by omega⟩ * padAt (x c) (2 * (i + a.val)) (2 * (j + a'.val))
      + w c ⟨2 * a.val, by omega⟩ ⟨2 * a'.val + 1, by omega⟩ * padAt (x c) (2 * (i + a.val)) (2 * (j + a'.val) + 1))
      + (w c ⟨2 * a.val + 1, by omega⟩ ⟨2 * a'.val, by omega⟩ * padAt (x c) (2 * (i + a.val) + 1) (2 * (j + a'.val))
      + w c ⟨2 * a.val + 1, by omega⟩ ⟨2 * a'.val + 1, by omega⟩ * padAt (x c) (2 * (i + a.val) + 1) (2 * (j + a'.val) + 1))) := by
    intro a a'
    rw [sum_groups hM]
    refine Finset.sum_congr rfl fun c _ => ?_
    have h0 := congrArg₂ (· * ·) (hU a a' 0 0 c) (hV a a' 0 0 c)
    have h1 := congrArg₂ (· * ·) (hU a a' 0 1 c) (hV a a' 0 1 c)
    have h2 := congrArg₂ (· * ·) (hU a a' 1 0 c) (hV a a' 1 0 c)
    have h3 := congrArg₂ (· * ·) (hU a a' 1 1 c) (hV a a' 1 1 c)
    refine congrArg₂ (· + ·) (congrArg₂ (· + ·) (h0.trans (mul_comm _ _)) (h1.trans (mul_comm _ _)))
      (congrArg₂ (· + ·) (h2.trans (mul_comm _ _)) (h3.trans (mul_comm _ _)))
  rw [key, key, key, key, ← Finset.sum_add_distrib, ← Finset.sum_add_distrib, ← Finset.sum_add_distrib]
  refine Finset.sum_congr rfl fun c _ => ?_
  simp only [Fin.sum_univ_four]
  simp only [Fin.val_zero, Fin.val_one, Fin.val_two, Nat.mul_zero, Nat.add_zero, Nat.zero_add, Nat.mul_one, Nat.mul_add, Nat.add_assoc, Nat.reduceAdd]
  simp only [show (⟨0, by omega⟩ : Fin 4) = 0 from rfl, show (⟨1, by omega⟩ : Fin 4) = 1 from rfl,
    show (⟨2, by omega⟩ : Fin 4) = 2 from rfl, show (⟨3, by omega⟩ : Fin 4) = 3 from rfl, show ((3 : Fin 4) : Nat) = 3 from rfl]
  ac_rfl

/-- A tap of the wrong parity meets a zero. -/
theorem dilAt_odd {H W : Nat} (x : Fin H → Fin W → EReal) (p q : Nat) (h : p % 2 = 1 ∨ q % 2 = 1) : dilAt x p q = 0 := by
  unfold dilAt
  rw [dif_neg]
  omega

/-- A tap of the right parity meets the entry of the padded plane. -/
theorem dilAt_even {H W : Nat} (x : Fin H → Fin W → EReal) (p q : Nat) : dilAt x (2 * p) (2 * q) = padAt x p q := by
  unfold dilAt padAt
  by_cases h : (1 ≤ p ∧ p - 1 < H) ∧ (1 ≤ q ∧ q - 1 < W)
  · rw [dif_pos h, dif_pos (by omega)]
    congr 1 <;> apply Fin.ext
    · show (2 * p - 2) / 2 = p - 1
      omega
    · show (2 * q - 2) / 2 = q - 1
      omega
  · rw [dif_neg h, dif_neg (by omega)]

/-- The transposed convolution from a 2x2 neighbourhood. -/
theorem quad_deconv {C H W : Nat} (x : Fin C → Fin H → Fin W → EReal)
    (w : Fin C → Fin 4 → Fin 4 → EReal) (b : EReal) (i j : Nat)
    (U V : Fin 2 → Fin 2 → Fin C → EReal)
    (hU : ∀ (a a' : Fin 2) (c : Fin C), U a a' c = padAt (x c) ((i + 1) / 2 + a.val) ((j + 1) / 2 + a'.val))
    (hV : ∀ (a a' : Fin 2) (c : Fin C), V a a' c
      = w c ⟨3 - 2 * a.val - i % 2, by omega⟩ ⟨3 - 2 * a'.val - j % 2, by omega⟩) :
    quad U V b = deconvAt x w b i j := by
  unfold quad deconvAt
  congr 1
  simp only [hU, hV]
  rw [← Finset.sum_add_distrib, ← Finset.sum_add_distrib, ← Finset.sum_add_distrib]
  refine Finset.sum_congr rfl fun c _ => ?_
  simp only [Fin.sum_univ_four]
  have e0 : ∀ u v, dilAt (x c) (2 * u) (2 * v) = padAt (x c) u v := dilAt_even _
  have ev : ∀ p q u v, p = 2 * u → q = 2 * v → dilAt (x c) p q = padAt (x c) u v := by
    rintro _ _ u v rfl rfl; exact e0 u v
  have od : ∀ p q, p % 2 = 1 ∨ q % 2 = 1 → dilAt (x c) p q = 0 := dilAt_odd _
  have r0 : Fin.rev (0 : Fin 4) = 3 := rfl
  have r1 : Fin.rev (1 : Fin 4) = 2 := rfl
  have r2 : Fin.rev (2 : Fin 4) = 1 := rfl
  have r3 : Fin.rev (3 : Fin 4) = 0 := rfl
  have v3 : ((3 : Fin 4) : Nat) = 3 := rfl
  simp only [r0, r1, r2, r3, v3, Fin.val_zero, Fin.val_one, Fin.val_two]
  rcases Nat.mod_two_eq_zero_or_one i with hi | hi <;> rcases Nat.mod_two_eq_zero_or_one j with hj | hj
  · rw [ev (i + 0) (j + 0) ((i + 1) / 2 + 0) ((j + 1) / 2 + 0) (by omega) (by omega),
      ev (i + 0) (j + 2) ((i + 1) / 2 + 0) ((j + 1) / 2 + 1) (by omega) (by omega),
      ev (i + 2) (j + 0) ((i + 1) / 2 + 1) ((j + 1) / 2 + 0) (by omega) (by omega),
      ev (i + 2) (j + 2) ((i + 1) / 2 + 1) ((j + 1) / 2 + 1) (by omega) (by omega)]
    rw [od (i + 0) (j + 1) (by omega), od (i + 0) (j + 3) (by omega), od (i + 2) (j + 1) (by omega), od (i + 2) (j + 3) (by omega),
      od (i + 1) (j + 0) (by omega), od (i + 1) (j + 1) (by omega), od (i + 1) (j + 2) (by omega), od (i + 1) (j + 3) (by omega),
      od (i + 3) (j + 0) (by omega), od (i + 3) (j + 1) (by omega), od (i + 3) (j + 2) (by omega), od (i + 3) (j + 3) (by omega)]
    simp only [hi, hj, mul_zero, add_zero, zero_add, Nat.sub_zero, Nat.mul_zero, Nat.mul_one, mul_comm (padAt _ _ _)]
    simp only [add_assoc]; rfl
  · rw [ev (i + 0) (j + 1) ((i + 1) / 2 + 0) ((j + 1) / 2 + 0) (by omega) (by omega),
      ev (i + 0) (j + 3) ((i + 1) / 2 + 0) ((j + 1) / 2 + 1) (by omega) (by omega),
      ev (i + 2) (j + 1) ((i + 1) / 2 + 1) ((j + 1) / 2 + 0) (by omega) (by omega),
      ev (i + 2) (j + 3) ((i + 1) / 2 + 1) ((j + 1) / 2 + 1) (by omega) (by omega)]
    rw [od (i + 0) (j + 0) (by omega), od (i + 0) (j + 2) (by omega), od (i + 2) (j + 0) (by omega), od (i + 2) (j + 2) (by omega),
      od (i + 1) (j + 0) (by omega), od (i + 1) (j + 1) (by omega), od (i + 1) (j + 2) (by omega), od (i + 1) (j + 3) (by omega),
      od (i + 3) (j + 0) (by omega), od (i + 3) (j + 1) (by omega), od (i + 3) (j + 2) (by omega), od (i + 3) (j + 3) (by omega)]
    simp only [hi, hj, mul_zero, add_zero, zero_add, Nat.sub_zero, Nat.mul_zero, Nat.mul_one, mul_comm (padAt _ _ _)]
    simp only [add_assoc]; rfl
  · rw [ev (i + 1) (j + 0) ((i + 1) / 2 + 0) ((j + 1) / 2 + 0) (by omega) (by omega),
      ev (i + 1) (j + 2) ((i + 1) / 2 + 0) ((j + 1) / 2 + 1) (by omega) (by omega),
      ev (i + 3) (j + 0) ((i + 1) / 2 + 1) ((j + 1) / 2 + 0) (by omega) (by omega),
      ev (i + 3) (j + 2) ((i + 1) / 2 + 1) ((j + 1) / 2 + 1) (by omega) (by omega)]
    rw [od (i + 1) (j + 1) (by omega), od (i + 1) (j + 3) (by omega), od (i + 3) (j + 1) (by omega), od (i + 3) (j + 3) (by omega),
      od (i + 0) (j + 0) (by omega), od (i + 0) (j + 1) (by omega), od (i + 0) (j + 2) (by omega), od (i + 0) (j + 3) (by omega),
      od (i + 2) (j + 0) (by omega), od (i + 2) (j + 1) (by omega), od (i + 2) (j + 2) (by omega), od (i + 2) (j + 3) (by omega)]
    simp only [hi, hj, mul_zero, add_zero, zero_add, Nat.sub_zero, Nat.mul_zero, Nat.mul_one, mul_comm (padAt _ _ _)]
    simp only [add_assoc]; rfl
  · rw [ev (i + 1) (j + 1) ((i + 1) / 2 + 0) ((j + 1) / 2 + 0) (by omega) (by omega),
      ev (i + 1) (j + 3) ((i + 1) / 2 + 0) ((j + 1) / 2 + 1) (by omega) (by omega),
      ev (i + 3) (j + 1) ((i + 1) / 2 + 1) ((j + 1) / 2 + 0) (by omega) (by omega),
      ev (i + 3) (j + 3) ((i + 1) / 2 + 1) ((j + 1) / 2 + 1) (by omega) (by omega)]
    rw [od (i + 1) (j + 0) (by omega), od (i + 1) (j + 2) (by omega), od (i + 3) (j + 0) (by omega), od (i + 3) (j + 2) (by omega),
      od (i + 0) (j + 0) (by omega), od (i + 0) (j + 1) (by omega), od (i + 0) (j + 2) (by omega), od (i + 0) (j + 3) (by omega),
      od (i + 2) (j + 0) (by omega), od (i + 2) (j + 1) (by omega), od (i + 2) (j + 2) (by omega), od (i + 2) (j + 3) (by omega)]
    simp only [hi, hj, mul_zero, add_zero, zero_add, Nat.sub_zero, Nat.mul_zero, Nat.mul_one, mul_comm (padAt _ _ _)]
    simp only [add_assoc]; rfl

end Cert.Math
-- ==== Proof.Taps.lean ====
module

public import Idealize.ShloMosaic.Lib.Pointwise
public import Idealize.ShloMosaic.Lib.StableHlo.Run

/-!
# Reading a convolution written with gathered taps

A contraction over three axes as a triple sum, and the two gathers that lay the taps of a
convolution next to its result positions.
-/

@[expose] public section

set_option maxRecDepth 16384

noncomputable section

namespace Cert.Math

open Idealize.ShloMosaic

/-- An index of a shape known to have three axes. -/
def at3 {s : Shape} {A B C : Nat} (h : s = ⟨3, ![A, B, C]⟩) (a : Fin A) (b : Fin B) (c : Fin C) : s.Idx :=
  fun p => ⟨if p.val = 0 then a.val else if p.val = 1 then b.val else c.val, by
    subst h; fin_cases p
    · exact a.isLt
    · exact b.isLt
    · exact c.isLt⟩

/-- A sum over the indices of a shape known to have three axes. -/
theorem sum_at3 {s : Shape} {A B C : Nat} (h : s = ⟨3, ![A, B, C]⟩) (f : s.Idx → EReal) :
    ∑ i : s.Idx, f i = ∑ a : Fin A, ∑ b : Fin B, ∑ c : Fin C, f (at3 h a b c) := by
  subst h
  rw [sum_idx3]
  refine Finset.sum_congr rfl fun a _ => Finset.sum_congr rfl fun b _ => Finset.sum_congr rfl fun c _ => ?_
  congr 1
  funext p
  fin_cases p <;> rfl

/-- A contraction of weights with taps over the channel and the two tap axes. -/
theorem dot_taps {O C N I J : Nat} (d : DotDims ⟨4, ![O, C, 4, 4]⟩ ⟨6, ![N, C, I, 4, J, 4]⟩ ⟨4, ![O, N, I, J]⟩)
    (h1 : d.lhsContracting = [1, 2, 3]) (h2 : d.rhsContracting = [1, 3, 5]) (h3 : d.lhsNonContracting = [0])
    (h4 : d.rhsNonContracting = [0, 2, 4]) (h5 : d.lhsBatch = []) (h6 : d.rhsBatch = [])
    (w : Vec Ideal ⟨4, ![O, C, 4, 4]⟩ .f32) (X : Vec Ideal ⟨6, ![N, C, I, 4, J, 4]⟩ .f32)
    (o : Fin O) (n : Fin N) (i : Fin I) (j : Fin J) :
    Host.dotGeneral (F := Ideal) (φ₁ := .f32) (φ₂ := .f32) d none w X (ix4 o n i j)
      = ∑ c : Fin C, ∑ k : Fin 4, ∑ l : Fin 4, (w (ix4 o c k l) : EReal) * X (ix6 n c i k j l) := by
  obtain ⟨_, _, _, _, _, _, wf⟩ := d
  simp only at h1 h2 h3 h4 h5 h6
  subst h1 h2 h3 h4 h5 h6
  show (0 : EReal) + _ = _
  rw [zero_add, sum_at3 (A := C) (B := 4) (C := 4) (by
    unfold DotDims.contr Shape.ofList; simp only [List.map]; congr 1; funext p; fin_cases p <;> rfl)]
  refine Finset.sum_congr rfl fun c _ => Finset.sum_congr rfl fun k _ => Finset.sum_congr rfl fun l _ => ?_
  congr 2
  · funext p; fin_cases p <;> rfl
  · funext p; fin_cases p <;> rfl

/-- The gather of rows: the third axis read at the given positions. -/
theorem gather_rows {N C H W I K : Nat} {α : Type} (d : GatherDims ⟨4, ![N, C, H, W]⟩ ⟨3, ![I, K, 1]⟩ ⟨5, ![N, C, I, K, W]⟩)
    (h1 : d.offsetDims = [0, 1, 4]) (h2 : d.collapsedSliceDims = [2]) (h3 : d.operandBatchingDims = [])
    (h4 : d.startIndicesBatchingDims = []) (h5 : d.startIndexMap = [2]) (h6 : d.indexVectorDim = 2)
    (h7 : d.sliceSizes = ![N, C, 1, W]) (x : (⟨4, ![N, C, H, W]⟩ : Shape).Idx → α) (idx : IVec ⟨3, ![I, K, 1]⟩ 32)
    (n : Fin N) (c : Fin C) (i : Fin I) (k : Fin K) (q : Fin W) (p : Fin H) (hp : (idx (ix3 i k 0)).toInt = p.val) :
    Host.gather d x idx (ix5 n c i k q) = x (ix4 n c p q) := by
  obtain ⟨_, _, _, _, _, _, _, wf⟩ := d
  simp only at h1 h2 h3 h4 h5 h6 h7
  subst h1 h2 h3 h4 h5 h6 h7
  show x _ = _
  congr 1
  funext a
  fin_cases a <;> apply Fin.ext
  · exact (Nat.zero_add n.val : 0 + 0 + n.val = _)
  · exact (Nat.zero_add c.val : 0 + 0 + c.val = _)
  · show min (idx _).toInt.toNat (H - 1) + 0 + 0 = p.val
    rw [show GatherDims.siIdx _ _ _ = ix3 i k 0 from by funext b; fin_cases b <;> rfl, hp]
    omega
  · exact (Nat.zero_add q.val : 0 + 0 + q.val = _)

/-- The gather of columns: the fifth axis read at the given positions. -/
theorem gather_cols {N C R K W I L : Nat} {α : Type}
    (d : GatherDims ⟨5, ![N, C, R, K, W]⟩ ⟨3, ![I, L, 1]⟩ ⟨6, ![N, C, R, K, I, L]⟩)
    (h1 : d.offsetDims = [0, 1, 2, 3]) (h2 : d.collapsedSliceDims = [4]) (h3 : d.operandBatchingDims = [])
    (h4 : d.startIndicesBatchingDims = []) (h5 : d.startIndexMap = [4]) (h6 : d.indexVectorDim = 2)
    (h7 : d.sliceSizes = ![N, C, R, K, 1]) (x : (⟨5, ![N, C, R, K, W]⟩ : Shape).Idx → α) (idx : IVec ⟨3, ![I, L, 1]⟩ 32)
    (n : Fin N) (c : Fin C) (r : Fin R) (k : Fin K) (j : Fin I) (l : Fin L) (p : Fin W)
    (hp : (idx (ix3 j l 0)).toInt = p.val) :
    Host.gather d x idx (ix6 n c r k j l) = x (ix5 n c r k p) := by
  obtain ⟨_, _, _, _, _, _, _, wf⟩ := d
  simp only at h1 h2 h3 h4 h5 h6 h7
  subst h1 h2 h3 h4 h5 h6 h7
  show x _ = _
  congr 1
  funext a
  fin_cases a <;> apply Fin.ext
  · exact (Nat.zero_add n.val : 0 + 0 + n.val = _)
  · exact (Nat.zero_add c.val : 0 + 0 + c.val = _)
  · exact (Nat.zero_add r.val : 0 + 0 + r.val = _)
  · exact (Nat.zero_add k.val : 0 + 0 + k.val = _)
  · show min (idx _).toInt.toNat (W - 1) + 0 + 0 = p.val
    rw [show GatherDims.siIdx _ _ _ = ix3 j l 0 from by funext b; fin_cases b <;> rfl, hp]
    omega

/-- The gather of weights: the two tap axes read at the given pairs of positions. -/
theorem gather_taps {A B : Nat} {α : Type}
    (d : GatherDims ⟨4, ![A, B, 4, 4]⟩ ⟨5, ![2, 2, 2, 2, 2]⟩ ⟨6, ![A, B, 2, 2, 2, 2]⟩)
    (h1 : d.offsetDims = [0, 1]) (h2 : d.collapsedSliceDims = [2, 3]) (h3 : d.operandBatchingDims = [])
    (h4 : d.startIndicesBatchingDims = []) (h5 : d.startIndexMap = [2, 3]) (h6 : d.indexVectorDim = 4)
    (h7 : d.sliceSizes = ![A, B, 1, 1]) (x : (⟨4, ![A, B, 4, 4]⟩ : Shape).Idx → α) (idx : IVec ⟨5, ![2, 2, 2, 2, 2]⟩ 32)
    (a : Fin A) (b : Fin B) (p q r s : Fin 2) (k l : Fin 4) (hk : (idx (ix5 p q r s 0)).toInt = k.val)
    (hl : (idx (ix5 p q r s 1)).toInt = l.val) :
    Host.gather d x idx (ix6 a b p q r s) = x (ix4 a b k l) := by
  obtain ⟨_, _, _, _, _, _, _, wf⟩ := d
  simp only at h1 h2 h3 h4 h5 h6 h7
  subst h1 h2 h3 h4 h5 h6 h7
  show x _ = _
  congr 1
  funext c
  fin_cases c <;> apply Fin.ext
  · exact (Nat.zero_add a.val : 0 + 0 + a.val = _)
  · exact (Nat.zero_add b.val : 0 + 0 + b.val = _)
  · show min (idx _).toInt.toNat (4 - 1) + 0 + 0 = k.val
    rw [show GatherDims.siIdx _ _ _ = ix5 p q r s 0 from by funext e; fin_cases e <;> rfl, hk]
    omega
  · show min (idx _).toInt.toNat (4 - 1) + 0 + 0 = l.val
    rw [show GatherDims.siIdx _ _ _ = ix5 p q r s 1 from by funext e; fin_cases e <;> rfl, hl]
    omega

/-- The gather of whole rows at the given positions. -/
theorem gather_row {R D M : Nat} {α : Type} (d : GatherDims ⟨2, ![R, D]⟩ ⟨2, ![M, 1]⟩ ⟨2, ![M, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (x : (⟨2, ![R, D]⟩ : Shape).Idx → α) (idx : IVec ⟨2, ![M, 1]⟩ 32)
    (m : Fin M) (e : Fin D) (r : Fin R) (hr : (idx (ix2 m 0)).toInt = r.val) :
    Host.gather d x idx (ix2 m e) = x (ix2 r e) := by
  obtain ⟨_, _, _, _, _, _, _, wf⟩ := d
  simp only at h1 h2 h3 h4 h5 h6 h7
  subst h1 h2 h3 h4 h5 h6 h7
  show x _ = _
  congr 1
  funext c
  fin_cases c <;> apply Fin.ext
  · show min (idx _).toInt.toNat (R - 1) + 0 + 0 = r.val
    rw [show GatherDims.siIdx _ _ _ = ix2 m 0 from by funext e; fin_cases e <;> rfl, hr]
    omega
  · exact (Nat.zero_add e.val : 0 + 0 + e.val = _)

/-- A tap's position `s * i + k` as a signed word. -/
theorem tap_toInt (s i k : Nat) (hs : s ≤ 2) (hi : i < 1024) (hk : k < 4) :
    (BitVec.ofNat 32 s * BitVec.ofNat 32 i + BitVec.ofNat 32 k).toInt = ((s * i + k : Nat) : Int) := by
  have h : BitVec.ofNat 32 s * BitVec.ofNat 32 i + BitVec.ofNat 32 k = BitVec.ofNat 32 (s * i + k) := by
    rw [BitVec.ofNat_add, BitVec.ofNat_mul]
  have hb : s * i + k < 2 ^ 31 := by nlinarith
  rw [h, BitVec.toInt_eq_toNat_cond, BitVec.toNat_ofNat, Nat.mod_eq_of_lt (by omega), if_pos (by omega)]

/-- The zero word as a number. -/
theorem word_zero : (FloatOps.sitofp (F := Ideal) FTy.f32 (0#32) : EReal) = 0 := by
  show (((0#32 : BitVec 32).toInt : ℝ) : EReal) = 0
  simp

end Cert.Math
-- ==== Proof.HostRead.lean ====
module

public import proofs.«01_k».proof.Proof.HostConv
public import proofs.«01_k».proof.Proof.HostDeconv
public import proofs.«01_k».proof.Proof.Layers
public import proofs.«01_k».proof.Proof.Taps

/-!
# The host operations read at one index
-/

@[expose] public section

set_option maxRecDepth 16384

noncomputable section

namespace Cert.KernelIdeal.Val

open Cert.KernelIdeal Cert.KernelIdeal.Gen Cert.Math Idealize.ShloMosaic Idealize.ShloMosaic.TcCoe

/-- A table of small positions passes the wrap of negative positions unchanged. -/
theorem wrap_id (t : BitVec 32) (h : 0 ≤ t.toInt) :
    Scalar.select (IntOp.cmpi CmpIPredicate.slt t 0#32) (IntOp.addi t 4#32) t = t := by
  have : IntOp.cmpi CmpIPredicate.slt t 0#32 = 0#1 := by
    show BitVec.ofBool (t.slt 0#32) = 0#1
    rw [BitVec.slt_eq_decide, decide_eq_false (by simpa using h)]; rfl
  rw [this]; rfl

theorem pairs_left (t : IVec S2x2 32) (h : ∀ i, 0 ≤ (t i).toInt) (p q r s : Fin 2) :
    pairs t (ix5 p q r s 0) = t (ix2 p q) := by
  pointwise [pairs]
  exact wrap_id _ (h _)

theorem pairs_right (t : IVec S2x2 32) (h : ∀ i, 0 ≤ (t i).toInt) (p q r s : Fin 2) :
    pairs t (ix5 p q r s 1) = t (ix2 r s) := by
  pointwise [pairs]
  exact wrap_id _ (h _)

/-- The table of tap positions: row `e` and column `a` hold `3 - 2 a - e`. -/
def taps : IVec S2x2 32 := fun i => lit0 (S2x2.rowMajor i)

theorem taps_lit1 : (fun i => lit1 (S2x2.rowMajor i)) = taps := rfl
theorem taps_lit2 : (fun i => lit2 (S2x2.rowMajor i)) = taps := rfl

theorem taps_apply (e a : Fin 2) : (taps (ix2 e a)).toInt = ((3 - 2 * a.val - e.val : Nat) : Int) := by
  fin_cases e <;> fin_cases a <;> rfl

theorem taps_nonneg (i : S2x2.Idx) : 0 ≤ (taps i).toInt := by
  rw [eq_ix2 i]
  exact le_of_le_of_eq (Int.natCast_nonneg _) (taps_apply (i 0) (i 1)).symm

theorem cp1_apply (x : Vec Ideal S8x3x384x384 .f32) (n : Fin 8) (p q : Fin 386) (c : Fin 3) :
    cp1 (F := Ideal) x (ix4 n p q c) = padAt (fun a e => x (ix4 n c a e)) p.val q.val := by
  pointwise [cp1, padAt]
  rw [word_zero]

theorem cs1_apply (X : Vec Ideal S8x386x386x3 .f32) (n : Fin 8) (p q : Fin 193) (e f : Fin 2) (c : Fin 3) :
    cs1 (F := Ideal) X (ix4 n p q ⟨(2 * e.val + f.val) * 3 + c.val, by omega⟩)
      = X (ix4 n ⟨2 * p.val + e.val, by omega⟩ ⟨2 * q.val + f.val, by omega⟩ c) := by
  fin_cases e <;> fin_cases f
  · pointwise [cs1]
  · pointwise [cs1]
    congr 3; omega
  · pointwise [cs1]
    rw [dif_neg (by omega), dif_neg (by omega), dif_pos (by omega)]
    congr 3 <;> omega
  · pointwise [cs1]
    rw [dif_neg (by omega), dif_neg (by omega), dif_neg (by omega)]
    congr 3 <;> omega

theorem cw1_apply (w : Vec Ideal S128x3x4x4 .f32) (a b e f : Fin 2) (c : Fin 3) (o : Fin 128) :
    cw1 (F := Ideal) w (ix4 a b ⟨(2 * e.val + f.val) * 3 + c.val, by omega⟩ o)
      = w (ix4 o c ⟨2 * a.val + e.val, by omega⟩ ⟨2 * b.val + f.val, by omega⟩) := by
  pointwise [cw1]
  congr 3 <;> omega

theorem cb1_apply (b : Vec Ideal S128 .f32) (o : Fin 128) : cb1 (F := Ideal) b (ix2 0 o) = b (ix1 o) := by
  pointwise [cb1]

theorem cp2_apply (x : Vec Ideal S8x192x192x128 .f32) (n : Fin 8) (p q : Fin 194) (c : Fin 128) :
    cp2 (F := Ideal) x (ix4 n p q c) = padAt (fun a e => x (ix4 n a e c)) p.val q.val := by
  pointwise [cp2, padAt]
  rw [word_zero]

theorem cs2_apply (X : Vec Ideal S8x194x194x128 .f32) (n : Fin 8) (p q : Fin 97) (e f : Fin 2) (c : Fin 128) :
    cs2 (F := Ideal) X (ix4 n p q ⟨(2 * e.val + f.val) * 128 + c.val, by omega⟩)
      = X (ix4 n ⟨2 * p.val + e.val, by omega⟩ ⟨2 * q.val + f.val, by omega⟩ c) := by
  fin_cases e <;> fin_cases f
  · pointwise [cs2]
  · pointwise [cs2]
    congr 3; omega
  · pointwise [cs2]
    rw [dif_neg (by omega), dif_neg (by omega), dif_pos (by omega)]
    congr 3 <;> omega
  · pointwise [cs2]
    rw [dif_neg (by omega), dif_neg (by omega), dif_neg (by omega)]
    congr 3 <;> omega

theorem cw2_apply (w : Vec Ideal S256x128x4x4 .f32) (a b e f : Fin 2) (c : Fin 128) (o : Fin 256) :
    cw2 (F := Ideal) w (ix4 a b ⟨(2 * e.val + f.val) * 128 + c.val, by omega⟩ o)
      = w (ix4 o c ⟨2 * a.val + e.val, by omega⟩ ⟨2 * b.val + f.val, by omega⟩) := by
  pointwise [cw2]
  congr 3 <;> omega

theorem cb2_apply (b : Vec Ideal S256 .f32) (o : Fin 256) : cb2 (F := Ideal) b (ix2 0 o) = b (ix1 o) := by
  pointwise [cb2]

theorem cp3_apply (x : Vec Ideal S8x96x96x256 .f32) (n : Fin 8) (p q : Fin 98) (c : Fin 256) :
    cp3 (F := Ideal) x (ix4 n p q c) = padAt (fun a e => x (ix4 n a e c)) p.val q.val := by
  pointwise [cp3, padAt]
  rw [word_zero]

theorem cs3_apply (X : Vec Ideal S8x98x98x256 .f32) (n : Fin 8) (p q : Fin 49) (e f : Fin 2) (c : Fin 256) :
    cs3 (F := Ideal) X (ix4 n p q ⟨(2 * e.val + f.val) * 256 + c.val, by omega⟩)
      = X (ix4 n ⟨2 * p.val + e.val, by omega⟩ ⟨2 * q.val + f.val, by omega⟩ c) := by
  fin_cases e <;> fin_cases f
  · pointwise [cs3]
  · pointwise [cs3]
    congr 3; omega
  · pointwise [cs3]
    rw [dif_neg (by omega), dif_neg (by omega), dif_pos (by omega)]
    congr 3 <;> omega
  · pointwise [cs3]
    rw [dif_neg (by omega), dif_neg (by omega), dif_neg (by omega)]
    congr 3 <;> omega

theorem cw3_apply (w : Vec Ideal S64x256x4x4 .f32) (a b e f : Fin 2) (c : Fin 256) (o : Fin 64) :
    cw3 (F := Ideal) w (ix4 a b ⟨(2 * e.val + f.val) * 256 + c.val, by omega⟩ o)
      = w (ix4 o c ⟨2 * a.val + e.val, by omega⟩ ⟨2 * b.val + f.val, by omega⟩) := by
  pointwise [cw3]
  congr 3 <;> omega

theorem cb3_apply (b : Vec Ideal S64 .f32) (o : Fin 64) : cb3 (F := Ideal) b (ix2 0 o) = b (ix1 o) := by
  pointwise [cb3]

theorem dp1_apply (x : Vec Ideal S8x48x48x64 .f32) (n : Fin 8) (p : Fin 50) (q : Fin 50) (c : Fin 64) :
    dp1 (F := Ideal) x (ix4 n p q c) = padAt (fun a e => x (ix4 n a e c)) p.val q.val := by
  pointwise [dp1, padAt]
  rw [word_zero]

theorem dg1_apply (w : Vec Ideal S64x256x4x4 .f32) (c : Fin 64) (o : Fin 256) (e a f b : Fin 2) :
    dg1 (F := Ideal) w taps (ix6 c o e a f b)
      = w (ix4 c o ⟨3 - 2 * a.val - e.val, by omega⟩ ⟨3 - 2 * b.val - f.val, by omega⟩) :=
  gather_taps _ rfl rfl rfl rfl rfl rfl rfl w (pairs taps) c o e a f b _ _
    ((congrArg BitVec.toInt (pairs_left taps taps_nonneg e a f b)).trans (taps_apply e a))
    ((congrArg BitVec.toInt (pairs_right taps taps_nonneg e a f b)).trans (taps_apply f b))

theorem dw1_apply (g : Vec Ideal S64x256x2x2x2x2 .f32) (a b e f : Fin 2) (c : Fin 64) (o : Fin 256) :
    dw1 (F := Ideal) g (ix4 a b c ⟨(e.val * 2 + f.val) * 256 + o.val, by omega⟩) = g (ix6 c o e a f b) := by
  pointwise [dw1]

theorem db1_apply (b : Vec Ideal S256 .f32) (e f : Fin 2) (o : Fin 256) :
    db1 (F := Ideal) b (ix2 0 ⟨(e.val * 2 + f.val) * 256 + o.val, by omega⟩) = b (ix1 o) := by
  pointwise [db1]

theorem dp2_apply (x : Vec Ideal S8x96x96x256 .f32) (n : Fin 8) (p : Fin 98) (q : Fin 98) (c : Fin 256) :
    dp2 (F := Ideal) x (ix4 n p q c) = padAt (fun a e => x (ix4 n a e c)) p.val q.val := by
  pointwise [dp2, padAt]
  rw [word_zero]

theorem dg2_apply (w : Vec Ideal S256x128x4x4 .f32) (c : Fin 256) (o : Fin 128) (e a f b : Fin 2) :
    dg2 (F := Ideal) w taps (ix6 c o e a f b)
      = w (ix4 c o ⟨3 - 2 * a.val - e.val, by omega⟩ ⟨3 - 2 * b.val - f.val, by omega⟩) :=
  gather_taps _ rfl rfl rfl rfl rfl rfl rfl w (pairs taps) c o e a f b _ _
    ((congrArg BitVec.toInt (pairs_left taps taps_nonneg e a f b)).trans (taps_apply e a))
    ((congrArg BitVec.toInt (pairs_right taps taps_nonneg e a f b)).trans (taps_apply f b))

theorem dw2_apply (g : Vec Ideal S256x128x2x2x2x2 .f32) (a b e f : Fin 2) (c : Fin 256) (o : Fin 128) :
    dw2 (F := Ideal) g (ix4 a b c ⟨(e.val * 2 + f.val) * 128 + o.val, by omega⟩) = g (ix6 c o e a f b) := by
  pointwise [dw2]

theorem db2_apply (b : Vec Ideal S128 .f32) (e f : Fin 2) (o : Fin 128) :
    db2 (F := Ideal) b (ix2 0 ⟨(e.val * 2 + f.val) * 128 + o.val, by omega⟩) = b (ix1 o) := by
  pointwise [db2]

theorem dp3_apply (x : Vec Ideal S8x192x192x128 .f32) (n : Fin 8) (p : Fin 210) (q : Fin 194) (c : Fin 128) :
    dp3 (F := Ideal) x (ix4 n p q c) = padAt (fun a e => x (ix4 n a e c)) p.val q.val := by
  pointwise [dp3, padAt]
  rw [word_zero]

theorem dg3_apply (w : Vec Ideal S128x3x4x4 .f32) (c : Fin 128) (o : Fin 3) (e a f b : Fin 2) :
    dg3 (F := Ideal) w taps (ix6 c o e a f b)
      = w (ix4 c o ⟨3 - 2 * a.val - e.val, by omega⟩ ⟨3 - 2 * b.val - f.val, by omega⟩) :=
  gather_taps _ rfl rfl rfl rfl rfl rfl rfl w (pairs taps) c o e a f b _ _
    ((congrArg BitVec.toInt (pairs_left taps taps_nonneg e a f b)).trans (taps_apply e a))
    ((congrArg BitVec.toInt (pairs_right taps taps_nonneg e a f b)).trans (taps_apply f b))

theorem dw3_apply (g : Vec Ideal S128x3x2x2x2x2 .f32) (a b e f : Fin 2) (c : Fin 128) (o : Fin 3) :
    dw3 (F := Ideal) g (ix4 a b c ⟨(e.val * 2 + f.val) * 3 + o.val, by omega⟩) = g (ix6 c o e a f b) := by
  pointwise [dw3]

theorem db3_apply (b : Vec Ideal S3 .f32) (e f : Fin 2) (o : Fin 3) :
    db3 (F := Ideal) b (ix2 0 ⟨(e.val * 2 + f.val) * 3 + o.val, by omega⟩) = b (ix1 o) := by
  pointwise [db3]

theorem outs_apply (v : Vec Ideal S8x208x194x2x2x3 .f32) (n : Fin 8) (i j : Fin 192) (e f : Fin 2) (c : Fin 3) :
    outs (F := Ideal) v (ix6 n i j e f c) = v (ix6 n ⟨i.val + e.val, by omega⟩ ⟨j.val + f.val, by omega⟩ e f c) := by
  fin_cases e <;> fin_cases f <;> pointwise [outs] <;> congr 3 <;> omega

theorem outc_apply (v : Vec Ideal S8x208x194x12 .f32) (n : Fin 8) (i : Fin 208) (j : Fin 194) (e f : Fin 2) (c : Fin 3) :
    outc (F := Ideal) v (ix6 n i j e f c) = v (ix4 n i j ⟨(e.val * 2 + f.val) * 3 + c.val, by omega⟩) := by
  pointwise [outc]
  congr 3
  omega

theorem outi_apply (v : Vec Ideal S8x192x192x2x2x3 .f32) (n : Fin 8) (i j : Fin 384) (c : Fin 3) :
    outi (F := Ideal) v (ix4 n c i j)
      = v (ix6 n ⟨i.val / 2, by omega⟩ ⟨j.val / 2, by omega⟩ ⟨i.val % 2, by omega⟩ ⟨j.val % 2, by omega⟩ c) := by
  pointwise [outi]

theorem zf_apply (x : Vec Ideal S8x48x48x64 .f32) (n : Fin 8) (c : Fin 64) (i j : Fin 48) :
    zf (F := Ideal) x (ix4 n c i j) = x (ix4 n i j c) := by
  pointwise [zf]

theorem zl_apply (x : Vec Ideal S8x64x48x48 .f32) (n : Fin 8) (c : Fin 64) (i j : Fin 48) :
    zl (F := Ideal) x (ix4 n i j c) = x (ix4 n c i j) := by
  pointwise [zl]

end Cert.KernelIdeal.Val
-- ==== Proof.Arr0.lean ====
module

public import proofs.«01_k».proof.Proof.Quad

/-!
# What region 0 leaves in its output array: the two-by-two convolution
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum from there. -/
theorem pay0 (x0 : Vec Ideal S1x17x193x12 .f32) (x1 : Vec Ideal S2x2x12x128 .f32) (x2 : Vec Ideal S1x128 .f32)
    (h : Fin 16) (w : Fin 192) (o : Fin 128) :
    out0_3 x0 x1 x2 (ix4 0 h w o) = max (quad (fun a b k => x0 (ix4 0 ⟨h + a, by omega⟩ ⟨w + b, by omega⟩ k)) (fun a b k => x1 (ix4 a b k o)) (x2 (ix2 0 o))) 0 := by
  unfold out0_3
  frame_out
  pointwise [k0_pay1, k0_pay2, k0_pay3]
  rw [dif_pos (by omega)]
  have v0 : ((0 : Fin 2) : ℕ) = 0 := rfl
  have v1 : ((1 : Fin 2) : ℕ) = 1 := rfl
  exact relu_quad_of
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl) rfl

/-- The two-by-two convolution of the whole array. -/
def G0 (U : S8x193x193x12.Idx → EReal) (W : S2x2x12x128.Idx → EReal) (B : S1x128.Idx → EReal) : S8x192x192x128.Idx → EReal := fun i =>
  max (quad (fun a b k => U (ix4 (i 0) ⟨(i 1).val + a, by have := (i 1).isLt; exact lt_of_lt_of_le (Nat.add_lt_add_of_lt_of_le this (Nat.le_of_lt_succ a.isLt)) (by decide)⟩
    ⟨(i 2).val + b, by have := (i 2).isLt; exact lt_of_lt_of_le (Nat.add_lt_add_of_lt_of_le this (Nat.le_of_lt_succ b.isLt)) (by decide)⟩ k))
    (fun a b k => W (ix4 a b k (i 3))) (B (ix2 0 (i 3)))) 0

variable (V : (c : Dev nD) → (b : Ref sig .tc) → Buf (Elt Ideal) ((c : Thread nD τ).loc b)) (c : Dev nD)

/-- Where each window of grid point `t` lies. -/
theorem idx0 : ∀ t : Fin grid0.N, win0_3.index t = ![t.val / 12, t.val % 12, 0, 0]
    ∧ win0_0.index t = ![t.val / 12, t.val % 12 * 16, 0, 0]
    ∧ win0_1.index t = ![0, 0, 0, 0] ∧ win0_2.index t = ![0, 0] := by
  decide +kernel

theorem lt0 (t : Fin grid0.N) : t.val < 96 := lt_of_lt_of_le t.isLt (by decide +kernel)

/-- The place of a tile's element in the output array. -/
theorem emb0_3 (t : Fin grid0.N) (h : Fin 16) (w : Fin 192) (o : Fin 128) :
    (win0_3.blk t).1.emb (ix4 0 h w o)
      = ix4 ⟨t.val / 12, by have := lt0 t; omega⟩ ⟨t.val % 12 * 16 + h, by have := lt0 t; omega⟩ w o := by
  obtain ⟨e3, e0, e1, e2⟩ := idx0 t
  funext d
  apply Fin.ext
  refine (win0_3.rect_emb_val_off t _ d).trans ?_
  rw [e3]
  match d with
  | ⟨0, _⟩ => show t.val / 12 * 1 + 0 = t.val / 12; omega
  | ⟨1, _⟩ => show t.val % 12 * 16 + h.val = t.val % 12 * 16 + h.val; omega
  | ⟨2, _⟩ => show 0 * 192 + w.val = w.val; omega
  | ⟨3, _⟩ => show 0 * 128 + o.val = o.val; omega

/-- What the input window holds. -/
theorem blk0_0 (t : Fin grid0.N) (h : Fin 17) (w : Fin 193) (k : Fin 12) :
    iblk0 V c 0 t (ix4 0 h w k) = V c main_v6 (ix4 ⟨t.val / 12, by have := lt0 t; omega⟩ ⟨t.val % 12 * 16 + h, by have := lt0 t; omega⟩ w k) := by
  obtain ⟨e3, e0, e1, e2⟩ := idx0 t
  refine congrArg (V c main_v6) ?_
  funext d
  apply Fin.ext
  refine (win0_0.rect_emb_val_off t _ d).trans ?_
  rw [e0]
  match d with
  | ⟨0, _⟩ => show t.val / 12 + 0 = t.val / 12; omega
  | ⟨1, _⟩ => rfl
  | ⟨2, _⟩ => show 0 + w.val = w.val; omega
  | ⟨3, _⟩ => show 0 + k.val = k.val; omega

/-- What the weight window holds. -/
theorem blk0_1 (t : Fin grid0.N) (a b : Fin 2) (k : Fin 12) (o : Fin 128) :
    iblk0 V c 1 t (ix4 a b k o) = V c main_v9 (ix4 a b k o) := by
  obtain ⟨e3, e0, e1, e2⟩ := idx0 t
  refine congrArg (V c main_v9) ?_
  funext d
  apply Fin.ext
  refine (win0_1.rect_emb_val_off t _ d).trans ?_
  rw [e1]
  match d with
  | ⟨0, _⟩ => show 0 * 2 + a.val = a.val; omega
  | ⟨1, _⟩ => show 0 * 2 + b.val = b.val; omega
  | ⟨2, _⟩ => show 0 * 12 + k.val = k.val; omega
  | ⟨3, _⟩ => show 0 * 128 + o.val = o.val; omega

/-- What the bias window holds. -/
theorem blk0_2 (t : Fin grid0.N) (z : Fin 1) (o : Fin 128) :
    iblk0 V c 2 t (ix2 z o) = V c main_v10 (ix2 z o) := by
  obtain ⟨e3, e0, e1, e2⟩ := idx0 t
  refine congrArg (V c main_v10) ?_
  funext d
  apply Fin.ext
  refine (win0_2.rect_emb_val_off t _ d).trans ?_
  rw [e2]
  match d with
  | ⟨0, _⟩ => show 0 * 1 + z.val = z.val; omega
  | ⟨1, _⟩ => show 0 * 128 + o.val = o.val; omega

/-- Region 0 leaves the two-by-two convolution of the arrays it read. -/
theorem arr0 : (dat0 V c).arrAt 3 cfg0.N = G0 (V c main_v6) (V c main_v9) (V c main_v10) := by
  refine (dat0 V c).arrAt_eq_of_covers 3 _ (by decide +kernel) fun t hf y => ?_
  blk_simp
  rw [after0_3]
  idx_vars y
  obtain rfl : y0 = 0 := Subsingleton.elim _ _
  rw [pay0]
  have hy := y1.isLt
  have ht := t.isLt
  have hN : grid0.N = 96 := by decide +kernel
  refine Eq.trans ?_ (congrArg (G0 (V c main_v6) (V c main_v9) (V c main_v10)) (emb0_3 t y1 y2 y3)).symm
  refine relu_quad_congr (fun a b k => ?_) (fun a b k => blk0_1 V c t a b k y3) (blk0_2 V c t 0 y3)
  rw [blk0_0]
  exact congrArg (V c main_v6) (ix4_at (Nat.add_assoc _ _ _).symm rfl rfl)

end Cert.KernelIdeal.Val
-- ==== Proof.Arr1.lean ====
module

public import proofs.«01_k».proof.Proof.Quad

/-!
# What region 1 leaves in its output array: the two-by-two convolution
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum from there. -/
theorem pay1 (x0 : Vec Ideal S1x9x97x512 .f32) (x1 : Vec Ideal S2x2x512x256 .f32) (x2 : Vec Ideal S1x256 .f32)
    (h : Fin 8) (w : Fin 96) (o : Fin 256) :
    out1_3 x0 x1 x2 (ix4 0 h w o) = max (quad (fun a b k => x0 (ix4 0 ⟨h + a, by omega⟩ ⟨w + b, by omega⟩ k)) (fun a b k => x1 (ix4 a b k o)) (x2 (ix2 0 o))) 0 := by
  unfold out1_3
  frame_out
  pointwise [k1_pay1, k1_pay2, k1_pay3]
  rw [dif_pos (by omega)]
  have v0 : ((0 : Fin 2) : ℕ) = 0 := rfl
  have v1 : ((1 : Fin 2) : ℕ) = 1 := rfl
  exact relu_quad_of
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl) rfl

/-- The two-by-two convolution of the whole array. -/
def G1 (U : S8x97x97x512.Idx → EReal) (W : S2x2x512x256.Idx → EReal) (B : S1x256.Idx → EReal) : S8x96x96x256.Idx → EReal := fun i =>
  max (quad (fun a b k => U (ix4 (i 0) ⟨(i 1).val + a, by have := (i 1).isLt; exact lt_of_lt_of_le (Nat.add_lt_add_of_lt_of_le this (Nat.le_of_lt_succ a.isLt)) (by decide)⟩
    ⟨(i 2).val + b, by have := (i 2).isLt; exact lt_of_lt_of_le (Nat.add_lt_add_of_lt_of_le this (Nat.le_of_lt_succ b.isLt)) (by decide)⟩ k))
    (fun a b k => W (ix4 a b k (i 3))) (B (ix2 0 (i 3)))) 0

variable (V : (c : Dev nD) → (b : Ref sig .tc) → Buf (Elt Ideal) ((c : Thread nD τ).loc b)) (c : Dev nD)

/-- Where each window of grid point `t` lies. -/
theorem idx1 : ∀ t : Fin grid1.N, win1_3.index t = ![t.val / 12, t.val % 12, 0, 0]
    ∧ win1_0.index t = ![t.val / 12, t.val % 12 * 8, 0, 0]
    ∧ win1_1.index t = ![0, 0, 0, 0] ∧ win1_2.index t = ![0, 0] := by
  decide +kernel

theorem lt1 (t : Fin grid1.N) : t.val < 96 := lt_of_lt_of_le t.isLt (by decide +kernel)

/-- The place of a tile's element in the output array. -/
theorem emb1_3 (t : Fin grid1.N) (h : Fin 8) (w : Fin 96) (o : Fin 256) :
    (win1_3.blk t).1.emb (ix4 0 h w o)
      = ix4 ⟨t.val / 12, by have := lt1 t; omega⟩ ⟨t.val % 12 * 8 + h, by have := lt1 t; omega⟩ w o := by
  obtain ⟨e3, e0, e1, e2⟩ := idx1 t
  funext d
  apply Fin.ext
  refine (win1_3.rect_emb_val_off t _ d).trans ?_
  rw [e3]
  match d with
  | ⟨0, _⟩ => show t.val / 12 * 1 + 0 = t.val / 12; omega
  | ⟨1, _⟩ => show t.val % 12 * 8 + h.val = t.val % 12 * 8 + h.val; omega
  | ⟨2, _⟩ => show 0 * 96 + w.val = w.val; omega
  | ⟨3, _⟩ => show 0 * 256 + o.val = o.val; omega

/-- What the input window holds. -/
theorem blk1_0 (t : Fin grid1.N) (h : Fin 9) (w : Fin 97) (k : Fin 512) :
    iblk1 V c 0 t (ix4 0 h w k) = V c main_v17 (ix4 ⟨t.val / 12, by have := lt1 t; omega⟩ ⟨t.val % 12 * 8 + h, by have := lt1 t; omega⟩ w k) := by
  obtain ⟨e3, e0, e1, e2⟩ := idx1 t
  refine congrArg (V c main_v17) ?_
  funext d
  apply Fin.ext
  refine (win1_0.rect_emb_val_off t _ d).trans ?_
  rw [e0]
  match d with
  | ⟨0, _⟩ => show t.val / 12 + 0 = t.val / 12; omega
  | ⟨1, _⟩ => rfl
  | ⟨2, _⟩ => show 0 + w.val = w.val; omega
  | ⟨3, _⟩ => show 0 + k.val = k.val; omega

/-- What the weight window holds. -/
theorem blk1_1 (t : Fin grid1.N) (a b : Fin 2) (k : Fin 512) (o : Fin 256) :
    iblk1 V c 1 t (ix4 a b k o) = V c main_v20 (ix4 a b k o) := by
  obtain ⟨e3, e0, e1, e2⟩ := idx1 t
  refine congrArg (V c main_v20) ?_
  funext d
  apply Fin.ext
  refine (win1_1.rect_emb_val_off t _ d).trans ?_
  rw [e1]
  match d with
  | ⟨0, _⟩ => show 0 * 2 + a.val = a.val; omega
  | ⟨1, _⟩ => show 0 * 2 + b.val = b.val; omega
  | ⟨2, _⟩ => show 0 * 512 + k.val = k.val; omega
  | ⟨3, _⟩ => show 0 * 256 + o.val = o.val; omega

/-- What the bias window holds. -/
theorem blk1_2 (t : Fin grid1.N) (z : Fin 1) (o : Fin 256) :
    iblk1 V c 2 t (ix2 z o) = V c main_v21 (ix2 z o) := by
  obtain ⟨e3, e0, e1, e2⟩ := idx1 t
  refine congrArg (V c main_v21) ?_
  funext d
  apply Fin.ext
  refine (win1_2.rect_emb_val_off t _ d).trans ?_
  rw [e2]
  match d with
  | ⟨0, _⟩ => show 0 * 1 + z.val = z.val; omega
  | ⟨1, _⟩ => show 0 * 256 + o.val = o.val; omega

/-- Region 1 leaves the two-by-two convolution of the arrays it read. -/
theorem arr1 : (dat1 V c).arrAt 3 cfg1.N = G1 (V c main_v17) (V c main_v20) (V c main_v21) := by
  refine (dat1 V c).arrAt_eq_of_covers 3 _ (by decide +kernel) fun t hf y => ?_
  blk_simp
  rw [after1_3]
  idx_vars y
  obtain rfl : y0 = 0 := Subsingleton.elim _ _
  rw [pay1]
  have hy := y1.isLt
  have ht := t.isLt
  have hN : grid1.N = 96 := by decide +kernel
  refine Eq.trans ?_ (congrArg (G1 (V c main_v17) (V c main_v20) (V c main_v21)) (emb1_3 t y1 y2 y3)).symm
  refine relu_quad_congr (fun a b k => ?_) (fun a b k => blk1_1 V c t a b k y3) (blk1_2 V c t 0 y3)
  rw [blk1_0]
  exact congrArg (V c main_v17) (ix4_at (Nat.add_assoc _ _ _).symm rfl rfl)

end Cert.KernelIdeal.Val
-- ==== Proof.Arr2.lean ====
module

public import proofs.«01_k».proof.Proof.Quad

/-!
# What region 2 leaves in its output array: the two-by-two convolution
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum from there. -/
theorem pay2 (x0 : Vec Ideal S1x9x49x1024 .f32) (x1 : Vec Ideal S2x2x1024x64 .f32) (x2 : Vec Ideal S1x64 .f32)
    (h : Fin 8) (w : Fin 48) (o : Fin 64) :
    out2_3 x0 x1 x2 (ix4 0 h w o) = quad (fun a b k => x0 (ix4 0 ⟨h + a, by omega⟩ ⟨w + b, by omega⟩ k)) (fun a b k => x1 (ix4 a b k o)) (x2 (ix2 0 o)) := by
  unfold out2_3
  frame_out
  pointwise [k2_pay1, k2_pay2]
  rw [dif_pos (by omega)]
  have v0 : ((0 : Fin 2) : ℕ) = 0 := rfl
  have v1 : ((1 : Fin 2) : ℕ) = 1 := rfl
  exact quad_of
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl)
    (fun k => congrArg x0 (ix4_at (by omega) (by omega) rfl)) (fun k => rfl) rfl

/-- The two-by-two convolution of the whole array. -/
def G2 (U : S8x49x49x1024.Idx → EReal) (W : S2x2x1024x64.Idx → EReal) (B : S1x64.Idx → EReal) : S8x48x48x64.Idx → EReal := fun i =>
  quad (fun a b k => U (ix4 (i 0) ⟨(i 1).val + a, by have := (i 1).isLt; exact lt_of_lt_of_le (Nat.add_lt_add_of_lt_of_le this (Nat.le_of_lt_succ a.isLt)) (by decide)⟩
    ⟨(i 2).val + b, by have := (i 2).isLt; exact lt_of_lt_of_le (Nat.add_lt_add_of_lt_of_le this (Nat.le_of_lt_succ b.isLt)) (by decide)⟩ k))
    (fun a b k => W (ix4 a b k (i 3))) (B (ix2 0 (i 3)))

variable (V : (c : Dev nD) → (b : Ref sig .tc) → Buf (Elt Ideal) ((c : Thread nD τ).loc b)) (c : Dev nD)

/-- Where each window of grid point `t` lies. -/
theorem idx2 : ∀ t : Fin grid2.N, win2_3.index t = ![t.val / 6, t.val % 6, 0, 0]
    ∧ win2_0.index t = ![t.val / 6, t.val % 6 * 8, 0, 0]
    ∧ win2_1.index t = ![0, 0, 0, 0] ∧ win2_2.index t = ![0, 0] := by
  decide +kernel

theorem lt2 (t : Fin grid2.N) : t.val < 48 := lt_of_lt_of_le t.isLt (by decide +kernel)

/-- The place of a tile's element in the output array. -/
theorem emb2_3 (t : Fin grid2.N) (h : Fin 8) (w : Fin 48) (o : Fin 64) :
    (win2_3.blk t).1.emb (ix4 0 h w o)
      = ix4 ⟨t.val / 6, by have := lt2 t; omega⟩ ⟨t.val % 6 * 8 + h, by have := lt2 t; omega⟩ w o := by
  obtain ⟨e3, e0, e1, e2⟩ := idx2 t
  funext d
  apply Fin.ext
  refine (win2_3.rect_emb_val_off t _ d).trans ?_
  rw [e3]
  match d with
  | ⟨0, _⟩ => show t.val / 6 * 1 + 0 = t.val / 6; omega
  | ⟨1, _⟩ => show t.val % 6 * 8 + h.val = t.val % 6 * 8 + h.val; omega
  | ⟨2, _⟩ => show 0 * 48 + w.val = w.val; omega
  | ⟨3, _⟩ => show 0 * 64 + o.val = o.val; omega

/-- What the input window holds. -/
theorem blk2_0 (t : Fin grid2.N) (h : Fin 9) (w : Fin 49) (k : Fin 1024) :
    iblk2 V c 0 t (ix4 0 h w k) = V c main_v28 (ix4 ⟨t.val / 6, by have := lt2 t; omega⟩ ⟨t.val % 6 * 8 + h, by have := lt2 t; omega⟩ w k) := by
  obtain ⟨e3, e0, e1, e2⟩ := idx2 t
  refine congrArg (V c main_v28) ?_
  funext d
  apply Fin.ext
  refine (win2_0.rect_emb_val_off t _ d).trans ?_
  rw [e0]
  match d with
  | ⟨0, _⟩ => show t.val / 6 + 0 = t.val / 6; omega
  | ⟨1, _⟩ => rfl
  | ⟨2, _⟩ => show 0 + w.val = w.val; omega
  | ⟨3, _⟩ => show 0 + k.val = k.val; omega

/-- What the weight window holds. -/
theorem blk2_1 (t : Fin grid2.N) (a b : Fin 2) (k : Fin 1024) (o : Fin 64) :
    iblk2 V c 1 t (ix4 a b k o) = V c main_v31 (ix4 a b k o) := by
  obtain ⟨e3, e0, e1, e2⟩ := idx2 t
  refine congrArg (V c main_v31) ?_
  funext d
  apply Fin.ext
  refine (win2_1.rect_emb_val_off t _ d).trans ?_
  rw [e1]
  match d with
  | ⟨0, _⟩ => show 0 * 2 + a.val = a.val; omega
  | ⟨1, _⟩ => show 0 * 2 + b.val = b.val; omega
  | ⟨2, _⟩ => show 0 * 1024 + k.val = k.val; omega
  | ⟨3, _⟩ => show 0 * 64 + o.val = o.val; omega

/-- What the bias window holds. -/
theorem blk2_2 (t : Fin grid2.N) (z : Fin 1) (o : Fin 64) :
    iblk2 V c 2 t (ix2 z o) = V c main_v32 (ix2 z o) := by
  obtain ⟨e3, e0, e1, e2⟩ := idx2 t
  refine congrArg (V c main_v32) ?_
  funext d
  apply Fin.ext
  refine (win2_2.rect_emb_val_off t _ d).trans ?_
  rw [e2]
  match d with
  | ⟨0, _⟩ => show 0 * 1 + z.val = z.val; omega
  | ⟨1, _⟩ => show 0 * 64 + o.val = o.val; omega

/-- Region 2 leaves the two-by-two convolution of the arrays it read. -/
theorem arr2 : (dat2 V c).arrAt 3 cfg2.N = G2 (V c main_v28) (V c main_v31) (V c main_v32) := by
  refine (dat2 V c).arrAt_eq_of_covers 3 _ (by decide +kernel) fun t hf y => ?_
  blk_simp
  rw [after2_3]
  idx_vars y
  obtain rfl : y0 = 0 := Subsingleton.elim _ _
  rw [pay2]
  have hy := y1.isLt
  have ht := t.isLt
  have hN : grid2.N = 48 := by decide +kernel
  refine Eq.trans ?_ (congrArg (G2 (V c main_v28) (V c main_v31) (V c main_v32)) (emb2_3 t y1 y2 y3)).symm
  refine quad_congr (fun a b k => ?_) (fun a b k => blk2_1 V c t a b k y3) (blk2_2 V c t 0 y3)
  rw [blk2_0]
  exact congrArg (V c main_v28) (ix4_at (Nat.add_assoc _ _ _).symm rfl rfl)

end Cert.KernelIdeal.Val
-- ==== Proof.Arr4.lean ====
module

public import proofs.«01_k».proof.Proof.Quad

/-!
# What region 4 leaves in its output array: the two-by-two convolution of each phase
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum of the phase the parities of `h` and `w` pick. -/
theorem pay4 (x0 : Vec Ideal S1x10x50x64 .f32) (x1 : Vec Ideal S2x2x64x1024 .f32) (x2 : Vec Ideal S1x1024 .f32)
    (h : Fin 16) (w : Fin 96) (o : Fin 256) :
    out4_3 x0 x1 x2 (ix4 0 h w o) = max (quad (fun a b k => x0 (ix4 0 ⟨(h + 1) / 2 + a, by omega⟩ ⟨(w + 1) / 2 + b, by omega⟩ k))
      (fun a b k => x1 (ix4 a b k ⟨(h.val % 2 * 2 + w.val % 2) * 256 + o, by omega⟩)) (x2 (ix2 0 ⟨(h.val % 2 * 2 + w.val % 2) * 256 + o, by omega⟩))) 0 := by
  unfold out4_3
  frame_out
  pointwise [k4_pay1, k4_pay2, k4_pay3]
  have v0 : ((0 : Fin 2) : ℕ) = 0 := rfl
  have v1 : ((1 : Fin 2) : ℕ) = 1 := rfl
  by_cases hh : h.val % 2 < 1 <;> by_cases hw : w.val % 2 < 1 <;> simp only [hh, hw, if_true, if_false, dif_pos, dif_neg, not_false_eq_true]
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))

/-- The phase convolution of the whole array. -/
def G4 (U : S8x50x50x64.Idx → EReal) (W : S2x2x64x1024.Idx → EReal) (B : S1x1024.Idx → EReal) : S8x96x96x256.Idx → EReal := fun i =>
  have h1 : (i 1).val < 96 := (i 1).isLt
  have h2 : (i 2).val < 96 := (i 2).isLt
  have h3 : (i 3).val < 256 := (i 3).isLt
  max (quad (fun a b k => U (ix4 (i 0) ⟨((i 1).val + 1) / 2 + a, by omega⟩ ⟨((i 2).val + 1) / 2 + b, by omega⟩ k))
    (fun a b k => W (ix4 a b k ⟨((i 1).val % 2 * 2 + (i 2).val % 2) * 256 + (i 3).val, by omega⟩))
    (B (ix2 0 ⟨((i 1).val % 2 * 2 + (i 2).val % 2) * 256 + (i 3).val, by omega⟩))) 0

variable (V : (c : Dev nD) → (b : Ref sig .tc) → Buf (Elt Ideal) ((c : Thread nD τ).loc b)) (c : Dev nD)

/-- Where each window of grid point `t` lies. -/
theorem idx4 : ∀ t : Fin grid4.N, win4_3.index t = ![t.val / 6, t.val % 6, 0, 0]
    ∧ win4_0.index t = ![t.val / 6, t.val % 6 * 8, 0, 0]
    ∧ win4_1.index t = ![0, 0, 0, 0] ∧ win4_2.index t = ![0, 0] := by
  decide +kernel

theorem lt4 (t : Fin grid4.N) : t.val < 48 := lt_of_lt_of_le t.isLt (by decide +kernel)

/-- The place of a tile's element in the output array. -/
theorem emb4_3 (t : Fin grid4.N) (h : Fin 16) (w : Fin 96) (o : Fin 256) :
    (win4_3.blk t).1.emb (ix4 0 h w o)
      = ix4 ⟨t.val / 6, by have := lt4 t; omega⟩ ⟨t.val % 6 * 16 + h, by have := lt4 t; omega⟩ w o := by
  obtain ⟨e3, e0, e1, e2⟩ := idx4 t
  funext d
  apply Fin.ext
  refine (win4_3.rect_emb_val_off t _ d).trans ?_
  rw [e3]
  match d with
  | ⟨0, _⟩ => show t.val / 6 * 1 + 0 = t.val / 6; omega
  | ⟨1, _⟩ => show t.val % 6 * 16 + h.val = t.val % 6 * 16 + h.val; omega
  | ⟨2, _⟩ => show 0 * 96 + w.val = w.val; omega
  | ⟨3, _⟩ => show 0 * 256 + o.val = o.val; omega

/-- What the input window holds. -/
theorem blk4_0 (t : Fin grid4.N) (h : Fin 10) (w : Fin 50) (k : Fin 64) :
    iblk4 V c 0 t (ix4 0 h w k) = V c main_v40 (ix4 ⟨t.val / 6, by have := lt4 t; omega⟩ ⟨t.val % 6 * 8 + h, by have := lt4 t; omega⟩ w k) := by
  obtain ⟨e3, e0, e1, e2⟩ := idx4 t
  refine congrArg (V c main_v40) ?_
  funext d
  apply Fin.ext
  refine (win4_0.rect_emb_val_off t _ d).trans ?_
  rw [e0]
  match d with
  | ⟨0, _⟩ => show t.val / 6 + 0 = t.val / 6; omega
  | ⟨1, _⟩ => rfl
  | ⟨2, _⟩ => show 0 + w.val = w.val; omega
  | ⟨3, _⟩ => show 0 + k.val = k.val; omega

/-- What the weight window holds. -/
theorem blk4_1 (t : Fin grid4.N) (a b : Fin 2) (k : Fin 64) (o : Fin 1024) :
    iblk4 V c 1 t (ix4 a b k o) = V c main_v60 (ix4 a b k o) := by
  obtain ⟨e3, e0, e1, e2⟩ := idx4 t
  refine congrArg (V c main_v60) ?_
  funext d
  apply Fin.ext
  refine (win4_1.rect_emb_val_off t _ d).trans ?_
  rw [e1]
  match d with
  | ⟨0, _⟩ => show 0 * 2 + a.val = a.val; omega
  | ⟨1, _⟩ => show 0 * 2 + b.val = b.val; omega
  | ⟨2, _⟩ => show 0 * 64 + k.val = k.val; omega
  | ⟨3, _⟩ => show 0 * 1024 + o.val = o.val; omega

/-- What the bias window holds. -/
theorem blk4_2 (t : Fin grid4.N) (z : Fin 1) (o : Fin 1024) :
    iblk4 V c 2 t (ix2 z o) = V c main_v64 (ix2 z o) := by
  obtain ⟨e3, e0, e1, e2⟩ := idx4 t
  refine congrArg (V c main_v64) ?_
  funext d
  apply Fin.ext
  refine (win4_2.rect_emb_val_off t _ d).trans ?_
  rw [e2]
  match d with
  | ⟨0, _⟩ => show 0 * 1 + z.val = z.val; omega
  | ⟨1, _⟩ => show 0 * 1024 + o.val = o.val; omega

/-- Region 4 leaves the phase convolution of the arrays it read. -/
theorem arr4 : (dat4 V c).arrAt 3 cfg4.N = G4 (V c main_v40) (V c main_v60) (V c main_v64) := by
  refine (dat4 V c).arrAt_eq_of_covers 3 _ (by decide +kernel) fun t hf y => ?_
  blk_simp
  rw [after4_3]
  idx_vars y
  obtain rfl : y0 = 0 := Subsingleton.elim _ _
  rw [pay4]
  refine Eq.trans ?_ (congrArg (G4 (V c main_v40) (V c main_v60) (V c main_v64)) (emb4_3 t y1 y2 y3)).symm
  have e1 : (t.val % 6 * 16 + y1.val) % 2 = y1.val % 2 := by omega
  refine relu_quad_congr (fun a b k => ?_) (fun a b k => ?_) ?_
  · rw [blk4_0]
    exact congrArg (V c main_v40) (ix4_at (by show t.val % 6 * 8 + ((y1.val + 1) / 2 + a.val) = (t.val % 6 * 16 + y1.val + 1) / 2 + a.val; omega) rfl rfl)
  · rw [blk4_1]
    exact congrArg (V c main_v60) (ix4_last (by show _ = ((t.val % 6 * 16 + y1.val) % 2 * 2 + y2.val % 2) * 256 + y3.val; rw [e1]))
  · rw [blk4_2]
    exact congrArg (V c main_v64) (ix2_last (by show _ = ((t.val % 6 * 16 + y1.val) % 2 * 2 + y2.val % 2) * 256 + y3.val; rw [e1]))

end Cert.KernelIdeal.Val
-- ==== Proof.Arr5.lean ====
module

public import proofs.«01_k».proof.Proof.Quad

/-!
# What region 5 leaves in its output array: the two-by-two convolution of each phase
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum of the phase the parities of `h` and `w` pick. -/
theorem pay5 (x0 : Vec Ideal S1x10x98x256 .f32) (x1 : Vec Ideal S2x2x256x512 .f32) (x2 : Vec Ideal S1x512 .f32)
    (h : Fin 16) (w : Fin 192) (o : Fin 128) :
    out5_3 x0 x1 x2 (ix4 0 h w o) = max (quad (fun a b k => x0 (ix4 0 ⟨(h + 1) / 2 + a, by omega⟩ ⟨(w + 1) / 2 + b, by omega⟩ k))
      (fun a b k => x1 (ix4 a b k ⟨(h.val % 2 * 2 + w.val % 2) * 128 + o, by omega⟩)) (x2 (ix2 0 ⟨(h.val % 2 * 2 + w.val % 2) * 128 + o, by omega⟩))) 0 := by
  unfold out5_3
  frame_out
  pointwise [k5_pay1, k5_pay2, k5_pay3]
  have v0 : ((0 : Fin 2) : ℕ) = 0 := rfl
  have v1 : ((1 : Fin 2) : ℕ) = 1 := rfl
  by_cases hh : h.val % 2 < 1 <;> by_cases hw : w.val % 2 < 1 <;> simp only [hh, hw, if_true, if_false, dif_pos, dif_neg, not_false_eq_true]
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))
  · rw [dif_pos (by omega)]
    exact relu_quad_of
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (fun k => congrArg x0 (ix4_at (by omega) (by omega) rfl)) (fun k => congrArg x1 (ix4_last (by omega)))
      (congrArg x2 (ix2_last (by omega)))

/-- The phase convolution of the whole array. -/
def G5 (U : S8x98x98x256.Idx → EReal) (W : S2x2x256x512.Idx → EReal) (B : S1x512.Idx → EReal) : S8x192x192x128.Idx → EReal := fun i =>
  have h1 : (i 1).val < 192 := (i 1).isLt
  have h2 : (i 2).val < 192 := (i 2).isLt
  have h3 : (i 3).val < 128 := (i 3).isLt
  max (quad (fun a b k => U (ix4 (i 0) ⟨((i 1).val + 1) / 2 + a, by omega⟩ ⟨((i 2).val + 1) / 2 + b, by omega⟩ k))
    (fun a b k => W (ix4 a b k ⟨((i 1).val % 2 * 2 + (i 2).val % 2) * 128 + (i 3).val, by omega⟩))
    (B (ix2 0 ⟨((i 1).val % 2 * 2 + (i 2).val % 2) * 128 + (i 3).val, by omega⟩))) 0

variable (V : (c : Dev nD) → (b : Ref sig .tc) → Buf (Elt Ideal) ((c : Thread nD τ).loc b)) (c : Dev nD)

/-- Where each window of grid point `t` lies. -/
theorem idx5 : ∀ t : Fin grid5.N, win5_3.index t = ![t.val / 12, t.val % 12, 0, 0]
    ∧ win5_0.index t = ![t.val / 12, t.val % 12 * 8, 0, 0]
    ∧ win5_1.index t = ![0, 0, 0, 0] ∧ win5_2.index t = ![0, 0] := by
  decide +kernel

theorem lt5 (t : Fin grid5.N) : t.val < 96 := lt_of_lt_of_le t.isLt (by decide +kernel)

/-- The place of a tile's element in the output array. -/
theorem emb5_3 (t : Fin grid5.N) (h : Fin 16) (w : Fin 192) (o : Fin 128) :
    (win5_3.blk t).1.emb (ix4 0 h w o)
      = ix4 ⟨t.val / 12, by have := lt5 t; omega⟩ ⟨t.val % 12 * 16 + h, by have := lt5 t; omega⟩ w o := by
  obtain ⟨e3, e0, e1, e2⟩ := idx5 t
  funext d
  apply Fin.ext
  refine (win5_3.rect_emb_val_off t _ d).trans ?_
  rw [e3]
  match d with
  | ⟨0, _⟩ => show t.val / 12 * 1 + 0 = t.val / 12; omega
  | ⟨1, _⟩ => show t.val % 12 * 16 + h.val = t.val % 12 * 16 + h.val; omega
  | ⟨2, _⟩ => show 0 * 192 + w.val = w.val; omega
  | ⟨3, _⟩ => show 0 * 128 + o.val = o.val; omega

/-- What the input window holds. -/
theorem blk5_0 (t : Fin grid5.N) (h : Fin 10) (w : Fin 98) (k : Fin 256) :
    iblk5 V c 0 t (ix4 0 h w k) = V c main_v66 (ix4 ⟨t.val / 12, by have := lt5 t; omega⟩ ⟨t.val % 12 * 8 + h, by have := lt5 t; omega⟩ w k) := by
  obtain ⟨e3, e0, e1, e2⟩ := idx5 t
  refine congrArg (V c main_v66) ?_
  funext d
  apply Fin.ext
  refine (win5_0.rect_emb_val_off t _ d).trans ?_
  rw [e0]
  match d with
  | ⟨0, _⟩ => show t.val / 12 + 0 = t.val / 12; omega
  | ⟨1, _⟩ => rfl
  | ⟨2, _⟩ => show 0 + w.val = w.val; omega
  | ⟨3, _⟩ => show 0 + k.val = k.val; omega

/-- What the weight window holds. -/
theorem blk5_1 (t : Fin grid5.N) (a b : Fin 2) (k : Fin 256) (o : Fin 512) :
    iblk5 V c 1 t (ix4 a b k o) = V c main_v86 (ix4 a b k o) := by
  obtain ⟨e3, e0, e1, e2⟩ := idx5 t
  refine congrArg (V c main_v86) ?_
  funext d
  apply Fin.ext
  refine (win5_1.rect_emb_val_off t _ d).trans ?_
  rw [e1]
  match d with
  | ⟨0, _⟩ => show 0 * 2 + a.val = a.val; omega
  | ⟨1, _⟩ => show 0 * 2 + b.val = b.val; omega
  | ⟨2, _⟩ => show 0 * 256 + k.val = k.val; omega
  | ⟨3, _⟩ => show 0 * 512 + o.val = o.val; omega

/-- What the bias window holds. -/
theorem blk5_2 (t : Fin grid5.N) (z : Fin 1) (o : Fin 512) :
    iblk5 V c 2 t (ix2 z o) = V c main_v90 (ix2 z o) := by
  obtain ⟨e3, e0, e1, e2⟩ := idx5 t
  refine congrArg (V c main_v90) ?_
  funext d
  apply Fin.ext
  refine (win5_2.rect_emb_val_off t _ d).trans ?_
  rw [e2]
  match d with
  | ⟨0, _⟩ => show 0 * 1 + z.val = z.val; omega
  | ⟨1, _⟩ => show 0 * 512 + o.val = o.val; omega

/-- Region 5 leaves the phase convolution of the arrays it read. -/
theorem arr5 : (dat5 V c).arrAt 3 cfg5.N = G5 (V c main_v66) (V c main_v86) (V c main_v90) := by
  refine (dat5 V c).arrAt_eq_of_covers 3 _ (by decide +kernel) fun t hf y => ?_
  blk_simp
  rw [after5_3]
  idx_vars y
  obtain rfl : y0 = 0 := Subsingleton.elim _ _
  rw [pay5]
  refine Eq.trans ?_ (congrArg (G5 (V c main_v66) (V c main_v86) (V c main_v90)) (emb5_3 t y1 y2 y3)).symm
  have e1 : (t.val % 12 * 16 + y1.val) % 2 = y1.val % 2 := by omega
  refine relu_quad_congr (fun a b k => ?_) (fun a b k => ?_) ?_
  · rw [blk5_0]
    exact congrArg (V c main_v66) (ix4_at (by show t.val % 12 * 8 + ((y1.val + 1) / 2 + a.val) = (t.val % 12 * 16 + y1.val + 1) / 2 + a.val; omega) rfl rfl)
  · rw [blk5_1]
    exact congrArg (V c main_v86) (ix4_last (by show _ = ((t.val % 12 * 16 + y1.val) % 2 * 2 + y2.val % 2) * 128 + y3.val; rw [e1]))
  · rw [blk5_2]
    exact congrArg (V c main_v90) (ix2_last (by show _ = ((t.val % 12 * 16 + y1.val) % 2 * 2 + y2.val % 2) * 128 + y3.val; rw [e1]))

end Cert.KernelIdeal.Val
-- ==== Proof.Arr6.lean ====
module

public import proofs.«01_k».proof.Proof.Quad

/-!
# What region 6 leaves in its output array: the two-by-two convolution with its phases side by side
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The tile: at row `h` and column `w`, the two-by-two sum from there. The last column wraps
into the next row, and its last place is filled by zero; the program reads neither. -/
theorem pay6 (x0 : Vec Ideal S1x17x194x128 .f32) (x1 : Vec Ideal S2x2x128x12 .f32) (x2 : Vec Ideal S1x12 .f32)
    (h : Fin 16) (w : Fin 194) (o : Fin 12) :
    out6_3 x0 x1 x2 (ix4 0 h w o) = if hp : h.val * 194 + w.val < 3103 then
      quad (fun a b k => x0 (ix4 0 ⟨h + a + (w + b) / 194, by omega⟩ ⟨(w + b) % 194, by omega⟩ k)) (fun a b k => x1 (ix4 a b k o)) (x2 (ix2 0 o)) else 0 := by
  unfold out6_3
  frame_out
  pointwise [k6_pay1, k6_pay2]
  have v0 : ((0 : Fin 2) : ℕ) = 0 := rfl
  have v1 : ((1 : Fin 2) : ℕ) = 1 := rfl
  by_cases hp : h.val * 194 + w.val < 3103
  · rw [dif_pos hp, dif_pos hp]
    exact quad_of
      (fun k => congrArg x0 (ix4_at (by omega) (by omega) rfl)) (fun k => rfl)
      (fun k => congrArg x0 (ix4_at (by omega) (by omega) rfl)) (fun k => rfl)
      (fun k => congrArg x0 (ix4_at (by omega) (by omega) rfl)) (fun k => rfl)
      (fun k => congrArg x0 (ix4_at (by omega) (by omega) rfl)) (fun k => rfl) rfl
  · rw [dif_neg hp, dif_neg hp]
    simp

/-- The two-by-two convolution of the whole array, with the tiles' last column as they leave it. -/
def G6 (U : S8x210x194x128.Idx → EReal) (W : S2x2x128x12.Idx → EReal) (B : S1x12.Idx → EReal) : S8x208x194x12.Idx → EReal := fun i =>
  have h1 : (i 1).val < 208 := (i 1).isLt
  have h2 : (i 2).val < 194 := (i 2).isLt
  if hp : (i 1).val % 16 * 194 + (i 2).val < 3103 then
    quad (fun a b k => U (ix4 (i 0) ⟨(i 1).val + a + ((i 2).val + b) / 194, by omega⟩ ⟨((i 2).val + b) % 194, by omega⟩ k))
      (fun a b k => W (ix4 a b k (i 3))) (B (ix2 0 (i 3)))
  else 0

variable (V : (c : Dev nD) → (b : Ref sig .tc) → Buf (Elt Ideal) ((c : Thread nD τ).loc b)) (c : Dev nD)

/-- Where each window of grid point `t` lies. -/
theorem idx6 : ∀ t : Fin grid6.N, win6_3.index t = ![t.val / 13, t.val % 13, 0, 0]
    ∧ win6_0.index t = ![t.val / 13, t.val % 13 * 16, 0, 0]
    ∧ win6_1.index t = ![0, 0, 0, 0] ∧ win6_2.index t = ![0, 0] := by
  decide +kernel

theorem lt6 (t : Fin grid6.N) : t.val < 104 := lt_of_lt_of_le t.isLt (by decide +kernel)

/-- The place of a tile's element in the output array. -/
theorem emb6_3 (t : Fin grid6.N) (h : Fin 16) (w : Fin 194) (o : Fin 12) :
    (win6_3.blk t).1.emb (ix4 0 h w o)
      = ix4 ⟨t.val / 13, by have := lt6 t; omega⟩ ⟨t.val % 13 * 16 + h, by have := lt6 t; omega⟩ w o := by
  obtain ⟨e3, e0, e1, e2⟩ := idx6 t
  funext d
  apply Fin.ext
  refine (win6_3.rect_emb_val_off t _ d).trans ?_
  rw [e3]
  match d with
  | ⟨0, _⟩ => show t.val / 13 * 1 + 0 = t.val / 13; omega
  | ⟨1, _⟩ => show t.val % 13 * 16 + h.val = t.val % 13 * 16 + h.val; omega
  | ⟨2, _⟩ => show 0 * 194 + w.val = w.val; omega
  | ⟨3, _⟩ => show 0 * 12 + o.val = o.val; omega

/-- What the input window holds. -/
theorem blk6_0 (t : Fin grid6.N) (h : Fin 17) (w : Fin 194) (k : Fin 128) :
    iblk6 V c 0 t (ix4 0 h w k) = V c main_v92 (ix4 ⟨t.val / 13, by have := lt6 t; omega⟩ ⟨t.val % 13 * 16 + h, by have := lt6 t; omega⟩ w k) := by
  obtain ⟨e3, e0, e1, e2⟩ := idx6 t
  refine congrArg (V c main_v92) ?_
  funext d
  apply Fin.ext
  refine (win6_0.rect_emb_val_off t _ d).trans ?_
  rw [e0]
  match d with
  | ⟨0, _⟩ => show t.val / 13 + 0 = t.val / 13; omega
  | ⟨1, _⟩ => rfl
  | ⟨2, _⟩ => show 0 + w.val = w.val; omega
  | ⟨3, _⟩ => show 0 + k.val = k.val; omega

/-- What the weight window holds. -/
theorem blk6_1 (t : Fin grid6.N) (a b : Fin 2) (k : Fin 128) (o : Fin 12) :
    iblk6 V c 1 t (ix4 a b k o) = V c main_v112 (ix4 a b k o) := by
  obtain ⟨e3, e0, e1, e2⟩ := idx6 t
  refine congrArg (V c main_v112) ?_
  funext d
  apply Fin.ext
  refine (win6_1.rect_emb_val_off t _ d).trans ?_
  rw [e1]
  match d with
  | ⟨0, _⟩ => show 0 * 2 + a.val = a.val; omega
  | ⟨1, _⟩ => show 0 * 2 + b.val = b.val; omega
  | ⟨2, _⟩ => show 0 * 128 + k.val = k.val; omega
  | ⟨3, _⟩ => show 0 * 12 + o.val = o.val; omega

/-- What the bias window holds. -/
theorem blk6_2 (t : Fin grid6.N) (z : Fin 1) (o : Fin 12) :
    iblk6 V c 2 t (ix2 z o) = V c main_v116 (ix2 z o) := by
  obtain ⟨e3, e0, e1, e2⟩ := idx6 t
  refine congrArg (V c main_v116) ?_
  funext d
  apply Fin.ext
  refine (win6_2.rect_emb_val_off t _ d).trans ?_
  rw [e2]
  match d with
  | ⟨0, _⟩ => show 0 * 1 + z.val = z.val; omega
  | ⟨1, _⟩ => show 0 * 12 + o.val = o.val; omega

/-- Region 6 leaves the two-by-two convolution of the arrays it read. -/
theorem arr6 : (dat6 V c).arrAt 3 cfg6.N = G6 (V c main_v92) (V c main_v112) (V c main_v116) := by
  refine (dat6 V c).arrAt_eq_of_covers 3 _ (by decide +kernel) fun t hf y => ?_
  blk_simp
  rw [after6_3]
  idx_vars y
  obtain rfl : y0 = 0 := Subsingleton.elim _ _
  rw [pay6]
  refine Eq.trans ?_ (congrArg (G6 (V c main_v92) (V c main_v112) (V c main_v116)) (emb6_3 t y1 y2 y3)).symm
  have e1 : (t.val % 13 * 16 + y1.val) % 16 = y1.val := by omega
  by_cases hp : y1.val * 194 + y2.val < 3103
  · have hq : (t.val % 13 * 16 + y1.val) % 16 * 194 + y2.val < 3103 := by rw [e1]; exact hp
    refine (dif_pos hp).trans (Eq.trans ?_ (dif_pos hq).symm)
    refine quad_congr (fun a b k => ?_) (fun a b k => blk6_1 V c t a b k y3) (blk6_2 V c t 0 y3)
    rw [blk6_0]
    exact congrArg (V c main_v92) (ix4_at (by show t.val % 13 * 16 + (y1.val + a.val + (y2.val + b.val) / 194) = t.val % 13 * 16 + y1.val + a.val + (y2.val + b.val) / 194; omega) rfl rfl)
  · have hq : ¬ (t.val % 13 * 16 + y1.val) % 16 * 194 + y2.val < 3103 := by rw [e1]; exact hp
    refine (dif_neg hp).trans (Eq.trans ?_ (dif_neg hq).symm)
    rfl

end Cert.KernelIdeal.Val
-- ==== Proof.KLayers.lean ====
module

public import proofs.«01_k».proof.Proof.HostRead
public import proofs.«01_k».proof.Proof.Arr0
public import proofs.«01_k».proof.Proof.Arr1
public import proofs.«01_k».proof.Proof.Arr2
public import proofs.«01_k».proof.Proof.Arr4
public import proofs.«01_k».proof.Proof.Arr5
public import proofs.«01_k».proof.Proof.Arr6

/-!
# What each layer of the kernel computes, at one position
-/

@[expose] public section

set_option maxRecDepth 16384

noncomputable section

namespace Cert.KernelIdeal.Val

open Cert.KernelIdeal Cert.KernelIdeal.Gen Cert.Math Idealize.ShloMosaic Idealize.ShloMosaic.TcCoe

/-- Convolution 1 of the kernel. -/
theorem conv1_at (x : Vec Ideal S8x3x384x384 .f32) (w : Vec Ideal S128x3x4x4 .f32) (b : Vec Ideal S128 .f32)
    (n : Fin 8) (i j : Fin 192) (o : Fin 128) :
    G0 (cs1 (F := Ideal) (cp1 x)) (cw1 (F := Ideal) w) (cb1 (F := Ideal) b) (ix4 n i j o)
      = max (convAt (fun c p q => x (ix4 n c p q)) (fun c k l => w (ix4 o c k l)) (b (ix1 o)) i.val j.val) 0 := by
  unfold G0
  refine congrArg (max · 0) ?_
  refine (congrArg (quad _ _) (cb1_apply b o)).trans ?_
  exact quad_conv (C := 3) (by norm_num) _ (fun c k l => w (ix4 o c k l)) _ i.val j.val _ _
    (fun a a' e f c => (cs1_apply (cp1 (F := Ideal) x) n _ _ e f c).trans (cp1_apply x n _ _ c))
    (fun a a' e f c => cw1_apply w a a' e f c o)

/-- Convolution 2 of the kernel. -/
theorem conv2_at (x : Vec Ideal S8x192x192x128 .f32) (w : Vec Ideal S256x128x4x4 .f32) (b : Vec Ideal S256 .f32)
    (n : Fin 8) (i j : Fin 96) (o : Fin 256) :
    G1 (cs2 (F := Ideal) (cp2 x)) (cw2 (F := Ideal) w) (cb2 (F := Ideal) b) (ix4 n i j o)
      = max (convAt (fun c p q => x (ix4 n p q c)) (fun c k l => w (ix4 o c k l)) (b (ix1 o)) i.val j.val) 0 := by
  unfold G1
  refine congrArg (max · 0) ?_
  refine (congrArg (quad _ _) (cb2_apply b o)).trans ?_
  exact quad_conv (C := 128) (by norm_num) _ (fun c k l => w (ix4 o c k l)) _ i.val j.val _ _
    (fun a a' e f c => (cs2_apply (cp2 (F := Ideal) x) n _ _ e f c).trans (cp2_apply x n _ _ c))
    (fun a a' e f c => cw2_apply w a a' e f c o)

/-- Convolution 3 of the kernel. -/
theorem conv3_at (x : Vec Ideal S8x96x96x256 .f32) (w : Vec Ideal S64x256x4x4 .f32) (b : Vec Ideal S64 .f32)
    (n : Fin 8) (i j : Fin 48) (o : Fin 64) :
    G2 (cs3 (F := Ideal) (cp3 x)) (cw3 (F := Ideal) w) (cb3 (F := Ideal) b) (ix4 n i j o)
      = convAt (fun c p q => x (ix4 n p q c)) (fun c k l => w (ix4 o c k l)) (b (ix1 o)) i.val j.val := by
  unfold G2
  show quad _ _ _ = _
  refine (congrArg (quad _ _) (cb3_apply b o)).trans ?_
  exact quad_conv (C := 256) (by norm_num) _ (fun c k l => w (ix4 o c k l)) _ i.val j.val _ _
    (fun a a' e f c => (cs3_apply (cp3 (F := Ideal) x) n _ _ e f c).trans (cp3_apply x n _ _ c))
    (fun a a' e f c => cw3_apply w a a' e f c o)

/-- Transposed convolution 1 of the kernel. -/
theorem deconv1_at (x : Vec Ideal S8x48x48x64 .f32) (w : Vec Ideal S64x256x4x4 .f32) (b : Vec Ideal S256 .f32)
    (n : Fin 8) (i j : Fin 96) (o : Fin 256) :
    G4 (dp1 (F := Ideal) x) (dw1 (F := Ideal) (dg1 w taps)) (db1 (F := Ideal) b) (ix4 n i j o)
      = max (deconvAt (fun c p q => x (ix4 n p q c)) (fun c k l => w (ix4 c o k l)) (b (ix1 o)) i.val j.val) 0 := by
  unfold G4
  refine congrArg (max · 0) ?_
  refine (congrArg (quad _ _) (db1_apply b ⟨i.val % 2, by omega⟩ ⟨j.val % 2, by omega⟩ o)).trans ?_
  exact quad_deconv _ (fun c k l => w (ix4 c o k l)) _ i.val j.val _ _
    (fun a a' c => dp1_apply x n _ _ c)
    (fun a a' c => (dw1_apply (dg1 (F := Ideal) w taps) a a' ⟨i.val % 2, by omega⟩ ⟨j.val % 2, by omega⟩ c o).trans (dg1_apply w c o _ a _ a'))

/-- Transposed convolution 2 of the kernel. -/
theorem deconv2_at (x : Vec Ideal S8x96x96x256 .f32) (w : Vec Ideal S256x128x4x4 .f32) (b : Vec Ideal S128 .f32)
    (n : Fin 8) (i j : Fin 192) (o : Fin 128) :
    G5 (dp2 (F := Ideal) x) (dw2 (F := Ideal) (dg2 w taps)) (db2 (F := Ideal) b) (ix4 n i j o)
      = max (deconvAt (fun c p q => x (ix4 n p q c)) (fun c k l => w (ix4 c o k l)) (b (ix1 o)) i.val j.val) 0 := by
  unfold G5
  refine congrArg (max · 0) ?_
  refine (congrArg (quad _ _) (db2_apply b ⟨i.val % 2, by omega⟩ ⟨j.val % 2, by omega⟩ o)).trans ?_
  exact quad_deconv _ (fun c k l => w (ix4 c o k l)) _ i.val j.val _ _
    (fun a a' c => dp2_apply x n _ _ c)
    (fun a a' c => (dw2_apply (dg2 (F := Ideal) w taps) a a' ⟨i.val % 2, by omega⟩ ⟨j.val % 2, by omega⟩ c o).trans (dg2_apply w c o _ a _ a'))

/-- Transposed convolution 3 of the kernel, with the selection of its output positions. -/
theorem deconv3_at (x : Vec Ideal S8x192x192x128 .f32) (w : Vec Ideal S128x3x4x4 .f32) (b : Vec Ideal S3 .f32)
    (n : Fin 8) (i j : Fin 384) (o : Fin 3) :
    outi (F := Ideal) (outs (outc (G6 (dp3 (F := Ideal) x) (dw3 (F := Ideal) (dg3 w taps)) (db3 (F := Ideal) b)))) (ix4 n o i j)
      = deconvAt (fun c p q => x (ix4 n p q c)) (fun c k l => w (ix4 c o k l)) (b (ix1 o)) i.val j.val := by
  rw [outi_apply, outs_apply, outc_apply]
  have hi := i.isLt
  have hj := j.isLt
  refine (dif_pos (show (i.val / 2 + i.val % 2) % 16 * 194 + (j.val / 2 + j.val % 2) < 3103 by omega)).trans ?_
  refine (congrArg (quad _ _) (db3_apply b ⟨i.val % 2, by omega⟩ ⟨j.val % 2, by omega⟩ o)).trans ?_
  refine quad_deconv _ (fun c k l => w (ix4 c o k l)) _ i.val j.val _ _
    (fun a a' c => (dp3_apply x n _ _ c).trans ?_)
    (fun a a' c => (dw3_apply (dg3 (F := Ideal) w taps) a a' ⟨i.val % 2, by omega⟩ ⟨j.val % 2, by omega⟩ c o).trans (dg3_apply w c o _ a _ a'))
  have ha' := a'.isLt
  refine congrArg₂ (padAt _) ?_ ?_
  · show i.val / 2 + i.val % 2 + a.val + (j.val / 2 + j.val % 2 + a'.val) / 194 = (i.val + 1) / 2 + a.val
    omega
  · show (j.val / 2 + j.val % 2 + a'.val) % 194 = (j.val + 1) / 2 + a'.val
    omega

end Cert.KernelIdeal.Val
-- ==== Proof.RefRead.lean ====
module

public import proofs.«01_k».proof.Proof.RefSegs
public import proofs.«01_k».proof.Proof.Taps
public import proofs.«01_k».proof.Proof.Layers

/-!
# The reference's layers at one position

Each layer of the reference, read at one index, is the plain sum of `Layers`.
-/

@[expose] public section

set_option maxRecDepth 16384

noncomputable section

namespace Cert.ReferenceIdeal.Val

open Cert.ReferenceIdeal Cert.ReferenceIdeal.Gen Cert.Math Idealize.ShloMosaic Idealize.ShloMosaic.TcCoe

variable {F : FTy → Type} [FloatOps F]

/-- A triple sum, term by term. -/
theorem sum3_congr {C : Nat} {f g : Fin C → Fin 4 → Fin 4 → EReal} (h : ∀ c k l, f c k l = g c k l) :
    ∑ c, ∑ k, ∑ l, f c k l = ∑ c, ∑ k, ∑ l, g c k l :=
  Finset.sum_congr rfl fun c _ => Finset.sum_congr rfl fun k _ => Finset.sum_congr rfl fun l _ => h c k l

/-! ### conv1 -/

/-- The input of conv1 with its zeros around. -/
def pad_conv1 (x : Vec F S8x3x384x384 .f32) : Vec F S8x3x386x386 .f32 :=
  pad S8x3x386x386 ![0, 0, 1, 1] ![0, 0, 1, 1] ![0, 0, 0, 0] x (sitofp .f32 (constantI S_ 32 0#32)) pads_S8x3x384x384_S8x3x386x386_000_000_110_110 h_S_

/-- The positions of the taps of conv1. -/
def pos_conv1 : IVec S192x4x1 32 :=
  broadcastInDim S192x4x1 ![0, 1] bcast_S192x4_S192x4x1_0_1 (addi (broadcastInDim S192x4 ![0, 1] bcast_S192x1_S192x4_0_1 (muli (broadcastInDim S192x1 ![] bcast_S_S192x1 (constantI S_ 32 2#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0))))

/-- The products of conv1, summed over channels and taps. -/
def prod_conv1 (X : Vec F S8x3x386x386 .f32) (w : Vec F S128x3x4x4 .f32) : Vec F S128x8x192x192 .f32 :=
  Host.dotGeneral dot_S128x3x4x4_S8x3x192x4x192x4_S128x8x192x192_123_135_0_024_n_n none w (Host.gather gather_S8x3x192x4x386_S192x4x1_S8x3x192x4x192x4_0123_4_n_n_4_2_8319241 (Host.gather gather_S8x3x386x386_S192x4x1_S8x3x192x4x386_014_2_n_n_2_2_831386 X pos_conv1) pos_conv1)

theorem conv1_eq (x : Vec F S8x3x384x384 .f32) (w : Vec F S128x3x4x4 .f32) (b : Vec F S128 .f32) :
    conv1 x w b = maximumf (addf (transpose S8x128x192x192 [1, 0, 2, 3] (prod_conv1 (pad_conv1 x) w) transposes_S128x8x192x192_S8x128x192x192_1_0_2_3) (broadcastInDim S8x128x192x192 ![0, 1, 2, 3] bcast_S1x128x1x1_S8x128x192x192_0_1_2_3 (broadcastInDim S1x128x1x1 ![1] bcast_S128_S1x128x1x1_1 b))) (broadcastInDim S8x128x192x192 ![] bcast_S_S8x128x192x192 (constant S_ .f32 0x00000000#32)) := rfl

theorem pos_conv1_apply (i : Fin 192) (k : Fin 4) :
    (pos_conv1 (ix3 i k 0)).toInt = ((2 * i.val + k.val : Nat) : Int) := by
  rw [← tap_toInt 2 i.val k.val (by omega) (by omega) k.isLt]
  congr 1

theorem pad_conv1_apply (x : Vec Ideal S8x3x384x384 .f32) (n : Fin 8) (c : Fin 3) (p q : Fin 386) :
    pad_conv1 (F := Ideal) x (ix4 n c p q) = padAt (fun a e => x (ix4 n c a e)) p.val q.val := by
  pointwise [pad_conv1, padAt]
  rw [word_zero]

theorem prod_conv1_apply (X : Vec Ideal S8x3x386x386 .f32) (w : Vec Ideal S128x3x4x4 .f32) (o : Fin 128) (n : Fin 8) (i j : Fin 192) :
    prod_conv1 (F := Ideal) X w (ix4 o n i j) = ∑ c : Fin 3, ∑ k : Fin 4, ∑ l : Fin 4, (w (ix4 o c k l) : EReal) *
      X (ix4 n c ⟨2 * i.val + k.val, by omega⟩ ⟨2 * j.val + l.val, by omega⟩) := by
  unfold prod_conv1
  rw [dot_taps _ rfl rfl rfl rfl rfl rfl]
  refine sum3_congr fun c k l => ?_
  rw [gather_cols _ rfl rfl rfl rfl rfl rfl rfl _ _ n c i k j l ⟨2 * j.val + l.val, by omega⟩ (pos_conv1_apply j l),
    gather_rows _ rfl rfl rfl rfl rfl rfl rfl _ _ n c i k _ ⟨2 * i.val + k.val, by omega⟩ (pos_conv1_apply i k)]

theorem conv1_apply (x : Vec Ideal S8x3x384x384 .f32) (w : Vec Ideal S128x3x4x4 .f32) (b : Vec Ideal S128 .f32) (n : Fin 8) (o : Fin 128) (i j : Fin 192) :
    conv1 (F := Ideal) x w b (ix4 n o i j) = max (convAt (fun c p q => x (ix4 n c p q)) (fun c k l => w (ix4 o c k l)) (b (ix1 o)) i.val j.val) 0 := by
  rw [conv1_eq]
  have h := prod_conv1_apply (pad_conv1 (F := Ideal) x) w o n i j
  simp only [pad_conv1_apply] at h
  generalize prod_conv1 (F := Ideal) (pad_conv1 x) w = D at h
  pointwise
  rw [h]
  rfl

/-! ### conv2 -/

/-- The input of conv2 with its zeros around. -/
def pad_conv2 (x : Vec F S8x128x192x192 .f32) : Vec F S8x128x194x194 .f32 :=
  pad S8x128x194x194 ![0, 0, 1, 1] ![0, 0, 1, 1] ![0, 0, 0, 0] x (sitofp .f32 (constantI S_ 32 0#32)) pads_S8x128x192x192_S8x128x194x194_000_000_110_110 h_S_

/-- The positions of the taps of conv2. -/
def pos_conv2 : IVec S96x4x1 32 :=
  broadcastInDim S96x4x1 ![0, 1] bcast_S96x4_S96x4x1_0_1 (addi (broadcastInDim S96x4 ![0, 1] bcast_S96x1_S96x4_0_1 (muli (broadcastInDim S96x1 ![] bcast_S_S96x1 (constantI S_ 32 2#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0))))

/-- The products of conv2, summed over channels and taps. -/
def prod_conv2 (X : Vec F S8x128x194x194 .f32) (w : Vec F S256x128x4x4 .f32) : Vec F S256x8x96x96 .f32 :=
  Host.dotGeneral dot_S256x128x4x4_S8x128x96x4x96x4_S256x8x96x96_123_135_0_024_n_n none w (Host.gather gather_S8x128x96x4x194_S96x4x1_S8x128x96x4x96x4_0123_4_n_n_4_2_81289641 (Host.gather gather_S8x128x194x194_S96x4x1_S8x128x96x4x194_014_2_n_n_2_2_81281194 X pos_conv2) pos_conv2)

theorem conv2_eq (x : Vec F S8x128x192x192 .f32) (w : Vec F S256x128x4x4 .f32) (b : Vec F S256 .f32) :
    conv2 x w b = maximumf (addf (transpose S8x256x96x96 [1, 0, 2, 3] (prod_conv2 (pad_conv2 x) w) transposes_S256x8x96x96_S8x256x96x96_1_0_2_3) (broadcastInDim S8x256x96x96 ![0, 1, 2, 3] bcast_S1x256x1x1_S8x256x96x96_0_1_2_3 (broadcastInDim S1x256x1x1 ![1] bcast_S256_S1x256x1x1_1 b))) (broadcastInDim S8x256x96x96 ![] bcast_S_S8x256x96x96 (constant S_ .f32 0x00000000#32)) := rfl

theorem pos_conv2_apply (i : Fin 96) (k : Fin 4) :
    (pos_conv2 (ix3 i k 0)).toInt = ((2 * i.val + k.val : Nat) : Int) := by
  rw [← tap_toInt 2 i.val k.val (by omega) (by omega) k.isLt]
  congr 1

theorem pad_conv2_apply (x : Vec Ideal S8x128x192x192 .f32) (n : Fin 8) (c : Fin 128) (p q : Fin 194) :
    pad_conv2 (F := Ideal) x (ix4 n c p q) = padAt (fun a e => x (ix4 n c a e)) p.val q.val := by
  pointwise [pad_conv2, padAt]
  rw [word_zero]

theorem prod_conv2_apply (X : Vec Ideal S8x128x194x194 .f32) (w : Vec Ideal S256x128x4x4 .f32) (o : Fin 256) (n : Fin 8) (i j : Fin 96) :
    prod_conv2 (F := Ideal) X w (ix4 o n i j) = ∑ c : Fin 128, ∑ k : Fin 4, ∑ l : Fin 4, (w (ix4 o c k l) : EReal) *
      X (ix4 n c ⟨2 * i.val + k.val, by omega⟩ ⟨2 * j.val + l.val, by omega⟩) := by
  unfold prod_conv2
  rw [dot_taps _ rfl rfl rfl rfl rfl rfl]
  refine sum3_congr fun c k l => ?_
  rw [gather_cols _ rfl rfl rfl rfl rfl rfl rfl _ _ n c i k j l ⟨2 * j.val + l.val, by omega⟩ (pos_conv2_apply j l),
    gather_rows _ rfl rfl rfl rfl rfl rfl rfl _ _ n c i k _ ⟨2 * i.val + k.val, by omega⟩ (pos_conv2_apply i k)]

theorem conv2_apply (x : Vec Ideal S8x128x192x192 .f32) (w : Vec Ideal S256x128x4x4 .f32) (b : Vec Ideal S256 .f32) (n : Fin 8) (o : Fin 256) (i j : Fin 96) :
    conv2 (F := Ideal) x w b (ix4 n o i j) = max (convAt (fun c p q => x (ix4 n c p q)) (fun c k l => w (ix4 o c k l)) (b (ix1 o)) i.val j.val) 0 := by
  rw [conv2_eq]
  have h := prod_conv2_apply (pad_conv2 (F := Ideal) x) w o n i j
  simp only [pad_conv2_apply] at h
  generalize prod_conv2 (F := Ideal) (pad_conv2 x) w = D at h
  pointwise
  rw [h]
  rfl

/-! ### conv3 -/

/-- The input of conv3 with its zeros around. -/
def pad_conv3 (x : Vec F S8x256x96x96 .f32) : Vec F S8x256x98x98 .f32 :=
  pad S8x256x98x98 ![0, 0, 1, 1] ![0, 0, 1, 1] ![0, 0, 0, 0] x (sitofp .f32 (constantI S_ 32 0#32)) pads_S8x256x96x96_S8x256x98x98_000_000_110_110 h_S_

/-- The positions of the taps of conv3. -/
def pos_conv3 : IVec S48x4x1 32 :=
  broadcastInDim S48x4x1 ![0, 1] bcast_S48x4_S48x4x1_0_1 (addi (broadcastInDim S48x4 ![0, 1] bcast_S48x1_S48x4_0_1 (muli (broadcastInDim S48x1 ![] bcast_S_S48x1 (constantI S_ 32 2#32)) (broadcastInDim S48x1 ![0] bcast_S48_S48x1_0 (iotaInDim S48 32 0)))) (broadcastInDim S48x4 ![0, 1] bcast_S1x4_S48x4_0_1 (broadcastInDim S1x4 ![1] bcast_S4_S1x4_1 (iotaInDim S4 32 0))))

/-- The products of conv3, summed over channels and taps. -/
def prod_conv3 (X : Vec F S8x256x98x98 .f32) (w : Vec F S64x256x4x4 .f32) : Vec F S64x8x48x48 .f32 :=
  Host.dotGeneral dot_S64x256x4x4_S8x256x48x4x48x4_S64x8x48x48_123_135_0_024_n_n none w (Host.gather gather_S8x256x48x4x98_S48x4x1_S8x256x48x4x48x4_0123_4_n_n_4_2_82564841 (Host.gather gather_S8x256x98x98_S48x4x1_S8x256x48x4x98_014_2_n_n_2_2_8256198 X pos_conv3) pos_conv3)

theorem conv3_eq (x : Vec F S8x256x96x96 .f32) (w : Vec F S64x256x4x4 .f32) (b : Vec F S64 .f32) :
    conv3 x w b = addf (transpose S8x64x48x48 [1, 0, 2, 3] (prod_conv3 (pad_conv3 x) w) transposes_S64x8x48x48_S8x64x48x48_1_0_2_3) (broadcastInDim S8x64x48x48 ![0, 1, 2, 3] bcast_S1x64x1x1_S8x64x48x48_0_1_2_3 (broadcastInDim S1x64x1x1 ![1] bcast_S64_S1x64x1x1_1 b)) := rfl

theorem pos_conv3_apply (i : Fin 48) (k : Fin 4) :
    (pos_conv3 (ix3 i k 0)).toInt = ((2 * i.val + k.val : Nat) : Int) := by
  rw [← tap_toInt 2 i.val k.val (by omega) (by omega) k.isLt]
  congr 1

theorem pad_conv3_apply (x : Vec Ideal S8x256x96x96 .f32) (n : Fin 8) (c : Fin 256) (p q : Fin 98) :
    pad_conv3 (F := Ideal) x (ix4 n c p q) = padAt (fun a e => x (ix4 n c a e)) p.val q.val := by
  pointwise [pad_conv3, padAt]
  rw [word_zero]

theorem prod_conv3_apply (X : Vec Ideal S8x256x98x98 .f32) (w : Vec Ideal S64x256x4x4 .f32) (o : Fin 64) (n : Fin 8) (i j : Fin 48) :
    prod_conv3 (F := Ideal) X w (ix4 o n i j) = ∑ c : Fin 256, ∑ k : Fin 4, ∑ l : Fin 4, (w (ix4 o c k l) : EReal) *
      X (ix4 n c ⟨2 * i.val + k.val, by omega⟩ ⟨2 * j.val + l.val, by omega⟩) := by
  unfold prod_conv3
  rw [dot_taps _ rfl rfl rfl rfl rfl rfl]
  refine sum3_congr fun c k l => ?_
  rw [gather_cols _ rfl rfl rfl rfl rfl rfl rfl _ _ n c i k j l ⟨2 * j.val + l.val, by omega⟩ (pos_conv3_apply j l),
    gather_rows _ rfl rfl rfl rfl rfl rfl rfl _ _ n c i k _ ⟨2 * i.val + k.val, by omega⟩ (pos_conv3_apply i k)]

theorem conv3_apply (x : Vec Ideal S8x256x96x96 .f32) (w : Vec Ideal S64x256x4x4 .f32) (b : Vec Ideal S64 .f32) (n : Fin 8) (o : Fin 64) (i j : Fin 48) :
    conv3 (F := Ideal) x w b (ix4 n o i j) = convAt (fun c p q => x (ix4 n c p q)) (fun c k l => w (ix4 o c k l)) (b (ix1 o)) i.val j.val := by
  rw [conv3_eq]
  have h := prod_conv3_apply (pad_conv3 (F := Ideal) x) w o n i j
  simp only [pad_conv3_apply] at h
  generalize prod_conv3 (F := Ideal) (pad_conv3 x) w = D at h
  pointwise
  rw [h]
  rfl

/-! ### deconv1 -/

/-- The input of deconv1 with its zeros around. -/
def pad_deconv1 (x : Vec F S8x64x48x48 .f32) : Vec F S8x64x99x99 .f32 :=
  pad S8x64x99x99 ![0, 0, 2, 2] ![0, 0, 2, 2] ![0, 0, 1, 1] x (constant S_ .f32 0x00000000#32) pads_S8x64x48x48_S8x64x99x99_000_000_221_221 h_S_

/-- The positions of the taps of deconv1. -/
def pos_deconv1 : IVec S96x4x1 32 :=
  broadcastInDim S96x4x1 ![0, 1] bcast_S96x4_S96x4x1_0_1 (addi (broadcastInDim S96x4 ![0, 1] bcast_S96x1_S96x4_0_1 (muli (broadcastInDim S96x1 ![] bcast_S_S96x1 (constantI S_ 32 1#32)) (broadcastInDim S96x1 ![0] bcast_S96_S96x1_0 (iotaInDim S96 32 0)))) (broadcastInDim S96x4 ![0, 1] bcast_S1x4_S96x4_0_1 (broadcastInDim S1x4 ![1] bcast_S4_S1x4_1 (iotaInDim S4 32 0))))

/-- The weights of deconv1, turned around, with the two channel axes exchanged. -/
def wts_deconv1 (w : Vec F S64x256x4x4 .f32) : Vec F S256x64x4x4 .f32 :=
  transpose S256x64x4x4 [1, 0, 2, 3] (Host.reverse [2, 3] w) transposes_S64x256x4x4_S256x64x4x4_1_0_2_3

theorem wts_deconv1_apply (w : Vec Ideal S64x256x4x4 .f32) (o : Fin 256) (c : Fin 64) (k l : Fin 4) :
    wts_deconv1 (F := Ideal) w (ix4 o c k l) = w (ix4 c o (Fin.rev k) (Fin.rev l)) := by
  pointwise [wts_deconv1, Host.reverse]
  try (congr 1; funext a; fin_cases a <;> apply Fin.ext <;> rfl)

/-- The products of deconv1, summed over channels and taps. -/
def prod_deconv1 (X : Vec F S8x64x99x99 .f32) (w : Vec F S256x64x4x4 .f32) : Vec F S256x8x96x96 .f32 :=
  Host.dotGeneral dot_S256x64x4x4_S8x64x96x4x96x4_S256x8x96x96_123_135_0_024_n_n none w (Host.gather gather_S8x64x96x4x99_S96x4x1_S8x64x96x4x96x4_0123_4_n_n_4_2_8649641 (Host.gather gather_S8x64x99x99_S96x4x1_S8x64x96x4x99_014_2_n_n_2_2_864199 X pos_deconv1) pos_deconv1)

theorem deconv1_eq (x : Vec F S8x64x48x48 .f32) (w : Vec F S64x256x4x4 .f32) (b : Vec F S256 .f32) :
    deconv1 x w b = maximumf (addf (transpose S8x256x96x96 [1, 0, 2, 3] (prod_deconv1 (pad_deconv1 x) (wts_deconv1 w)) transposes_S256x8x96x96_S8x256x96x96_1_0_2_3) (broadcastInDim S8x256x96x96 ![0, 1, 2, 3] bcast_S1x256x1x1_S8x256x96x96_0_1_2_3 (broadcastInDim S1x256x1x1 ![1] bcast_S256_S1x256x1x1_1 b))) (broadcastInDim S8x256x96x96 ![] bcast_S_S8x256x96x96 (constant S_ .f32 0x00000000#32)) := rfl

theorem pos_deconv1_apply (i : Fin 96) (k : Fin 4) :
    (pos_deconv1 (ix3 i k 0)).toInt = ((1 * i.val + k.val : Nat) : Int) := by
  rw [← tap_toInt 1 i.val k.val (by omega) (by omega) k.isLt]
  congr 1

theorem pad_deconv1_apply (x : Vec Ideal S8x64x48x48 .f32) (n : Fin 8) (c : Fin 64) (p q : Fin 99) :
    pad_deconv1 (F := Ideal) x (ix4 n c p q) = dilAt (fun a e => x (ix4 n c a e)) p.val q.val := by
  pointwise [pad_deconv1, dilAt]

theorem prod_deconv1_apply (X : Vec Ideal S8x64x99x99 .f32) (w : Vec Ideal S256x64x4x4 .f32) (o : Fin 256) (n : Fin 8) (i j : Fin 96) :
    prod_deconv1 (F := Ideal) X w (ix4 o n i j) = ∑ c : Fin 64, ∑ k : Fin 4, ∑ l : Fin 4, (w (ix4 o c k l) : EReal) *
      X (ix4 n c ⟨1 * i.val + k.val, by omega⟩ ⟨1 * j.val + l.val, by omega⟩) := by
  unfold prod_deconv1
  rw [dot_taps _ rfl rfl rfl rfl rfl rfl]
  refine sum3_congr fun c k l => ?_
  rw [gather_cols _ rfl rfl rfl rfl rfl rfl rfl _ _ n c i k j l ⟨1 * j.val + l.val, by omega⟩ (pos_deconv1_apply j l),
    gather_rows _ rfl rfl rfl rfl rfl rfl rfl _ _ n c i k _ ⟨1 * i.val + k.val, by omega⟩ (pos_deconv1_apply i k)]

theorem deconv1_apply (x : Vec Ideal S8x64x48x48 .f32) (w : Vec Ideal S64x256x4x4 .f32) (b : Vec Ideal S256 .f32) (n : Fin 8) (o : Fin 256) (i j : Fin 96) :
    deconv1 (F := Ideal) x w b (ix4 n o i j) = max (deconvAt (fun c p q => x (ix4 n c p q)) (fun c k l => w (ix4 c o k l)) (b (ix1 o)) i.val j.val) 0 := by
  rw [deconv1_eq]
  have h := prod_deconv1_apply (pad_deconv1 (F := Ideal) x) (wts_deconv1 w) o n i j
  simp only [pad_deconv1_apply, wts_deconv1_apply, one_mul] at h
  generalize prod_deconv1 (F := Ideal) (pad_deconv1 x) (wts_deconv1 w) = D at h
  pointwise
  rw [h]
  rfl

/-! ### deconv2 -/

/-- The input of deconv2 with its zeros around. -/
def pad_deconv2 (x : Vec F S8x256x96x96 .f32) : Vec F S8x256x195x195 .f32 :=
  pad S8x256x195x195 ![0, 0, 2, 2] ![0, 0, 2, 2] ![0, 0, 1, 1] x (constant S_ .f32 0x00000000#32) pads_S8x256x96x96_S8x256x195x195_000_000_221_221 h_S_

/-- The positions of the taps of deconv2. -/
def pos_deconv2 : IVec S192x4x1 32 :=
  broadcastInDim S192x4x1 ![0, 1] bcast_S192x4_S192x4x1_0_1 (addi (broadcastInDim S192x4 ![0, 1] bcast_S192x1_S192x4_0_1 (muli (broadcastInDim S192x1 ![] bcast_S_S192x1 (constantI S_ 32 1#32)) (broadcastInDim S192x1 ![0] bcast_S192_S192x1_0 (iotaInDim S192 32 0)))) (broadcastInDim S192x4 ![0, 1] bcast_S1x4_S192x4_0_1 (broadcastInDim S1x4 ![1] bcast_S4_S1x4_1 (iotaInDim S4 32 0))))

/-- The weights of deconv2, turned around, with the two channel axes exchanged. -/
def wts_deconv2 (w : Vec F S256x128x4x4 .f32) : Vec F S128x256x4x4 .f32 :=
  transpose S128x256x4x4 [1, 0, 2, 3] (Host.reverse [2, 3] w) transposes_S256x128x4x4_S128x256x4x4_1_0_2_3

theorem wts_deconv2_apply (w : Vec Ideal S256x128x4x4 .f32) (o : Fin 128) (c : Fin 256) (k l : Fin 4) :
    wts_deconv2 (F := Ideal) w (ix4 o c k l) = w (ix4 c o (Fin.rev k) (Fin.rev l)) := by
  pointwise [wts_deconv2, Host.reverse]
  try (congr 1; funext a; fin_cases a <;> apply Fin.ext <;> rfl)

/-- The products of deconv2, summed over channels and taps. -/
def prod_deconv2 (X : Vec F S8x256x195x195 .f32) (w : Vec F S128x256x4x4 .f32) : Vec F S128x8x192x192 .f32 :=
  Host.dotGeneral dot_S128x256x4x4_S8x256x192x4x192x4_S128x8x192x192_123_135_0_024_n_n none w (Host.gather gather_S8x256x192x4x195_S192x4x1_S8x256x192x4x192x4_0123_4_n_n_4_2_825619241 (Host.gather gather_S8x256x195x195_S192x4x1_S8x256x192x4x195_014_2_n_n_2_2_82561195 X pos_deconv2) pos_deconv2)

theorem deconv2_eq (x : Vec F S8x256x96x96 .f32) (w : Vec F S256x128x4x4 .f32) (b : Vec F S128 .f32) :
    deconv2 x w b = maximumf (addf (transpose S8x128x192x192 [1, 0, 2, 3] (prod_deconv2 (pad_deconv2 x) (wts_deconv2 w)) transposes_S128x8x192x192_S8x128x192x192_1_0_2_3) (broadcastInDim S8x128x192x192 ![0, 1, 2, 3] bcast_S1x128x1x1_S8x128x192x192_0_1_2_3 (broadcastInDim S1x128x1x1 ![1] bcast_S128_S1x128x1x1_1 b))) (broadcastInDim S8x128x192x192 ![] bcast_S_S8x128x192x192 (constant S_ .f32 0x00000000#32)) := rfl

theorem pos_deconv2_apply (i : Fin 192) (k : Fin 4) :
    (pos_deconv2 (ix3 i k 0)).toInt = ((1 * i.val + k.val : Nat) : Int) := by
  rw [← tap_toInt 1 i.val k.val (by omega) (by omega) k.isLt]
  congr 1

theorem pad_deconv2_apply (x : Vec Ideal S8x256x96x96 .f32) (n : Fin 8) (c : Fin 256) (p q : Fin 195) :
    pad_deconv2 (F := Ideal) x (ix4 n c p q) = dilAt (fun a e => x (ix4 n c a e)) p.val q.val := by
  pointwise [pad_deconv2, dilAt]

theorem prod_deconv2_apply (X : Vec Ideal S8x256x195x195 .f32) (w : Vec Ideal S128x256x4x4 .f32) (o : Fin 128) (n : Fin 8) (i j : Fin 192) :
    prod_deconv2 (F := Ideal) X w (ix4 o n i j) = ∑ c : Fin 256, ∑ k : Fin 4, ∑ l : Fin 4, (w (ix4 o c k l) : EReal) *
      X (ix4 n c ⟨1 * i.val + k.val, by omega⟩ ⟨1 * j.val + l.val, by omega⟩) := by
  unfold prod_deconv2
  rw [dot_taps _ rfl rfl rfl rfl rfl rfl]
  refine sum3_congr fun c k l => ?_
  rw [gather_cols _ rfl rfl rfl rfl rfl rfl rfl _ _ n c i k j l ⟨1 * j.val + l.val, by omega⟩ (pos_deconv2_apply j l),
    gather_rows _ rfl rfl rfl rfl rfl rfl rfl _ _ n c i k _ ⟨1 * i.val + k.val, by omega⟩ (pos_deconv2_apply i k)]

theorem deconv2_apply (x : Vec Ideal S8x256x96x96 .f32) (w : Vec Ideal S256x128x4x4 .f32) (b : Vec Ideal S128 .f32) (n : Fin 8) (o : Fin 128) (i j : Fin 192) :
    deconv2 (F := Ideal) x w b (ix4 n o i j) = max (deconvAt (fun c p q => x (ix4 n c p q)) (fun c k l => w (ix4 c o k l)) (b (ix1 o)) i.val j.val) 0 := by
  rw [deconv2_eq]
  have h := prod_deconv2_apply (pad_deconv2 (F := Ideal) x) (wts_deconv2 w) o n i j
  simp only [pad_deconv2_apply, wts_deconv2_apply, one_mul] at h
  generalize prod_deconv2 (F := Ideal) (pad_deconv2 x) (wts_deconv2 w) = D at h
  pointwise
  rw [h]
  rfl

/-! ### deconv3 -/

/-- The input of deconv3 with its zeros around. -/
def pad_deconv3 (x : Vec F S8x128x192x192 .f32) : Vec F S8x128x387x387 .f32 :=
  pad S8x128x387x387 ![0, 0, 2, 2] ![0, 0, 2, 2] ![0, 0, 1, 1] x (constant S_ .f32 0x00000000#32) pads_S8x128x192x192_S8x128x387x387_000_000_221_221 h_S_

/-- The positions of the taps of deconv3. -/
def pos_deconv3 : IVec S384x4x1 32 :=
  broadcastInDim S384x4x1 ![0, 1] bcast_S384x4_S384x4x1_0_1 (addi (broadcastInDim S384x4 ![0, 1] bcast_S384x1_S384x4_0_1 (muli (broadcastInDim S384x1 ![] bcast_S_S384x1 (constantI S_ 32 1#32)) (broadcastInDim S384x1 ![0] bcast_S384_S384x1_0 (iotaInDim S384 32 0)))) (broadcastInDim S384x4 ![0, 1] bcast_S1x4_S384x4_0_1 (broadcastInDim S1x4 ![1] bcast_S4_S1x4_1 (iotaInDim S4 32 0))))

/-- The weights of deconv3, turned around, with the two channel axes exchanged. -/
def wts_deconv3 (w : Vec F S128x3x4x4 .f32) : Vec F S3x128x4x4 .f32 :=
  transpose S3x128x4x4 [1, 0, 2, 3] (Host.reverse [2, 3] w) transposes_S128x3x4x4_S3x128x4x4_1_0_2_3

theorem wts_deconv3_apply (w : Vec Ideal S128x3x4x4 .f32) (o : Fin 3) (c : Fin 128) (k l : Fin 4) :
    wts_deconv3 (F := Ideal) w (ix4 o c k l) = w (ix4 c o (Fin.rev k) (Fin.rev l)) := by
  pointwise [wts_deconv3, Host.reverse]
  try (congr 1; funext a; fin_cases a <;> apply Fin.ext <;> rfl)

/-- The products of deconv3, summed over channels and taps. -/
def prod_deconv3 (X : Vec F S8x128x387x387 .f32) (w : Vec F S3x128x4x4 .f32) : Vec F S3x8x384x384 .f32 :=
  Host.dotGeneral dot_S3x128x4x4_S8x128x384x4x384x4_S3x8x384x384_123_135_0_024_n_n none w (Host.gather gather_S8x128x384x4x387_S384x4x1_S8x128x384x4x384x4_0123_4_n_n_4_2_812838441 (Host.gather gather_S8x128x387x387_S384x4x1_S8x128x384x4x387_014_2_n_n_2_2_81281387 X pos_deconv3) pos_deconv3)

theorem deconv3_eq (x : Vec F S8x128x192x192 .f32) (w : Vec F S128x3x4x4 .f32) (b : Vec F S3 .f32) :
    deconv3 x w b = addf (transpose S8x3x384x384 [1, 0, 2, 3] (prod_deconv3 (pad_deconv3 x) (wts_deconv3 w)) transposes_S3x8x384x384_S8x3x384x384_1_0_2_3) (broadcastInDim S8x3x384x384 ![0, 1, 2, 3] bcast_S1x3x1x1_S8x3x384x384_0_1_2_3 (broadcastInDim S1x3x1x1 ![1] bcast_S3_S1x3x1x1_1 b)) := rfl

theorem pos_deconv3_apply (i : Fin 384) (k : Fin 4) :
    (pos_deconv3 (ix3 i k 0)).toInt = ((1 * i.val + k.val : Nat) : Int) := by
  rw [← tap_toInt 1 i.val k.val (by omega) (by omega) k.isLt]
  congr 1

theorem pad_deconv3_apply (x : Vec Ideal S8x128x192x192 .f32) (n : Fin 8) (c : Fin 128) (p q : Fin 387) :
    pad_deconv3 (F := Ideal) x (ix4 n c p q) = dilAt (fun a e => x (ix4 n c a e)) p.val q.val := by
  pointwise [pad_deconv3, dilAt]

theorem prod_deconv3_apply (X : Vec Ideal S8x128x387x387 .f32) (w : Vec Ideal S3x128x4x4 .f32) (o : Fin 3) (n : Fin 8) (i j : Fin 384) :
    prod_deconv3 (F := Ideal) X w (ix4 o n i j) = ∑ c : Fin 128, ∑ k : Fin 4, ∑ l : Fin 4, (w (ix4 o c k l) : EReal) *
      X (ix4 n c ⟨1 * i.val + k.val, by omega⟩ ⟨1 * j.val + l.val, by omega⟩) := by
  unfold prod_deconv3
  rw [dot_taps _ rfl rfl rfl rfl rfl rfl]
  refine sum3_congr fun c k l => ?_
  rw [gather_cols _ rfl rfl rfl rfl rfl rfl rfl _ _ n c i k j l ⟨1 * j.val + l.val, by omega⟩ (pos_deconv3_apply j l),
    gather_rows _ rfl rfl rfl rfl rfl rfl rfl _ _ n c i k _ ⟨1 * i.val + k.val, by omega⟩ (pos_deconv3_apply i k)]

theorem deconv3_apply (x : Vec Ideal S8x128x192x192 .f32) (w : Vec Ideal S128x3x4x4 .f32) (b : Vec Ideal S3 .f32) (n : Fin 8) (o : Fin 3) (i j : Fin 384) :
    deconv3 (F := Ideal) x w b (ix4 n o i j) = deconvAt (fun c p q => x (ix4 n c p q)) (fun c k l => w (ix4 c o k l)) (b (ix1 o)) i.val j.val := by
  rw [deconv3_eq]
  have h := prod_deconv3_apply (pad_deconv3 (F := Ideal) x) (wts_deconv3 w) o n i j
  simp only [pad_deconv3_apply, wts_deconv3_apply, one_mul] at h
  generalize prod_deconv3 (F := Ideal) (pad_deconv3 x) (wts_deconv3 w) = D at h
  pointwise
  rw [h]
  rfl

end Cert.ReferenceIdeal.Val
-- ==== Proof.Agree.lean ====
module

public import proofs.«01_k».proof.Proof.KLayers
public import proofs.«01_k».proof.Proof.RefRead

/-!
# Each layer of the kernel is the reference's layer, channels moved
-/

@[expose] public section

set_option maxRecDepth 16384

noncomputable section

namespace Cert.KernelIdeal.Val

open Cert.KernelIdeal Cert.KernelIdeal.Gen Cert.Math Idealize.ShloMosaic Idealize.ShloMosaic.TcCoe

theorem conv1_agree (x : Vec Ideal Cert.ReferenceIdeal.S8x3x384x384 .f32) (w : Vec Ideal S128x3x4x4 .f32) (b : Vec Ideal S128 .f32) (n : Fin 8) (i j : Fin 192) (o : Fin 128) :
    G0 (cs1 (F := Ideal) (cp1 x)) (cw1 (F := Ideal) w) (cb1 (F := Ideal) b) (ix4 n i j o) = Cert.ReferenceIdeal.Val.conv1 (F := Ideal) x w b (ix4 n o i j) :=
  (conv1_at x w b n i j o).trans (Cert.ReferenceIdeal.Val.conv1_apply x w b n o i j).symm

theorem conv2_agree (X : Vec Ideal S8x192x192x128 .f32) (x : Vec Ideal Cert.ReferenceIdeal.S8x128x192x192 .f32)
    (h : ∀ n i j c, X (ix4 n i j c) = x (ix4 n c i j)) (w : Vec Ideal S256x128x4x4 .f32) (b : Vec Ideal S256 .f32) (n : Fin 8) (i j : Fin 96) (o : Fin 256) :
    G1 (cs2 (F := Ideal) (cp2 X)) (cw2 (F := Ideal) w) (cb2 (F := Ideal) b) (ix4 n i j o) = Cert.ReferenceIdeal.Val.conv2 (F := Ideal) x w b (ix4 n o i j) := by
  refine (conv2_at X w b n i j o).trans (Eq.trans ?_ (Cert.ReferenceIdeal.Val.conv2_apply x w b n o i j).symm)
  exact congrArg (fun v : Fin 128 → Fin 192 → Fin 192 → EReal => max (convAt v (fun c k l => w (ix4 o c k l)) (b (ix1 o)) i.val j.val) 0)
    (funext fun c => funext fun p => funext fun q => h n p q c)

theorem conv3_agree (X : Vec Ideal S8x96x96x256 .f32) (x : Vec Ideal Cert.ReferenceIdeal.S8x256x96x96 .f32)
    (h : ∀ n i j c, X (ix4 n i j c) = x (ix4 n c i j)) (w : Vec Ideal S64x256x4x4 .f32) (b : Vec Ideal S64 .f32) (n : Fin 8) (i j : Fin 48) (o : Fin 64) :
    G2 (cs3 (F := Ideal) (cp3 X)) (cw3 (F := Ideal) w) (cb3 (F := Ideal) b) (ix4 n i j o) = Cert.ReferenceIdeal.Val.conv3 (F := Ideal) x w b (ix4 n o i j) := by
  refine (conv3_at X w b n i j o).trans (Eq.trans ?_ (Cert.ReferenceIdeal.Val.conv3_apply x w b n o i j).symm)
  exact congrArg (fun v : Fin 256 → Fin 96 → Fin 96 → EReal => convAt v (fun c k l => w (ix4 o c k l)) (b (ix1 o)) i.val j.val)
    (funext fun c => funext fun p => funext fun q => h n p q c)

theorem deconv1_agree (X : Vec Ideal S8x48x48x64 .f32) (x : Vec Ideal Cert.ReferenceIdeal.S8x64x48x48 .f32)
    (h : ∀ n i j c, X (ix4 n i j c) = x (ix4 n c i j)) (w : Vec Ideal S64x256x4x4 .f32) (b : Vec Ideal S256 .f32) (n : Fin 8) (i j : Fin 96) (o : Fin 256) :
    G4 (dp1 (F := Ideal) X) (dw1 (F := Ideal) (dg1 w taps)) (db1 (F := Ideal) b) (ix4 n i j o) = Cert.ReferenceIdeal.Val.deconv1 (F := Ideal) x w b (ix4 n o i j) := by
  refine (deconv1_at X w b n i j o).trans (Eq.trans ?_ (Cert.ReferenceIdeal.Val.deconv1_apply x w b n o i j).symm)
  exact congrArg (fun v : Fin 64 → Fin 48 → Fin 48 → EReal => max (deconvAt v (fun c k l => w (ix4 c o k l)) (b (ix1 o)) i.val j.val) 0)
    (funext fun c => funext fun p => funext fun q => h n p q c)

theorem deconv2_agree (X : Vec Ideal S8x96x96x256 .f32) (x : Vec Ideal Cert.ReferenceIdeal.S8x256x96x96 .f32)
    (h : ∀ n i j c, X (ix4 n i j c) = x (ix4 n c i j)) (w : Vec Ideal S256x128x4x4 .f32) (b : Vec Ideal S128 .f32) (n : Fin 8) (i j : Fin 192) (o : Fin 128) :
    G5 (dp2 (F := Ideal) X) (dw2 (F := Ideal) (dg2 w taps)) (db2 (F := Ideal) b) (ix4 n i j o) = Cert.ReferenceIdeal.Val.deconv2 (F := Ideal) x w b (ix4 n o i j) := by
  refine (deconv2_at X w b n i j o).trans (Eq.trans ?_ (Cert.ReferenceIdeal.Val.deconv2_apply x w b n o i j).symm)
  exact congrArg (fun v : Fin 256 → Fin 96 → Fin 96 → EReal => max (deconvAt v (fun c k l => w (ix4 c o k l)) (b (ix1 o)) i.val j.val) 0)
    (funext fun c => funext fun p => funext fun q => h n p q c)

theorem deconv3_agree (X : Vec Ideal S8x192x192x128 .f32) (x : Vec Ideal Cert.ReferenceIdeal.S8x128x192x192 .f32)
    (h : ∀ n i j c, X (ix4 n i j c) = x (ix4 n c i j)) (w : Vec Ideal S128x3x4x4 .f32) (b : Vec Ideal S3 .f32) (n : Fin 8) (i j : Fin 384) (o : Fin 3) :
    outi (F := Ideal) (outs (outc (G6 (dp3 (F := Ideal) X) (dw3 (F := Ideal) (dg3 w taps)) (db3 (F := Ideal) b)))) (ix4 n o i j) = Cert.ReferenceIdeal.Val.deconv3 (F := Ideal) x w b (ix4 n o i j) := by
  refine (deconv3_at X w b n i j o).trans (Eq.trans ?_ (Cert.ReferenceIdeal.Val.deconv3_apply x w b n o i j).symm)
  exact congrArg (fun v : Fin 128 → Fin 192 → Fin 192 → EReal => deconvAt v (fun c k l => w (ix4 c o k l)) (b (ix1 o)) i.val j.val)
    (funext fun c => funext fun p => funext fun q => h n p q c)

end Cert.KernelIdeal.Val
-- ==== Proof.Near.lean ====
module

public import Idealize.ShloMosaic.Lib.Pointwise

/-!
# The nearest codebook row, as the kernel finds it

The distances of one vector to the 1024 codebook rows, the least of the indices whose distance is
the smallest, and the row picked by a sum over all rows with one factor one and the others zero.
-/

@[expose] public section

noncomputable section

namespace Cert.Math

open Idealize.ShloMosaic

/-- The distance of the vector `f` to row `x` of the codebook. -/
def dist (f : Fin 64 → EReal) (e : Fin 1024 → Fin 64 → EReal) (x : Fin 1024) : EReal :=
  Ideal.sqrt (max ((∑ k, f k * f k) + (∑ k, e x k * e x k) - Ideal.ofBits FTy.f32 1073741824#32 * ∑ k, f k * e x k) 0)

/-- The least index at the smallest distance, found by two folds. -/
def near (f : Fin 64 → EReal) (e : Fin 1024 → Fin 64 → EReal) : BitVec 32 :=
  Finset.fold IntOp.minsi 2147483647#32
    (fun x => if dist f e x = Finset.fold min (Ideal.ofBits FTy.f32 2139095040#32) (fun y => dist f e y) Finset.univ
      then BitVec.ofNat 32 x.val else 1024#32) Finset.univ

/-- The row at that index, as a sum over all rows. -/
def pick (f : Fin 64 → EReal) (e : Fin 1024 → Fin 64 → EReal) (d : Fin 64) : EReal :=
  ∑ x : Fin 1024, (FloatOps.sitofp (F := Ideal) FTy.f32 (BitVec.setWidth 32
    (IntOp.cmpi CmpIPredicate.eq (BitVec.ofNat 32 x.val) (near f e))) : EReal) * e x d

end Cert.Math
-- ==== Proof.Argmin.lean ====
module

public import proofs.«01_k».proof.Proof.RefSegs
public import proofs.«01_k».proof.Proof.Near
public import Idealize.ShloMosaic.PureOps.Ideal.Laws

/-!
# The nearest codebook row: the kernel's way and the reference's way

The reference folds pairs of a distance and an index; the kernel takes the smallest distance and then
the least index that has it. Both end at the first smallest distance.
-/

@[expose] public section

set_option maxRecDepth 16384

noncomputable section

namespace Cert.Math

open Idealize.ShloMosaic

/-- `k` is the first place of the smallest value of `d`. -/
def First (d : Fin 1024 → EReal) (k : Fin 1024) : Prop := ∀ x, d k < d x ∨ (d k = d x ∧ k ≤ x)

theorem toInt_small (k : Nat) (h : k ≤ 1024) : (BitVec.ofNat 32 k).toInt = k := by
  rw [BitVec.toInt_eq_toNat_of_lt] <;> rw [BitVec.toNat_ofNat] <;> omega

theorem toInt_minsi (x y : BitVec 32) : (IntOp.minsi x y).toInt = min x.toInt y.toInt := by
  unfold IntOp.minsi
  rw [BitVec.slt_eq_decide]
  split_ifs with h <;> simp at h <;> omega

/-- The kernel's two folds find the first smallest distance. -/
theorem near_eq (f : Fin 64 → EReal) (e : Fin 1024 → Fin 64 → EReal) (k : Fin 1024) (hk : First (dist f e) k) :
    near f e = BitVec.ofNat 32 k.val := by
  have hM : Finset.fold min (Ideal.ofBits FTy.f32 2139095040#32) (fun y => dist f e y) Finset.univ = dist f e k := by
    refine le_antisymm ?_ ?_
    · exact (Finset.fold_min_le _).2 (Or.inr ⟨k, Finset.mem_univ _, le_rfl⟩)
    · refine (Finset.le_fold_min _).2 ⟨?_, fun x _ => ?_⟩
      · rw [show Ideal.ofBits FTy.f32 2139095040#32 = (⊤ : EReal) from by simp [Ideal.ofBits, Ideal.ieee]]
        exact le_top
      · rcases hk x with h | h
        · exact h.le
        · exact h.1.le
  unfold near
  rw [hM]
  apply BitVec.eq_of_toInt_eq
  rw [← Finset.fold_hom (op' := min) (m := BitVec.toInt) toInt_minsi, toInt_small k.val (by omega)]
  refine le_antisymm ?_ ?_
  · refine (Finset.fold_min_le _).2 (Or.inr ⟨k, Finset.mem_univ _, ?_⟩)
    rw [if_pos rfl, toInt_small k.val (by omega)]
  · refine (Finset.le_fold_min _).2 ⟨?_, fun x _ => ?_⟩
    · rw [show (2147483647#32 : BitVec 32).toInt = 2147483647 from by decide]
      omega
    · split_ifs with h
      · rw [toInt_small x.val (by omega)]
        rcases hk x with g | g
        · exact absurd h g.ne'
        · exact_mod_cast g.2
      · rw [show (1024#32 : BitVec 32).toInt = 1024 from by decide]
        omega

/-- The sum over all rows picks the row at that index. -/
theorem pick_eq (f : Fin 64 → EReal) (e : Fin 1024 → Fin 64 → EReal) (k : Fin 1024) (hk : First (dist f e) k) (d : Fin 64) :
    pick f e d = e k d := by
  unfold pick
  rw [near_eq f e k hk]
  rw [Finset.sum_eq_single k]
  · rw [show IntOp.cmpi CmpIPredicate.eq (BitVec.ofNat 32 k.val) (BitVec.ofNat 32 k.val) = 1#1 from by simp [IntOp.cmpi]]
    have : (FloatOps.sitofp (F := Ideal) FTy.f32 (BitVec.setWidth 32 1#1) : EReal) = 1 := by
      show ((((BitVec.setWidth 32 1#1) : BitVec 32).toInt : ℝ) : EReal) = 1
      rw [show (BitVec.setWidth 32 1#1 : BitVec 32).toInt = 1 from by decide]
      simp
    rw [this, one_mul]
  · intro x _ hx
    rw [show IntOp.cmpi CmpIPredicate.eq (BitVec.ofNat 32 x.val) (BitVec.ofNat 32 k.val) = 0#1 from by
      have hne : BitVec.ofNat 32 x.val ≠ BitVec.ofNat 32 k.val := fun h => hx (Fin.ext (by
        have := congrArg BitVec.toInt h
        rw [toInt_small x.val (by omega), toInt_small k.val (by omega)] at this
        exact_mod_cast this))
      exact congrArg BitVec.ofBool (beq_eq_false_iff_ne.2 hne)]
    have : (FloatOps.sitofp (F := Ideal) FTy.f32 (BitVec.setWidth 32 0#1) : EReal) = 0 := by
      show ((((BitVec.setWidth 32 0#1) : BitVec 32).toInt : ℝ) : EReal) = 0
      rw [show (BitVec.setWidth 32 0#1 : BitVec 32).toInt = 0 from by decide]
      simp
    rw [this, zero_mul]
  · exact fun h => absurd (Finset.mem_univ _) h

/-- Twice a sum of products is the sum with the first factor doubled. -/
theorem two_sum (f g : Fin 64 → EReal) :
    Ideal.ofBits FTy.f32 1073741824#32 * ∑ k, f k * g k = ∑ k, (Ideal.ofBits FTy.f32 1073741824#32 * f k) * g k := by
  have h2 : Ideal.ofBits FTy.f32 1073741824#32 = ((2 : ℝ) : EReal) := by
    simp [Ideal.ofBits, Ideal.ieee]
    rw [← EReal.coe_mul]
    norm_num
  rw [h2]
  generalize (Finset.univ : Finset (Fin 64)) = s
  induction s using Finset.induction_on with
  | empty => simp
  | insert a s ha ih =>
    rw [Finset.sum_insert ha, Finset.sum_insert ha,
      EReal.left_distrib_of_nonneg_of_ne_top (by exact_mod_cast (by norm_num : (0:ℝ) ≤ 2)) (EReal.coe_ne_top _), ih, mul_assoc]

end Cert.Math

namespace Cert.ReferenceIdeal.Val

open Cert.ReferenceIdeal Cert.ReferenceIdeal.Gen Cert.Math Idealize.ShloMosaic Idealize.ShloMosaic.TcCoe

/-- The order the reference's fold follows: the smaller value, and at equal values the smaller index. -/
def Before (a b : EReal × BitVec 32) : Prop := a.1 < b.1 ∨ (a.1 = b.1 ∧ a.2.toInt ≤ b.2.toInt)

theorem before_trans {a b c : EReal × BitVec 32} (h : Before a b) (g : Before b c) : Before a c := by
  rcases h with h | h <;> rcases g with g | g
  · exact Or.inl (h.trans g)
  · exact Or.inl (g.1 ▸ h)
  · exact Or.inl (h.1 ▸ g)
  · exact Or.inr ⟨h.1.trans g.1, h.2.trans g.2⟩

theorem before_refl (a : EReal × BitVec 32) : Before a a := Or.inr ⟨rfl, le_rfl⟩

/-- One step of the fold keeps one of its two pairs, and that one is before both. -/
theorem step (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  have hx : FloatOps.cmpf (F := Ideal) (φ := .f32) CmpFPredicate.une x x = 0#1 := by
    show Ideal.cmp _ x x = 0#1
    simp [Ideal.cmp]
  have hl : FloatOps.cmpf (F := Ideal) (φ := .f32) CmpFPredicate.olt x y = BitVec.ofBool (decide (x < y)) := rfl
  have he : FloatOps.cmpf (F := Ideal) (φ := .f32) CmpFPredicate.oeq x y = BitVec.ofBool (decide (x = y)) := rfl
  unfold reducer_argmin_f32_i32 Before
  simp only [hx, hl, he]
  rcases lt_trichotomy x y with h | h | h
  · left
    simp [Scalar.select, IntOp.ori, IntOp.andi, IntOp.cmpi, h, h.ne]
  · subst h
    by_cases g : i.toInt < j.toInt
    · left
      simp [Scalar.select, IntOp.ori, IntOp.andi, IntOp.cmpi, BitVec.slt_eq_decide, g, g.le]
    · right
      simp [Scalar.select, IntOp.ori, IntOp.andi, IntOp.cmpi, BitVec.slt_eq_decide, g, not_lt.1 g]
  · right
    simp [Scalar.select, IntOp.ori, IntOp.andi, IntOp.cmpi, h, h.not_gt, h.ne']

/-- The fold ends at one of the pairs, and that one is before all. -/
theorem fold_step (l : List (EReal × BitVec 32)) (a : EReal × BitVec 32) :
    l.foldl (reducer_argmin_f32_i32 (F := Ideal)) a ∈ a :: l
      ∧ ∀ p ∈ a :: l, Before (l.foldl (reducer_argmin_f32_i32 (F := Ideal)) a) p := by
  induction l generalizing a with
  | nil => exact ⟨List.mem_cons_self, fun p hp => by rw [List.mem_singleton.1 hp]; exact before_refl a⟩
  | cons b l ih =>
    rw [List.foldl_cons]
    obtain ⟨hm, hb⟩ := ih (reducer_argmin_f32_i32 (F := Ideal) a b)
    have hs := hb _ List.mem_cons_self
    refine ⟨?_, fun p hp => ?_⟩
    · rcases List.mem_cons.1 hm with h | h
      · rw [h]
        rcases step a b with g | g
        · rw [g.1]; exact List.mem_cons_self
        · rw [g.1]; exact List.mem_cons_of_mem _ List.mem_cons_self
      · exact List.mem_cons_of_mem _ (List.mem_cons_of_mem _ h)
    · rcases List.mem_cons.1 hp with h | h
      · subst h
        refine before_trans hs ?_
        rcases step p b with g | g
        · rw [g.1]; exact before_refl p
        · rw [g.1]; exact g.2
      · rcases List.mem_cons.1 h with h | h
        · subst h
          refine before_trans hs ?_
          rcases step a p with g | g
          · rw [g.1]; exact g.2
          · rw [g.1]; exact before_refl p
        · exact hb p (List.mem_cons_of_mem _ h)

/-- The fold over the pairs of a list of values, each with its index, ends at the first smallest. -/
theorem fold_first (d : Fin 1024 → EReal) (l : List (EReal × BitVec 32))
    (hl : ∀ p, p ∈ l ↔ ∃ k : Fin 1024, (d k, BitVec.ofNat 32 k.val) = p) :
    ∃ k : Fin 1024, (l.foldl (reducer_argmin_f32_i32 (F := Ideal)) (⊤, 0#32)).2 = BitVec.ofNat 32 k.val ∧ First d k := by
  obtain ⟨hm, hb⟩ := fold_step l (⊤, 0#32)
  revert hm hb
  generalize List.foldl _ _ _ = q
  intro hm hb
  have hall : ∀ x : Fin 1024, Before q (d x, BitVec.ofNat 32 x.val) := fun x =>
    hb _ (List.mem_cons_of_mem _ ((hl _).2 ⟨x, rfl⟩))
  obtain ⟨k, hk⟩ : ∃ k : Fin 1024, (d k, BitVec.ofNat 32 k.val) = q := by
    rcases List.mem_cons.1 hm with h | h
    · refine ⟨0, ?_⟩
      have h0 := hall 0
      rw [h] at h0 ⊢
      rcases h0 with g | g
      · exact absurd g not_top_lt
      · exact Prod.ext g.1.symm rfl
    · exact (hl _).1 h
  subst hk
  refine ⟨k, rfl, fun x => ?_⟩
  rcases hall x with g | g
  · exact Or.inl g
  · refine Or.inr ⟨g.1, ?_⟩
    have g2 : (BitVec.ofNat 32 k.val).toInt ≤ (BitVec.ofNat 32 x.val).toInt := g.2
    rw [toInt_small k.val (by omega), toInt_small x.val (by omega)] at g2
    exact_mod_cast g2

variable {R : Nat}

/-- The pairs of row `r`: its values, each with its index. -/
theorem mem_fiber (d : (⟨2, ![R, 1024]⟩ : Shape).Idx → EReal) (h : (⟨2, ![R, 1024]⟩ : Shape).ReducesTo [1] ⟨1, ![R]⟩) (r : Fin R) (p : EReal × BitVec 32) :
    p ∈ Host.argReduceFiber (α := EReal) d (iotaInDim ⟨2, ![R, 1024]⟩ 32 1) h (ix1 r)
      ↔ ∃ k : Fin 1024, (d (ix2 r k), BitVec.ofNat 32 k.val) = p := by
  unfold Host.argReduceFiber
  rw [List.mem_map]
  constructor
  · rintro ⟨n, hn, rfl⟩
    have hn := (List.mem_filter.1 hn).2
    obtain ⟨k, hk⟩ := (Shape.ReducesTo.fiber_r2_a1 h (ix1 r) _).1 (of_decide_eq_true hn)
    refine ⟨k, ?_⟩
    rw [← hk]
    rfl
  · rintro ⟨k, rfl⟩
    refine ⟨(⟨2, ![R, 1024]⟩ : Shape).rowMajor (ix2 r k), List.mem_filter.2 ⟨List.mem_finRange _, ?_⟩, ?_⟩
    · rw [Equiv.symm_apply_apply]
      exact decide_eq_true ((Shape.ReducesTo.fiber_r2_a1 h (ix1 r) _).2 ⟨k, rfl⟩)
    · rw [Equiv.symm_apply_apply]
      rfl

/-- The fold over row `r` of a table ends at the first smallest value of the row. -/
theorem row_first {u : Shape} (d : (⟨2, ![R, 1024]⟩ : Shape).Idx → EReal) (h : (⟨2, ![R, 1024]⟩ : Shape).ReducesTo [1] ⟨1, ![R]⟩) (r : Fin R)
    (ix : u.Idx → EReal) (iy : u.Idx → BitVec 32) (hu : 0 < u.numel) (hx : ix (Shape.Idx.first hu) = ⊤) (hy : iy (Shape.Idx.first hu) = 0#32) :
    ∃ k : Fin 1024, (Host.argReduce (F := Ideal) (φ := .f32) reducer_argmin_f32_i32 d (iotaInDim ⟨2, ![R, 1024]⟩ 32 1) ix iy h hu (ix1 r)).2
      = BitVec.ofNat 32 k.val ∧ First (fun x => d (ix2 r x)) k := by
  rw [Ideal.argReduce_eq_reduce2, Host.reduce2_eq_foldl_fiber, hx, hy]
  exact fold_first _ _ (mem_fiber d h r)

theorem infinity_word : constant (F := Ideal) S_ .f32 0x7F800000#32 (Shape.Idx.first h_S_) = (⊤ : EReal) := by
  show Ideal.ofBits .f32 0x7F800000#32 = ⊤
  simp [Ideal.ofBits, Ideal.ieee]

/-- The reference's indices as the fold over all rows. -/
theorem first_fold {F : FTy → Type} [FloatOps F] (d : Vec F S18432x1024 .f32) :
    first (F := F) d = fun j => (Host.argReduce reducer_argmin_f32_i32 d (iotaInDim S18432x1024 32 1)
      (constant S_ .f32 0x7F800000#32) (constantI S_ 32 0#32) reducesTo_S18432x1024_S18432_d1 h_S_ j).2 := rfl

theorem first_at (d : S18432x1024.Idx → EReal) (r : Fin 18432) :
    ∃ k : Fin 1024, (Host.argReduce (F := Ideal) (φ := .f32) reducer_argmin_f32_i32 d (iotaInDim S18432x1024 32 1) (constant (F := Ideal) S_ .f32 0x7F800000#32) (constantI S_ 32 0#32) reducesTo_S18432x1024_S18432_d1 h_S_ (ix1 r)).2 = BitVec.ofNat 32 k.val ∧ First (fun x => d (ix2 r x)) k :=
  row_first d reducesTo_S18432x1024_S18432_d1 r _ _ h_S_ infinity_word rfl

/-- The reference's index of row `r` is the first smallest distance. -/
theorem first_eq (d : Vec Ideal S18432x1024 .f32) (r : Fin 18432) :
    ∃ k : Fin 1024, first (F := Ideal) d (ix1 r) = BitVec.ofNat 32 k.val ∧ First (fun x => d (ix2 r x)) k := by
  obtain ⟨k, h1, h2⟩ := first_at d r
  exact ⟨k, (congrFun (first_fold (F := Ideal) d) (ix1 r)).trans h1, h2⟩

/-- The reference's distance is the kernel's. -/
theorem dists_apply (f : Vec Ideal S18432x64 .f32) (e : Vec Ideal S1024x64 .f32) (r : Fin 18432) (x : Fin 1024) :
    dists (F := Ideal) f e (ix2 r x) = dist (fun k => f (ix2 r k)) (fun x k => e (ix2 x k)) x := by
  unfold Cert.Math.dist
  rw [two_sum]
  pointwise [dists]

end Cert.ReferenceIdeal.Val
-- ==== Proof.Arr3.lean ====
module

public import proofs.«01_k».proof.Proof.Quad
public import proofs.«01_k».proof.Proof.Near

/-!
# What region 3 leaves in its output arrays: the nearest codebook indices and rows
-/

@[expose] public section

set_option maxRecDepth 16384

noncomputable section

namespace Cert.KernelIdeal.Val

open Cert.KernelIdeal Cert.KernelIdeal.Gen Cert.Math Idealize.ShloMosaic Idealize.ShloMosaic.TcCoe Idealize.SL.Sem
open Idealize.ShloMosaic.Pipeline (Dat)

/-- A tile's index output. -/
theorem pay3_2 (x0 : Vec Ideal S512x64 .f32) (x1 : Vec Ideal S1024x64 .f32) (h : Fin 512) :
    out3_2 x0 x1 (ix3 0 0 h) = near (fun k => x0 (ix2 h k)) (fun x k => x1 (ix2 x k)) := by
  unfold out3_2
  frame_out
  pointwise [k3_pay1, k3_pay2, near, Cert.Math.dist]

/-- A tile's row output. -/
theorem pay3_3 (x0 : Vec Ideal S512x64 .f32) (x1 : Vec Ideal S1024x64 .f32) (h : Fin 512) (d : Fin 64) :
    out3_3 x0 x1 (ix2 h d) = pick (fun k => x0 (ix2 h k)) (fun x k => x1 (ix2 x k)) d := by
  unfold out3_3
  frame_out
  pointwise [k3_pay1, k3_pay3, pick, near, Cert.Math.dist]

/-- The indices of the whole array. -/
def G3_2 (f : S18432x64.Idx → EReal) (e : S1024x64.Idx → EReal) : S36x1x512.Idx → BitVec 32 := fun i =>
  have h0 : (i 0).val < 36 := (i 0).isLt
  have h2 : (i 2).val < 512 := (i 2).isLt
  near (fun k => f (ix2 ⟨(i 0).val * 512 + (i 2).val, by omega⟩ k)) (fun x k => e (ix2 x k))

/-- The rows of the whole array. -/
def G3_3 (f : S18432x64.Idx → EReal) (e : S1024x64.Idx → EReal) : S18432x64.Idx → EReal := fun i =>
  pick (fun k => f (ix2 (i 0) k)) (fun x k => e (ix2 x k)) (i 1)

variable (V : (c : Dev nD) → (b : Ref sig .tc) → Buf (Elt Ideal) ((c : Thread nD τ).loc b)) (c : Dev nD)

/-- Where each window of grid point `t` lies. -/
theorem idx3 : ∀ t : Fin grid3.N, win3_2.index t = ![t.val, 0, 0] ∧ win3_3.index t = ![t.val, 0]
    ∧ win3_0.index t = ![t.val, 0] ∧ win3_1.index t = ![0, 0] := by
  decide +kernel

theorem lt3 (t : Fin grid3.N) : t.val < 36 := lt_of_lt_of_le t.isLt (by decide +kernel)

/-- The place of a tile's index in the output array. -/
theorem emb3_2 (t : Fin grid3.N) (a b : Fin 1) (h : Fin 512) :
    (win3_2.blk t).1.emb (ix3 a b h) = ix3 ⟨t.val, lt3 t⟩ b h := by
  obtain ⟨e2, e3, e0, e1⟩ := idx3 t
  funext d
  apply Fin.ext
  refine (win3_2.rect_emb_val_off t _ d).trans ?_
  rw [e2]
  match d with
  | ⟨0, _⟩ => show t.val * 1 + a.val = t.val; omega
  | ⟨1, _⟩ => show 0 * 1 + b.val = b.val; omega
  | ⟨2, _⟩ => show 0 * 512 + h.val = h.val; omega

/-- The place of a tile's row element in the output array. -/
theorem emb3_3 (t : Fin grid3.N) (h : Fin 512) (k : Fin 64) :
    (win3_3.blk t).1.emb (ix2 h k) = ix2 ⟨t.val * 512 + h, by have := lt3 t; omega⟩ k := by
  obtain ⟨e2, e3, e0, e1⟩ := idx3 t
  funext d
  apply Fin.ext
  refine (win3_3.rect_emb_val_off t _ d).trans ?_
  rw [e3]
  match d with
  | ⟨0, _⟩ => show t.val * 512 + h.val = t.val * 512 + h.val; rfl
  | ⟨1, _⟩ => show 0 * 64 + k.val = k.val; omega

/-- What the input window holds. -/
theorem blk3_0 (t : Fin grid3.N) (h : Fin 512) (k : Fin 64) :
    iblk3 V c 0 t (ix2 h k) = V c main_v35 (ix2 ⟨t.val * 512 + h, by have := lt3 t; omega⟩ k) := by
  obtain ⟨e2, e3, e0, e1⟩ := idx3 t
  refine congrArg (V c main_v35) ?_
  funext d
  apply Fin.ext
  refine (win3_0.rect_emb_val_off t _ d).trans ?_
  rw [e0]
  match d with
  | ⟨0, _⟩ => show t.val * 512 + h.val = t.val * 512 + h.val; rfl
  | ⟨1, _⟩ => show 0 * 64 + k.val = k.val; omega

/-- What the codebook window holds. -/
theorem blk3_1 (t : Fin grid3.N) (x : Fin 1024) (k : Fin 64) :
    iblk3 V c 1 t (ix2 x k) = V c main_arg13 (ix2 x k) := by
  obtain ⟨e2, e3, e0, e1⟩ := idx3 t
  refine congrArg (V c main_arg13) ?_
  funext d
  apply Fin.ext
  refine (win3_1.rect_emb_val_off t _ d).trans ?_
  rw [e1]
  match d with
  | ⟨0, _⟩ => show 0 * 1024 + x.val = x.val; omega
  | ⟨1, _⟩ => show 0 * 64 + k.val = k.val; omega

/-- Region 3 leaves the nearest indices. -/
theorem arr3_2 : (dat3 V c).arrAt 2 cfg3.N = G3_2 (V c main_v35) (V c main_arg13) := by
  refine (dat3 V c).arrAt_eq_of_covers 2 _ (by decide +kernel) fun t hf y => ?_
  blk_simp
  rw [after3_2]
  idx_vars y
  obtain rfl : y0 = 0 := Subsingleton.elim _ _
  obtain rfl : y1 = 0 := Subsingleton.elim _ _
  rw [pay3_2]
  refine Eq.trans ?_ (congrArg (G3_2 (V c main_v35) (V c main_arg13)) (emb3_2 t 0 0 y2)).symm
  exact congrArg₂ near (funext fun k => blk3_0 V c t y2 k) (funext fun x => funext fun k => blk3_1 V c t x k)

/-- Region 3 leaves the nearest rows. -/
theorem arr3_3 : (dat3 V c).arrAt 3 cfg3.N = G3_3 (V c main_v35) (V c main_arg13) := by
  refine (dat3 V c).arrAt_eq_of_covers 3 _ (by decide +kernel) fun t hf y => ?_
  blk_simp
  rw [after3_3]
  idx_vars y
  rw [pay3_3]
  refine Eq.trans ?_ (congrArg (G3_3 (V c main_v35) (V c main_arg13)) (emb3_3 t y0 y1)).symm
  exact congrArg₂ (fun f e => pick f e y1) (funext fun k => blk3_0 V c t y0 k) (funext fun x => funext fun k => blk3_1 V c t x k)

end Cert.KernelIdeal.Val
-- ==== Proof.Quant.lean ====
module

public import proofs.«01_k».proof.Proof.Argmin
public import proofs.«01_k».proof.Proof.Taps
public import proofs.«01_k».proof.Proof.HostDeconv
public import proofs.«01_k».proof.Proof.Arr3

/-!
# The codebook step of the kernel and of the reference agree
-/

@[expose] public section

set_option maxRecDepth 16384

noncomputable section

namespace Cert.KernelIdeal.Val

open Cert.KernelIdeal Cert.KernelIdeal.Gen Cert.Math Idealize.ShloMosaic Idealize.ShloMosaic.TcCoe

/-- The kernel's first place and the reference's agree on each row. -/
theorem first_dist (f : Vec Ideal S18432x64 .f32) (e : Vec Ideal S1024x64 .f32) (r : Fin 18432) :
    ∃ k : Fin 1024, Cert.ReferenceIdeal.Val.first (F := Ideal) (Cert.ReferenceIdeal.Val.dists f e) (ix1 r) = BitVec.ofNat 32 k.val
      ∧ First (Cert.Math.dist (fun k => f (ix2 r k)) (fun x k => e (ix2 x k))) k := by
  obtain ⟨k, h1, h2⟩ := Cert.ReferenceIdeal.Val.first_eq (Cert.ReferenceIdeal.Val.dists f e) r
  refine ⟨k, h1, ?_⟩
  rwa [show (fun x => Cert.ReferenceIdeal.Val.dists (F := Ideal) f e (ix2 r x)) = Cert.Math.dist (fun k => f (ix2 r k)) (fun x k => e (ix2 x k)) from
    funext fun x => Cert.ReferenceIdeal.Val.dists_apply f e r x] at h2

/-- The kernel's list of indices is the reference's. -/
theorem ids_eq (f : Vec Ideal S18432x64 .f32) (e : Vec Ideal S1024x64 .f32) :
    ids (F := Ideal) (G3_2 f e) = Cert.ReferenceIdeal.Val.first (F := Ideal) (Cert.ReferenceIdeal.Val.dists f e) := by
  funext j
  obtain ⟨r, rfl⟩ : ∃ r : Fin 18432, j = ix1 r := ⟨j 0, eq_ix1 j⟩
  obtain ⟨k, h1, h2⟩ := first_dist f e r
  rw [h1, ← near_eq _ _ k h2]
  have hr := r.isLt
  have : ids (F := Ideal) (G3_2 f e) (ix1 r) = G3_2 f e (ix3 ⟨r.val / 512, by omega⟩ 0 ⟨r.val % 512, by omega⟩) := by
    pointwise [ids]
  rw [this]
  unfold G3_2
  refine congrArg (near · _) (funext fun k => congrArg f (congrArg (ix2 · k) (Fin.ext ?_)))
  show r.val / 512 * 512 + r.val % 512 = r.val
  omega

/-- The reference's gathered row, at one entry. -/
theorem gathered (e : Vec Ideal S1024x64 .f32) (i : Vec Ideal S18432 .i32) (r : Fin 18432) (d : Fin 64) (k : Fin 1024)
    (hk : i (ix1 r) = BitVec.ofNat 32 k.val) :
    Host.gather Cert.ReferenceIdeal.gather_S1024x64_S18432x1_S18432x64_1_0_n_n_0_1_164 e
      (broadcastInDim Cert.ReferenceIdeal.S18432x1 ![0] Cert.ReferenceIdeal.Gen.bcast_S18432_S18432x1_0 i) (ix2 r d) = e (ix2 k d) := by
  refine gather_row _ rfl rfl rfl rfl rfl rfl rfl e _ r d k ?_
  have hb : broadcastInDim Cert.ReferenceIdeal.S18432x1 ![0] Cert.ReferenceIdeal.Gen.bcast_S18432_S18432x1_0 i (ix2 r 0) = i (ix1 r) := by
    pointwise []
  rw [hb, hk]
  exact toInt_small k.val (by omega)

/-- The picked rows are the gathered rows. -/
theorem picked (f : Vec Ideal S18432x64 .f32) (e : Vec Ideal S1024x64 .f32) :
    G3_3 f e = Host.gather Cert.ReferenceIdeal.gather_S1024x64_S18432x1_S18432x64_1_0_n_n_0_1_164 e
      (broadcastInDim Cert.ReferenceIdeal.S18432x1 ![0] Cert.ReferenceIdeal.Gen.bcast_S18432_S18432x1_0
        (Cert.ReferenceIdeal.Val.first (F := Ideal) (Cert.ReferenceIdeal.Val.dists f e))) := by
  funext j
  obtain ⟨r, d, rfl⟩ : ∃ (r : Fin 18432) (d : Fin 64), j = ix2 r d := ⟨j 0, j 1, eq_ix2 j⟩
  obtain ⟨k, h1, h2⟩ := first_dist f e r
  rw [gathered e _ r d k h1]
  exact pick_eq _ _ k h2 d

/-- The rows the kernel picks are the rows the reference gathers. -/
theorem rows_eq (f : Vec Ideal S18432x64 .f32) (e : Vec Ideal S1024x64 .f32) :
    zq (F := Ideal) (G3_3 f e)
      = Cert.ReferenceIdeal.Val.rows (F := Ideal) e (Cert.ReferenceIdeal.Val.first (F := Ideal) (Cert.ReferenceIdeal.Val.dists f e)) := by
  rw [picked]
  unfold zq Cert.ReferenceIdeal.Val.rows
  rfl

end Cert.KernelIdeal.Val
-- ==== Proof.Chain.lean ====
module

public import proofs.«01_k».proof.Proof.Agree
public import proofs.«01_k».proof.Proof.Quant
public import proofs.«01_k».proof.Proof.RefRun
public import proofs.«01_k».proof.Proof.Gen.KernelIdeal.Frame

/-!
# The kernel's buffers along its run

Each boundary's buffers, from the launch to the end, are the reference's layers of the launched
arguments: with channels last inside the kernel, and as the reference has them at the results.
-/

@[expose] public section

set_option maxRecDepth 16384

noncomputable section

namespace Cert.KernelIdeal.Val

open Cert.KernelIdeal Cert.KernelIdeal.Gen Cert.Math Idealize.ShloMosaic Idealize.ShloMosaic.TcCoe

variable (m : (ℓ : Loc nD τ sig) → Buf (Elt Ideal) ℓ) (ρ : Dev nD → PrngReg) (c : Dev nD)

/-! The reference's values at the kernel's arguments. -/

def z1 : Vec Ideal Cert.ReferenceIdeal.S8x128x192x192 .f32 := Cert.ReferenceIdeal.Val.conv1 (F := Ideal) (m ((c : Thread nD τ).loc main_arg0)) (m ((c : Thread nD τ).loc main_arg1)) (m ((c : Thread nD τ).loc main_arg2))
def z2 : Vec Ideal Cert.ReferenceIdeal.S8x256x96x96 .f32 := Cert.ReferenceIdeal.Val.conv2 (F := Ideal) (z1 m c) (m ((c : Thread nD τ).loc main_arg3)) (m ((c : Thread nD τ).loc main_arg4))
def z3 : Vec Ideal Cert.ReferenceIdeal.S8x64x48x48 .f32 := Cert.ReferenceIdeal.Val.conv3 (F := Ideal) (z2 m c) (m ((c : Thread nD τ).loc main_arg5)) (m ((c : Thread nD τ).loc main_arg6))
def zi : Vec Ideal Cert.ReferenceIdeal.S18432 .i32 := Cert.ReferenceIdeal.Val.first (F := Ideal) (Cert.ReferenceIdeal.Val.dists (F := Ideal) (Cert.ReferenceIdeal.Val.flat (F := Ideal) (z3 m c)) (m ((c : Thread nD τ).loc main_arg13)))
def z4 : Vec Ideal Cert.ReferenceIdeal.S8x64x48x48 .f32 := Cert.ReferenceIdeal.Val.rows (F := Ideal) (m ((c : Thread nD τ).loc main_arg13)) (zi m c)
def z5 : Vec Ideal Cert.ReferenceIdeal.S8x256x96x96 .f32 := Cert.ReferenceIdeal.Val.deconv1 (F := Ideal) (z4 m c) (m ((c : Thread nD τ).loc main_arg7)) (m ((c : Thread nD τ).loc main_arg8))
def z6 : Vec Ideal Cert.ReferenceIdeal.S8x128x192x192 .f32 := Cert.ReferenceIdeal.Val.deconv2 (F := Ideal) (z5 m c) (m ((c : Thread nD τ).loc main_arg9)) (m ((c : Thread nD τ).loc main_arg10))
def z7 : Vec Ideal Cert.ReferenceIdeal.S8x3x384x384 .f32 := Cert.ReferenceIdeal.Val.deconv3 (F := Ideal) (z6 m c) (m ((c : Thread nD τ).loc main_arg11)) (m ((c : Thread nD τ).loc main_arg12))

/-! The encoder. -/

theorem W4_v11 : W4 m ρ c (Proc.devRef .tc main_v11) = G0 (cs1 (F := Ideal) (cp1 (m ((c : Thread nD τ).loc main_arg0)))) (cw1 (F := Ideal) (m ((c : Thread nD τ).loc main_arg1))) (cb1 (F := Ideal) (m ((c : Thread nD τ).loc main_arg2))) := by
  have hx : V3 m ρ c main_v6 = cs1 (F := Ideal) (cp1 (m ((c : Thread nD τ).loc main_arg0))) := cx1_val (W0 m ρ c)
  have hw : V3 m ρ c main_v9 = cw1 (F := Ideal) (m ((c : Thread nD τ).loc main_arg1)) :=
    (cw1_val (W0 m ρ c)).trans (congrArg (cw1 (F := Ideal)) (W0_args m ρ c main_arg1 (by decide)))
  have hb : V3 m ρ c main_v10 = cb1 (F := Ideal) (m ((c : Thread nD τ).loc main_arg2)) :=
    (cb1_val (W0 m ρ c)).trans (congrArg (cb1 (F := Ideal)) (W0_args m ρ c main_arg2 (by decide)))
  refine (W4_arr m ρ c 3).trans ((arr0 (V3 m ρ) c).trans ?_)
  rw [hx, hw, hb]

theorem W4_v11_at (n : Fin 8) (i j : Fin 192) (o : Fin 128) :
    (W4 m ρ c (Proc.devRef .tc main_v11) : S8x192x192x128.Idx → EReal) (ix4 n i j o) = z1 m c (ix4 n o i j) :=
  (congrFun (W4_v11 m ρ c) (ix4 n i j o)).trans (conv1_agree (m ((c : Thread nD τ).loc main_arg0)) (m ((c : Thread nD τ).loc main_arg1)) (m ((c : Thread nD τ).loc main_arg2)) n i j o)

theorem W8_v22 : W8 m ρ c (Proc.devRef .tc main_v22) = G1 (cs2 (F := Ideal) (cp2 (W4 m ρ c (Proc.devRef .tc main_v11)))) (cw2 (F := Ideal) (m ((c : Thread nD τ).loc main_arg3))) (cb2 (F := Ideal) (m ((c : Thread nD τ).loc main_arg4))) := by
  have hx : V7 m ρ c main_v17 = cs2 (F := Ideal) (cp2 (W4 m ρ c (Proc.devRef .tc main_v11))) := cx2_val (W4 m ρ c)
  have hw : V7 m ρ c main_v20 = cw2 (F := Ideal) (m ((c : Thread nD τ).loc main_arg3)) :=
    (cw2_val (W4 m ρ c)).trans (congrArg (cw2 (F := Ideal)) (W4_args m ρ c main_arg3 (by decide)))
  have hb : V7 m ρ c main_v21 = cb2 (F := Ideal) (m ((c : Thread nD τ).loc main_arg4)) :=
    (cb2_val (W4 m ρ c)).trans (congrArg (cb2 (F := Ideal)) (W4_args m ρ c main_arg4 (by decide)))
  refine (W8_arr m ρ c 3).trans ((arr1 (V7 m ρ) c).trans ?_)
  rw [hx, hw, hb]

theorem W8_v22_at (n : Fin 8) (i j : Fin 96) (o : Fin 256) :
    (W8 m ρ c (Proc.devRef .tc main_v22) : S8x96x96x256.Idx → EReal) (ix4 n i j o) = z2 m c (ix4 n o i j) :=
  (congrFun (W8_v22 m ρ c) (ix4 n i j o)).trans (conv2_agree _ (z1 m c) (W4_v11_at m ρ c) (m ((c : Thread nD τ).loc main_arg3)) (m ((c : Thread nD τ).loc main_arg4)) n i j o)

theorem W12_v33 : W12 m ρ c (Proc.devRef .tc main_v33) = G2 (cs3 (F := Ideal) (cp3 (W8 m ρ c (Proc.devRef .tc main_v22)))) (cw3 (F := Ideal) (m ((c : Thread nD τ).loc main_arg5))) (cb3 (F := Ideal) (m ((c : Thread nD τ).loc main_arg6))) := by
  have hx : V11 m ρ c main_v28 = cs3 (F := Ideal) (cp3 (W8 m ρ c (Proc.devRef .tc main_v22))) := cx3_val (W8 m ρ c)
  have hw : V11 m ρ c main_v31 = cw3 (F := Ideal) (m ((c : Thread nD τ).loc main_arg5)) :=
    (cw3_val (W8 m ρ c)).trans (congrArg (cw3 (F := Ideal)) (W8_args m ρ c main_arg5 (by decide)))
  have hb : V11 m ρ c main_v32 = cb3 (F := Ideal) (m ((c : Thread nD τ).loc main_arg6)) :=
    (cb3_val (W8 m ρ c)).trans (congrArg (cb3 (F := Ideal)) (W8_args m ρ c main_arg6 (by decide)))
  refine (W12_arr m ρ c 3).trans ((arr2 (V11 m ρ) c).trans ?_)
  rw [hx, hw, hb]

theorem W12_v33_at (n : Fin 8) (i j : Fin 48) (o : Fin 64) :
    (W12 m ρ c (Proc.devRef .tc main_v33) : S8x48x48x64.Idx → EReal) (ix4 n i j o) = z3 m c (ix4 n o i j) :=
  (congrFun (W12_v33 m ρ c) (ix4 n i j o)).trans (conv3_agree _ (z2 m c) (W8_v22_at m ρ c) (m ((c : Thread nD τ).loc main_arg5)) (m ((c : Thread nD τ).loc main_arg6)) n i j o)

/-- The encoded image. -/
theorem zf_eq : zf (F := Ideal) (W12 m ρ c (Proc.devRef .tc main_v33)) = z3 m c := by
  funext j
  obtain ⟨n, o, i, k, rfl⟩ : ∃ (n : Fin 8) (o : Fin 64) (i k : Fin 48), j = ix4 n o i k := ⟨j 0, j 1, j 2, j 3, eq_ix4 j⟩
  exact (zf_apply _ n o i k).trans (W12_v33_at m ρ c n i k o)

theorem W13_v34 : W13 m ρ c (Proc.devRef .tc main_v34) = z3 m c := (zf_val (W12 m ρ c)).trans (zf_eq m ρ c)

theorem W13_v35 : V13 m ρ c main_v35 = fl (F := Ideal) (z3 m c) :=
  (fl_val (W12 m ρ c)).trans (congrArg (fl (F := Ideal)) (zf_eq m ρ c))

/-! The codebook. -/

theorem W14_v36_0 : W14 m ρ c (Proc.devRef .tc main_v36_0) = G3_2 (fl (F := Ideal) (z3 m c)) (m ((c : Thread nD τ).loc main_arg13)) := by
  have he : V13 m ρ c main_arg13 = (m ((c : Thread nD τ).loc main_arg13)) := W13_args m ρ c main_arg13 (by decide)
  refine (W14_arr m ρ c 2).trans ((arr3_2 (V13 m ρ) c).trans ?_)
  rw [W13_v35, he]

theorem W14_v36_1 : W14 m ρ c (Proc.devRef .tc main_v36_1) = G3_3 (fl (F := Ideal) (z3 m c)) (m ((c : Thread nD τ).loc main_arg13)) := by
  have he : V13 m ρ c main_arg13 = (m ((c : Thread nD τ).loc main_arg13)) := W13_args m ρ c main_arg13 (by decide)
  refine (W14_arr m ρ c 3).trans ((arr3_3 (V13 m ρ) c).trans ?_)
  rw [W13_v35, he]

theorem ids_zi : ids (F := Ideal) (G3_2 (fl (F := Ideal) (z3 m c)) (m ((c : Thread nD τ).loc main_arg13))) = zi m c :=
  ids_eq (fl (F := Ideal) (z3 m c)) (m ((c : Thread nD τ).loc main_arg13))

theorem zq_z4 : zq (F := Ideal) (G3_3 (fl (F := Ideal) (z3 m c)) (m ((c : Thread nD τ).loc main_arg13))) = z4 m c :=
  rows_eq (fl (F := Ideal) (z3 m c)) (m ((c : Thread nD τ).loc main_arg13))

theorem W15_v37 : W15 m ρ c (Proc.devRef .tc main_v37) = zi m c :=
  (idx_val (W14 m ρ c)).trans ((congrArg (ids (F := Ideal)) (W14_v36_0 m ρ c)).trans (ids_zi m c))

theorem zq_eq : zq (F := Ideal) (W14 m ρ c (Proc.devRef .tc main_v36_1)) = z4 m c :=
  (congrArg (zq (F := Ideal)) (W14_v36_1 m ρ c)).trans (zq_z4 m c)

theorem W15_v38 : W15 m ρ c (Proc.devRef .tc main_v38) = z4 m c := (zq_val (W14 m ρ c)).trans (zq_eq m ρ c)

theorem zl_at (n : Fin 8) (i j : Fin 48) (o : Fin 64) : zl (F := Ideal) (zq (F := Ideal) (W14 m ρ c (Proc.devRef .tc main_v36_1))) (ix4 n i j o) = z4 m c (ix4 n o i j) := by
  rw [zq_eq]
  exact zl_apply (z4 m c) n o i j

/-! The tables of tap positions, kept until each is used. -/

theorem W14_c : W14 m ρ c (Proc.devRef .tc main_c) = taps :=
  ((W14_of m ρ c main_c (by decide)).trans ((W13_of m ρ c main_c (by decide)).trans ((W12_of m ρ c main_c (by decide)).trans ((W11_of m ρ c main_c (by decide)).trans ((W10_of m ρ c main_c (by decide)).trans ((W9_of m ρ c main_c (by decide)).trans ((W8_of m ρ c main_c (by decide)).trans ((W7_of m ρ c main_c (by decide)).trans ((W6_of m ρ c main_c (by decide)).trans ((W5_of m ρ c main_c (by decide)).trans ((W4_of m ρ c main_c (by decide)).trans ((W3_of m ρ c main_c (by decide)).trans (W2_of m ρ c main_c (by decide)))))))))))))).trans (lit0_val (W0 m ρ c))

theorem W18_c_0 : W18 m ρ c (Proc.devRef .tc main_c_0) = taps :=
  ((W18_of m ρ c main_c_0 (by decide)).trans ((W17_of m ρ c main_c_0 (by decide)).trans ((W16_of m ρ c main_c_0 (by decide)).trans ((W15_of m ρ c main_c_0 (by decide)).trans ((W14_of m ρ c main_c_0 (by decide)).trans ((W13_of m ρ c main_c_0 (by decide)).trans ((W12_of m ρ c main_c_0 (by decide)).trans ((W11_of m ρ c main_c_0 (by decide)).trans ((W10_of m ρ c main_c_0 (by decide)).trans ((W9_of m ρ c main_c_0 (by decide)).trans ((W8_of m ρ c main_c_0 (by decide)).trans ((W7_of m ρ c main_c_0 (by decide)).trans ((W6_of m ρ c main_c_0 (by decide)).trans ((W5_of m ρ c main_c_0 (by decide)).trans ((W4_of m ρ c main_c_0 (by decide)).trans ((W3_of m ρ c main_c_0 (by decide)).trans (W2_of m ρ c main_c_0 (by decide)))))))))))))))))).trans (lit1_val (W0 m ρ c))

theorem W22_c_1 : W22 m ρ c (Proc.devRef .tc main_c_1) = taps :=
  ((W22_of m ρ c main_c_1 (by decide)).trans ((W21_of m ρ c main_c_1 (by decide)).trans ((W20_of m ρ c main_c_1 (by decide)).trans ((W19_of m ρ c main_c_1 (by decide)).trans ((W18_of m ρ c main_c_1 (by decide)).trans ((W17_of m ρ c main_c_1 (by decide)).trans ((W16_of m ρ c main_c_1 (by decide)).trans ((W15_of m ρ c main_c_1 (by decide)).trans ((W14_of m ρ c main_c_1 (by decide)).trans ((W13_of m ρ c main_c_1 (by decide)).trans ((W12_of m ρ c main_c_1 (by decide)).trans ((W11_of m ρ c main_c_1 (by decide)).trans ((W10_of m ρ c main_c_1 (by decide)).trans ((W9_of m ρ c main_c_1 (by decide)).trans ((W8_of m ρ c main_c_1 (by decide)).trans ((W7_of m ρ c main_c_1 (by decide)).trans ((W6_of m ρ c main_c_1 (by decide)).trans ((W5_of m ρ c main_c_1 (by decide)).trans ((W4_of m ρ c main_c_1 (by decide)).trans ((W3_of m ρ c main_c_1 (by decide)).trans (W2_of m ρ c main_c_1 (by decide)))))))))))))))))))))).trans (lit2_val (W0 m ρ c))

/-! The decoder. -/

theorem W18_v65 : W18 m ρ c (Proc.devRef .tc main_v65) = G4 (dp1 (F := Ideal) (zl (F := Ideal) (zq (F := Ideal) (W14 m ρ c (Proc.devRef .tc main_v36_1))))) (dw1 (F := Ideal) (dg1 (m ((c : Thread nD τ).loc main_arg7)) taps)) (db1 (F := Ideal) (m ((c : Thread nD τ).loc main_arg8))) := by
  have hx : V17 m ρ c main_v40 = dp1 (F := Ideal) (zl (F := Ideal) (zq (F := Ideal) (W14 m ρ c (Proc.devRef .tc main_v36_1)))) := dx1_val (W14 m ρ c)
  have hw : V17 m ρ c main_v60 = dw1 (F := Ideal) (dg1 (m ((c : Thread nD τ).loc main_arg7)) taps) :=
    (dw1_val (W14 m ρ c)).trans (congrArg (dw1 (F := Ideal)) (congrArg₂ (dg1 (F := Ideal)) (W14_args m ρ c main_arg7 (by decide)) (W14_c m ρ c)))
  have hb : V17 m ρ c main_v64 = db1 (F := Ideal) (m ((c : Thread nD τ).loc main_arg8)) :=
    (db1_val (W14 m ρ c)).trans (congrArg (db1 (F := Ideal)) (W14_args m ρ c main_arg8 (by decide)))
  refine (W18_arr m ρ c 3).trans ((arr4 (V17 m ρ) c).trans ?_)
  rw [hx, hw, hb]

theorem W18_v65_at (n : Fin 8) (i j : Fin 96) (o : Fin 256) :
    (W18 m ρ c (Proc.devRef .tc main_v65) : S8x96x96x256.Idx → EReal) (ix4 n i j o) = z5 m c (ix4 n o i j) :=
  (congrFun (W18_v65 m ρ c) (ix4 n i j o)).trans (deconv1_agree _ (z4 m c) (zl_at m ρ c) (m ((c : Thread nD τ).loc main_arg7)) (m ((c : Thread nD τ).loc main_arg8)) n i j o)

theorem W22_v91 : W22 m ρ c (Proc.devRef .tc main_v91) = G5 (dp2 (F := Ideal) (W18 m ρ c (Proc.devRef .tc main_v65))) (dw2 (F := Ideal) (dg2 (m ((c : Thread nD τ).loc main_arg9)) taps)) (db2 (F := Ideal) (m ((c : Thread nD τ).loc main_arg10))) := by
  have hx : V21 m ρ c main_v66 = dp2 (F := Ideal) (W18 m ρ c (Proc.devRef .tc main_v65)) := dx2_val (W18 m ρ c)
  have hw : V21 m ρ c main_v86 = dw2 (F := Ideal) (dg2 (m ((c : Thread nD τ).loc main_arg9)) taps) :=
    (dw2_val (W18 m ρ c)).trans (congrArg (dw2 (F := Ideal)) (congrArg₂ (dg2 (F := Ideal)) (W18_args m ρ c main_arg9 (by decide)) (W18_c_0 m ρ c)))
  have hb : V21 m ρ c main_v90 = db2 (F := Ideal) (m ((c : Thread nD τ).loc main_arg10)) :=
    (db2_val (W18 m ρ c)).trans (congrArg (db2 (F := Ideal)) (W18_args m ρ c main_arg10 (by decide)))
  refine (W22_arr m ρ c 3).trans ((arr5 (V21 m ρ) c).trans ?_)
  rw [hx, hw, hb]

theorem W22_v91_at (n : Fin 8) (i j : Fin 192) (o : Fin 128) :
    (W22 m ρ c (Proc.devRef .tc main_v91) : S8x192x192x128.Idx → EReal) (ix4 n i j o) = z6 m c (ix4 n o i j) :=
  (congrFun (W22_v91 m ρ c) (ix4 n i j o)).trans (deconv2_agree _ (z5 m c) (W18_v65_at m ρ c) (m ((c : Thread nD τ).loc main_arg9)) (m ((c : Thread nD τ).loc main_arg10)) n i j o)

theorem W26_v117 : W26 m ρ c (Proc.devRef .tc main_v117) = G6 (dp3 (F := Ideal) (W22 m ρ c (Proc.devRef .tc main_v91))) (dw3 (F := Ideal) (dg3 (m ((c : Thread nD τ).loc main_arg11)) taps)) (db3 (F := Ideal) (m ((c : Thread nD τ).loc main_arg12))) := by
  have hx : V25 m ρ c main_v92 = dp3 (F := Ideal) (W22 m ρ c (Proc.devRef .tc main_v91)) := dx3_val (W22 m ρ c)
  have hw : V25 m ρ c main_v112 = dw3 (F := Ideal) (dg3 (m ((c : Thread nD τ).loc main_arg11)) taps) :=
    (dw3_val (W22 m ρ c)).trans (congrArg (dw3 (F := Ideal)) (congrArg₂ (dg3 (F := Ideal)) (W22_args m ρ c main_arg11 (by decide)) (W22_c_1 m ρ c)))
  have hb : V25 m ρ c main_v116 = db3 (F := Ideal) (m ((c : Thread nD τ).loc main_arg12)) :=
    (db3_val (W22 m ρ c)).trans (congrArg (db3 (F := Ideal)) (W22_args m ρ c main_arg12 (by decide)))
  refine (W26_arr m ρ c 3).trans ((arr6 (V25 m ρ) c).trans ?_)
  rw [hx, hw, hb]

/-! The four results at the end. -/

theorem out_eq : outi (F := Ideal) (outs (outc (W26 m ρ c (Proc.devRef .tc main_v117)))) = z7 m c := by
  rw [W26_v117]
  funext j
  obtain ⟨n, o, i, k, rfl⟩ : ∃ (n : Fin 8) (o : Fin 3) (i k : Fin 384), j = ix4 n o i k := ⟨j 0, j 1, j 2, j 3, eq_ix4 j⟩
  exact deconv3_agree _ (z6 m c) (W22_v91_at m ρ c) (m ((c : Thread nD τ).loc main_arg11)) (m ((c : Thread nD τ).loc main_arg12)) n i k o

theorem W27_v137 : W27 m ρ c (Proc.devRef .tc main_v137) = z7 m c := (out_val (W26 m ρ c)).trans (out_eq m ρ c)

theorem W27_v34 : W27 m ρ c (Proc.devRef .tc main_v34) = z3 m c :=
  ((W27_of m ρ c main_v34 (by decide)).trans ((W26_of m ρ c main_v34 (by decide)).trans ((W25_of m ρ c main_v34 (by decide)).trans ((W24_of m ρ c main_v34 (by decide)).trans ((W23_of m ρ c main_v34 (by decide)).trans ((W22_of m ρ c main_v34 (by decide)).trans ((W21_of m ρ c main_v34 (by decide)).trans ((W20_of m ρ c main_v34 (by decide)).trans ((W19_of m ρ c main_v34 (by decide)).trans ((W18_of m ρ c main_v34 (by decide)).trans ((W17_of m ρ c main_v34 (by decide)).trans ((W16_of m ρ c main_v34 (by decide)).trans ((W15_of m ρ c main_v34 (by decide)).trans (W14_of m ρ c main_v34 (by decide))))))))))))))).trans (W13_v34 m ρ c)

theorem W27_v37 : W27 m ρ c (Proc.devRef .tc main_v37) = zi m c :=
  ((W27_of m ρ c main_v37 (by decide)).trans ((W26_of m ρ c main_v37 (by decide)).trans ((W25_of m ρ c main_v37 (by decide)).trans ((W24_of m ρ c main_v37 (by decide)).trans ((W23_of m ρ c main_v37 (by decide)).trans ((W22_of m ρ c main_v37 (by decide)).trans ((W21_of m ρ c main_v37 (by decide)).trans ((W20_of m ρ c main_v37 (by decide)).trans ((W19_of m ρ c main_v37 (by decide)).trans ((W18_of m ρ c main_v37 (by decide)).trans ((W17_of m ρ c main_v37 (by decide)).trans (W16_of m ρ c main_v37 (by decide))))))))))))).trans (W15_v37 m ρ c)

theorem W27_v38 : W27 m ρ c (Proc.devRef .tc main_v38) = z4 m c :=
  ((W27_of m ρ c main_v38 (by decide)).trans ((W26_of m ρ c main_v38 (by decide)).trans ((W25_of m ρ c main_v38 (by decide)).trans ((W24_of m ρ c main_v38 (by decide)).trans ((W23_of m ρ c main_v38 (by decide)).trans ((W22_of m ρ c main_v38 (by decide)).trans ((W21_of m ρ c main_v38 (by decide)).trans ((W20_of m ρ c main_v38 (by decide)).trans ((W19_of m ρ c main_v38 (by decide)).trans ((W18_of m ρ c main_v38 (by decide)).trans ((W17_of m ρ c main_v38 (by decide)).trans (W16_of m ρ c main_v38 (by decide))))))))))))).trans (W15_v38 m ρ c)

end Cert.KernelIdeal.Val
-- ==== Proof.Same.lean ====
module

public import proofs.«01_k».proof.Proof.Chain
public import proofs.«01_k».proof.Proof.RefRun

/-!
# Equal arguments give equal results

The two programs' arguments paired by position, each pair compared as one array, and the
reference's four functions of them.
-/

@[expose] public section

set_option maxRecDepth 16384

noncomputable section

namespace Cert.Proof

open Idealize.ShloMosaic Idealize.SL.Sem

/-- The reference's memory `m'` holds the kernel's arguments on device `c`. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  @Eq (Vec Ideal Cert.ReferenceIdeal.S8x3x384x384 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
    ∧ @Eq (Vec Ideal Cert.ReferenceIdeal.S128x3x4x4 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
    ∧ @Eq (Vec Ideal Cert.ReferenceIdeal.S128 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
    ∧ @Eq (Vec Ideal Cert.ReferenceIdeal.S256x128x4x4 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
    ∧ @Eq (Vec Ideal Cert.ReferenceIdeal.S256 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
    ∧ @Eq (Vec Ideal Cert.ReferenceIdeal.S64x256x4x4 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
    ∧ @Eq (Vec Ideal Cert.ReferenceIdeal.S64 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
    ∧ @Eq (Vec Ideal Cert.ReferenceIdeal.S64x256x4x4 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
    ∧ @Eq (Vec Ideal Cert.ReferenceIdeal.S256 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
    ∧ @Eq (Vec Ideal Cert.ReferenceIdeal.S256x128x4x4 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
    ∧ @Eq (Vec Ideal Cert.ReferenceIdeal.S128 .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
    ∧ @Eq (Vec Ideal Cert.ReferenceIdeal.S128x3x4x4 .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
    ∧ @Eq (Vec Ideal Cert.ReferenceIdeal.S3 .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
    ∧ @Eq (Vec Ideal Cert.ReferenceIdeal.S1024x64 .f32) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))

/-- From equal arguments the reference's four functions are the kernel's. -/
theorem same_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : SameArgs m m' c) :
    Cert.ReferenceIdeal.Val.r7 (F := Ideal) (StableHlo.launchContents m' c) = Cert.KernelIdeal.Val.z7 m c ∧ Cert.ReferenceIdeal.Val.r3 (F := Ideal) (StableHlo.launchContents m' c) = Cert.KernelIdeal.Val.z3 m c
      ∧ Cert.ReferenceIdeal.Val.r4 (F := Ideal) (StableHlo.launchContents m' c) = Cert.KernelIdeal.Val.z4 m c ∧ Cert.ReferenceIdeal.Val.rIdx (F := Ideal) (StableHlo.launchContents m' c) = Cert.KernelIdeal.Val.zi m c := by
  obtain ⟨h0, h1, h2, h3, h4, h5, h6, h7, h8, h9, h10, h11, h12, h13⟩ := h
  have e_r1 : Cert.ReferenceIdeal.Val.r1 (F := Ideal) (StableHlo.launchContents m' c) = Cert.KernelIdeal.Val.z1 m c := by
    exact congr (congr (congrArg (Cert.ReferenceIdeal.Val.conv1 (F := Ideal)) h0) h1) h2
  have e_r2 : Cert.ReferenceIdeal.Val.r2 (F := Ideal) (StableHlo.launchContents m' c) = Cert.KernelIdeal.Val.z2 m c := by
    exact congr (congr (congrArg (Cert.ReferenceIdeal.Val.conv2 (F := Ideal)) e_r1) h3) h4
  have e_r3 : Cert.ReferenceIdeal.Val.r3 (F := Ideal) (StableHlo.launchContents m' c) = Cert.KernelIdeal.Val.z3 m c := by
    exact congr (congr (congrArg (Cert.ReferenceIdeal.Val.conv3 (F := Ideal)) e_r2) h5) h6
  have e_rIdx : Cert.ReferenceIdeal.Val.rIdx (F := Ideal) (StableHlo.launchContents m' c) = Cert.KernelIdeal.Val.zi m c := by
    exact congrArg (Cert.ReferenceIdeal.Val.first (F := Ideal)) (congr (congrArg (fun z => Cert.ReferenceIdeal.Val.dists (F := Ideal) (Cert.ReferenceIdeal.Val.flat (F := Ideal) z)) e_r3) h13)
  have e_r4 : Cert.ReferenceIdeal.Val.r4 (F := Ideal) (StableHlo.launchContents m' c) = Cert.KernelIdeal.Val.z4 m c := by
    exact congr (congrArg (Cert.ReferenceIdeal.Val.rows (F := Ideal)) h13) e_rIdx
  have e_r5 : Cert.ReferenceIdeal.Val.r5 (F := Ideal) (StableHlo.launchContents m' c) = Cert.KernelIdeal.Val.z5 m c := by
    exact congr (congr (congrArg (Cert.ReferenceIdeal.Val.deconv1 (F := Ideal)) e_r4) h7) h8
  have e_r6 : Cert.ReferenceIdeal.Val.r6 (F := Ideal) (StableHlo.launchContents m' c) = Cert.KernelIdeal.Val.z6 m c := by
    exact congr (congr (congrArg (Cert.ReferenceIdeal.Val.deconv2 (F := Ideal)) e_r5) h9) h10
  have e_r7 : Cert.ReferenceIdeal.Val.r7 (F := Ideal) (StableHlo.launchContents m' c) = Cert.KernelIdeal.Val.z7 m c := by
    exact congr (congr (congrArg (Cert.ReferenceIdeal.Val.deconv3 (F := Ideal)) e_r6) h11) h12
  exact ⟨e_r7, e_r3, e_r4, e_rIdx⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KRun
public import proofs.«01_k».proof.Proof.Chain
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's arguments end unchanged and its counters at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems (by decide) r.2⟩)
    (Cert.ReferenceIdeal.Val.run (F := Ideal) m g)

/-- The kernel and the reference end with equal results. -/
theorem equal_results : Cert.algebraic_KernelIdeal_ReferenceIdeal (hKernelIdeal := Cert.KernelIdeal.Gen.facts)
    (hReferenceIdeal := Cert.ReferenceIdeal.Gen.facts) := fun m g m' g' _ (hm : ∀ c, SameArgs m m' c) => by
  refine ⟨Cert.KernelIdeal.Val.z7 m, Cert.KernelIdeal.Val.z3 m, Cert.KernelIdeal.Val.z4 m, Cert.KernelIdeal.Val.zi m, ?_, ?_⟩
  · refine (θ_run Cert.KernelIdeal.defs _ _).mono (fun r h c => ?_) (Cert.KernelIdeal.Val.run (F := Ideal) m g)
    obtain ⟨k0, k1, k2, k3, ka⟩ := h c
    exact ⟨k0.trans (Cert.KernelIdeal.Val.W27_v137 m g c), k1.trans (Cert.KernelIdeal.Val.W27_v34 m g c), k2.trans (Cert.KernelIdeal.Val.W27_v38 m g c), k3.trans (Cert.KernelIdeal.Val.W27_v37 m g c), ka⟩
  · refine (θ_run Cert.ReferenceIdeal.defs _ _).mono (fun r h c => ?_) (Cert.ReferenceIdeal.Val.run (F := Ideal) m' g')
    obtain ⟨e0, e1, e2, e3⟩ := same_results m m' c (hm c)
    obtain ⟨k0, k1, k2, k3, ka⟩ := h c
    exact ⟨k0.trans e0, k1.trans e1, k2.trans e2, k3.trans e3, ka⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
